-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x50304 : Shape := ⟨3, ![6, 1024, 50304]⟩
abbrev S6x1024x131 : Shape := ⟨3, ![6, 1024, 131]⟩
abbrev S6x1024x2560 : Shape := ⟨3, ![6, 1024, 2560]⟩
abbrev S6x1024 : Shape := ⟨2, ![6, 1024]⟩
abbrev S6144x50304 : Shape := ⟨2, ![6144, 50304]⟩
abbrev S6144x131 : Shape := ⟨2, ![6144, 131]⟩
abbrev S131x6144 : Shape := ⟨2, ![131, 6144]⟩
abbrev S131x1x6144 : Shape := ⟨3, ![131, 1, 6144]⟩
abbrev S6144x2560 : Shape := ⟨2, ![6144, 2560]⟩
abbrev S6144x1 : Shape := ⟨2, ![6144, 1]⟩
abbrev S1536x4x2560 : Shape := ⟨3, ![1536, 4, 2560]⟩
abbrev S1536x1x2560 : Shape := ⟨3, ![1536, 1, 2560]⟩
abbrev S1536x2560 : Shape := ⟨2, ![1536, 2560]⟩
abbrev S_ : Shape := ⟨0, ![]⟩
abbrev S6144 : Shape := ⟨1, ![6144]⟩
abbrev S132 : Shape := ⟨1, ![132]⟩
abbrev S1x6144 : Shape := ⟨2, ![1, 6144]⟩
abbrev S132x1 : Shape := ⟨2, ![132, 1]⟩
abbrev S132x6144 : Shape := ⟨2, ![132, 6144]⟩
abbrev S50304x2560 : Shape := ⟨2, ![50304, 2560]⟩
abbrev S6144x384 : Shape := ⟨2, ![6144, 384]⟩
abbrev S1x1x6144 : Shape := ⟨3, ![1, 1, 6144]⟩
abbrev S384x2560 : Shape := ⟨2, ![384, 2560]⟩
abbrev S512x2560 : Shape := ⟨2, ![512, 2560]⟩
abbrev S384x6144 : Shape := ⟨2, ![384, 6144]⟩
abbrev S9240x128 : Shape := ⟨2, ![9240, 128]⟩
abbrev S32x2560 : Shape := ⟨2, ![32, 2560]⟩
abbrev S768x128 : Shape := ⟨2, ![768, 128]⟩
abbrev S512x1 : Shape := ⟨2, ![512, 1]⟩
abbrev S512x384 : Shape := ⟨2, ![512, 384]⟩
abbrev S384x512 : Shape := ⟨2, ![384, 512]⟩
abbrev S1x1x512 : Shape := ⟨3, ![1, 1, 512]⟩
abbrev S1x512 : Shape := ⟨2, ![1, 512]⟩
abbrev S1 : Shape := ⟨1, ![1]⟩
abbrev S1x2560 : Shape := ⟨2, ![1, 2560]⟩
abbrev S8x128 : Shape := ⟨2, ![8, 128]⟩
abbrev S24x128 : Shape := ⟨2, ![24, 128]⟩
abbrev S6144x512 : Shape := ⟨2, ![6144, 512]⟩
abbrev S192x128 : Shape := ⟨2, ![192, 128]⟩

abbrev nBuf : Space → Nat
  | .hbm => 59
  | .vmem => 13
  | .smem => 4
  | _ => 0

abbrev bufTy : (tb : Table) → Fin (tcTables nBuf tb) → BufTy
  | .hbm, ⟨0, _⟩ => ⟨S6x1024x50304, .fp8e5m2⟩
  | .hbm, ⟨1, _⟩ => ⟨S6x1024x131, .f32⟩
  | .hbm, ⟨2, _⟩ => ⟨S6x1024x2560, .fp8e4m3⟩
  | .hbm, ⟨3, _⟩ => ⟨S6x1024, .f32⟩
  | .hbm, ⟨4, _⟩ => ⟨S6x1024x2560, .i8⟩
  | .hbm, ⟨5, _⟩ => ⟨S6x1024, .f32⟩
  | .hbm, ⟨6, _⟩ => ⟨S6x1024, .i32⟩
  | .hbm, ⟨7, _⟩ => ⟨S6144x50304, .fp8e5m2⟩
  | .hbm, ⟨8, _⟩ => ⟨S6144x131, .f32⟩
  | .hbm, ⟨9, _⟩ => ⟨S131x6144, .f32⟩
  | .hbm, ⟨10, _⟩ => ⟨S131x1x6144, .f32⟩
  | .hbm, ⟨11, _⟩ => ⟨S6144x2560, .fp8e4m3⟩
  | .hbm, ⟨12, _⟩ => ⟨S6144x1, .f32⟩
  | .hbm, ⟨13, _⟩ => ⟨S1536x4x2560, .i8⟩
  | .hbm, ⟨14, _⟩ => ⟨S1536x4x2560, .i32⟩
  | .hbm, ⟨15, _⟩ => ⟨S1536x1x2560, .i32⟩
  | .hbm, ⟨16, _⟩ => ⟨S1536x2560, .i32⟩
  | .hbm, ⟨17, _⟩ => ⟨S1536x1x2560, .i32⟩
  | .hbm, ⟨18, _⟩ => ⟨S1536x2560, .i32⟩
  | .hbm, ⟨19, _⟩ => ⟨S_, .i32⟩
  | .hbm, ⟨20, _⟩ => ⟨S1536x2560, .i32⟩
  | .hbm, ⟨21, _⟩ => ⟨S1536x2560, .i32⟩
  | .hbm, ⟨22, _⟩ => ⟨S1536x2560, .i32⟩
  | .hbm, ⟨23, _⟩ => ⟨S1536x1x2560, .i32⟩
  | .hbm, ⟨24, _⟩ => ⟨S1536x2560, .i32⟩
  | .hbm, ⟨25, _⟩ => ⟨S_, .i32⟩
  | .hbm, ⟨26, _⟩ => ⟨S1536x2560, .i32⟩
  | .hbm, ⟨27, _⟩ => ⟨S1536x2560, .i32⟩
  | .hbm, ⟨28, _⟩ => ⟨S1536x2560, .i32⟩
  | .hbm, ⟨29, _⟩ => ⟨S1536x1x2560, .i32⟩
  | .hbm, ⟨30, _⟩ => ⟨S1536x2560, .i32⟩
  | .hbm, ⟨31, _⟩ => ⟨S_, .i32⟩
  | .hbm, ⟨32, _⟩ => ⟨S1536x2560, .i32⟩
  | .hbm, ⟨33, _⟩ => ⟨S1536x2560, .i32⟩
  | .hbm, ⟨34, _⟩ => ⟨S1536x2560, .i32⟩
  | .hbm, ⟨35, _⟩ => ⟨S6144, .f32⟩
  | .hbm, ⟨36, _⟩ => ⟨S6144, .i32⟩
  | .hbm, ⟨37, _⟩ => ⟨S6144, .i32⟩
  | .hbm, ⟨38, _⟩ => ⟨S6144, .i32⟩
  | .hbm, ⟨39, _⟩ => ⟨S_, .i32⟩
  | .hbm, ⟨40, _⟩ => ⟨S6144, .i32⟩
  | .hbm, ⟨41, _⟩ => ⟨S6144, .i1⟩
  | .hbm, ⟨42, _⟩ => ⟨S_, .i32⟩
  | .hbm, ⟨43, _⟩ => ⟨S6144, .i32⟩
  | .hbm, ⟨44, _⟩ => ⟨S6144, .i32⟩
  | .hbm, ⟨45, _⟩ => ⟨S6144, .i32⟩
  | .hbm, ⟨46, _⟩ => ⟨S6144x1, .i32⟩
  | .hbm, ⟨47, _⟩ => ⟨S132, .i32⟩
  | .hbm, ⟨48, _⟩ => ⟨S_, .i32⟩
  | .hbm, ⟨49, _⟩ => ⟨S132, .i32⟩
  | .hbm, ⟨50, _⟩ => ⟨S132, .i32⟩
  | .hbm, ⟨51, _⟩ => ⟨S1x6144, .i32⟩
  | .hbm, ⟨52, _⟩ => ⟨S132x1, .i32⟩
  | .hbm, ⟨53, _⟩ => ⟨S132x6144, .i32⟩
  | .hbm, ⟨54, _⟩ => ⟨S132x6144, .i32⟩
  | .hbm, ⟨55, _⟩ => ⟨S132x6144, .i1⟩
  | .hbm, ⟨56, _⟩ => ⟨S132x6144, .i32⟩
  | .hbm, ⟨57, _⟩ => ⟨S_, .i32⟩
  | .hbm, ⟨58, _⟩ => ⟨S50304x2560, .f32⟩
  | .local _ .vmem, ⟨0, _⟩ => ⟨S6144x384, .fp8e5m2⟩
  | .local _ .vmem, ⟨1, _⟩ => ⟨S6144x384, .fp8e5m2⟩
  | .local _ .vmem, ⟨2, _⟩ => ⟨S1x1x6144, .f32⟩
  | .local _ .vmem, ⟨3, _⟩ => ⟨S1x1x6144, .f32⟩
  | .local _ .vmem, ⟨4, _⟩ => ⟨S6144x1, .f32⟩
  | .local _ .vmem, ⟨5, _⟩ => ⟨S384x2560, .f32⟩
  | .local _ .vmem, ⟨6, _⟩ => ⟨S384x2560, .f32⟩
  | .local _ .vmem, ⟨7, _⟩ => ⟨S6144x2560, .bf16⟩
  | .local _ .vmem, ⟨8, _⟩ => ⟨S512x2560, .fp8e4m3⟩
  | .local _ .vmem, ⟨9, _⟩ => ⟨S384x6144, .bf16⟩
  | .local _ .vmem, ⟨10, _⟩ => ⟨S9240x128, .f32⟩
  | .local _ .vmem, ⟨11, _⟩ => ⟨S32x2560, .i32⟩
  | .local _ .vmem, ⟨12, _⟩ => ⟨S768x128, .i32⟩
  | .local _ .smem, ⟨0, _⟩ => ⟨S6144, .i32⟩
  | .local _ .smem, ⟨1, _⟩ => ⟨S6144, .i32⟩
  | .local _ .smem, ⟨2, _⟩ => ⟨S132, .i32⟩
  | .local _ .smem, ⟨3, _⟩ => ⟨S6144, .f32⟩
  | _, _ => ⟨S6x1024x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1_0 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v45 : Ref sig .tc := ⟨.hbm, 58, rfl⟩
abbrev main_v27 : Ref sig .tc := ⟨.smem, 0, rfl⟩
abbrev main_v34 : Ref sig .tc := ⟨.smem, 1, rfl⟩
abbrev main_v44 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![131], ![false]⟩

abbrev pre0 : Pipeline.Prefetch sig := ⟨3, ![main_v27.idx, main_v34.idx, main_v44.idx], fun | 0 => main_v27.names | 1 => main_v34.names | 2 => main_v44.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_47 : BitVec 32 := 0#32
  let c12_i32_48 : BitVec 32 := 12#32
  let v48 : BitVec 32 := Scalar.addi c0_i32_47 c12_i32_48
  let c1_i32_49 : BitVec 32 := 1#32
  ⟨c0_i32_47, v48, c1_i32_49⟩
def k0_off1 (k0_t1 : Fin k0_t1_loop.trips) : Fin 2 → Nat :=
  let c0_i32_47 : BitVec 32 := 0#32
  let c1_i32_49 : BitVec 32 := 1#32
  let arg19 : BitVec 32 := Scf.iv c0_i32_47 c1_i32_49 k0_t1
  let c512_i32 : BitVec 32 := 512#32
  let v49 : BitVec 32 := Scalar.muli arg19 c512_i32
  let c0_i32_51 : BitVec 32 := 0#32
  ![v49.toNat, 0]
def k0_off2 (k0_t1 : Fin k0_t1_loop.trips) : Fin 2 → Nat :=
  let c0_i32_47 : BitVec 32 := 0#32
  let c1_i32_49 : BitVec 32 := 1#32
  let arg19 : BitVec 32 := Scf.iv c0_i32_47 c1_i32_49 k0_t1
  let c512_i32_55 : BitVec 32 := 512#32
  let v54 : BitVec 32 := Scalar.muli arg19 c512_i32_55
  let v55 : Index := Scalar.indexCast v54
  let c0_56 : Index := 0#32
  ![v55.toNat, 0]
def k0_off3 (k0_t1 : Fin k0_t1_loop.trips) : Fin 2 → Nat :=
  let c0_i32_47 : BitVec 32 := 0#32
  let c1_i32_49 : BitVec 32 := 1#32
  let arg19 : BitVec 32 := Scf.iv c0_i32_47 c1_i32_49 k0_t1
  let c512_i32_57 : BitVec 32 := 512#32
  let v61 : BitVec 32 := Scalar.muli arg19 c512_i32_57
  let v62 : Index := Scalar.indexCast v61
  let c0_58 : Index := 0#32
  ![v62.toNat, 0]
@[reducible] def k0_t2_loop : Scf.Loop 32 :=
  let c0_i32_1 : BitVec 32 := 0#32
  let c12_i32 : BitVec 32 := 12#32
  let v3 : BitVec 32 := Scalar.addi c0_i32_1 c12_i32
  let c1_i32 : BitVec 32 := 1#32
  ⟨c0_i32_1, v3, c1_i32⟩
def k0_mult1 (k0_t2 : Fin k0_t2_loop.trips) : BitVec 32 :=
  let c0_i32_1 : BitVec 32 := 0#32
  let c1_i32 : BitVec 32 := 1#32
  let arg19 : BitVec 32 := Scf.iv c0_i32_1 c1_i32 k0_t2
  let c512_i32 : BitVec 32 := 512#32
  let v40 : BitVec 32 := Scalar.muli arg19 c512_i32
  v40
def k0_off4 (k0_t2 : Fin k0_t2_loop.trips) : Fin 2 → Nat :=
  let c0_i32_1 : BitVec 32 := 0#32
  let c1_i32 : BitVec 32 := 1#32
  let arg19 : BitVec 32 := Scf.iv c0_i32_1 c1_i32 k0_t2
  let c512_i32 : BitVec 32 := 512#32
  let v40 : BitVec 32 := Scalar.muli arg19 c512_i32
  let v41 : BitVec 32 := v40
  let v42 : Index := Scalar.indexCast v41
  let c0_41 : Index := 0#32
  ![v42.toNat, 0]
def k0_off5 (k0_t2 : Fin k0_t2_loop.trips) : Fin 3 → Nat :=
  let c0_42 : Index := 0#32
  let c0_43 : Index := 0#32
  let c0_i32_1 : BitVec 32 := 0#32
  let c1_i32 : BitVec 32 := 1#32
  let arg19 : BitVec 32 := Scf.iv c0_i32_1 c1_i32 k0_t2
  let c512_i32 : BitVec 32 := 512#32
  let v40 : BitVec 32 := Scalar.muli arg19 c512_i32
  let v41 : BitVec 32 := v40
  let v47 : Index := Scalar.indexCast v41
  ![0, 0, v47.toNat]
def k0_off6 (k0_t2 : Fin k0_t2_loop.trips) : Fin 2 → Nat :=
  let c0_44 : Index := 0#32
  let c0_i32_1 : BitVec 32 := 0#32
  let c1_i32 : BitVec 32 := 1#32
  let arg19 : BitVec 32 := Scf.iv c0_i32_1 c1_i32 k0_t2
  let c512_i32 : BitVec 32 := 512#32
  let v40 : BitVec 32 := Scalar.muli arg19 c512_i32
  let v41 : BitVec 32 := v40
  let v53 : Index := Scalar.indexCast v41
  ![0, v53.toNat]
def k0_off7 (i : grid0.Coords) : Fin 1 → Nat :=
  let arg0 : BitVec 32 := BitVec.ofNat 32 (i 0).val
  let v4 : Index := Scalar.indexCast arg0
  ![v4.toNat]
def k0_off8 (i : grid0.Coords) : Fin 1 → Nat :=
  let arg0 : BitVec 32 := BitVec.ofNat 32 (i 0).val
  let c1_i32_3 : BitVec 32 := 1#32
  let v6 : BitVec 32 := Scalar.addi arg0 c1_i32_3
  let v7 : Index := Scalar.indexCast v6
  ![v7.toNat]
@[reducible] def k0_t3_loop (v5 : BitVec 32) (v8 : BitVec 32) : Scf.Loop 32 :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_7 : BitVec 32 := 1#32
  ⟨c0_i32_4, v16, c1_i32_7⟩

@[reducible] def k0_t4_loop : Scf.Loop 32 :=
  let c0_i32_43 : BitVec 32 := 0#32
  let c32_i32_44 : BitVec 32 := 32#32
  let v42 : BitVec 32 := Scalar.addi c0_i32_43 c32_i32_44
  let c1_i32_45 : BitVec 32 := 1#32
  ⟨c0_i32_43, v42, c1_i32_45⟩
def k0_off9 (v5 : BitVec 32) (v8 : BitVec 32) (k0_t3 : Fin (k0_t3_loop v5 v8).trips) (k0_t4 : Fin k0_t4_loop.trips) : Fin 1 → Nat :=
  let c0_i32_4 : BitVec 32 := 0#32
  let c1_i32_7 : BitVec 32 := 1#32
  let arg19 : BitVec 32 := Scf.iv c0_i32_4 c1_i32_7 k0_t3
  let c32_i32_41 : BitVec 32 := 32#32
  let v40 : BitVec 32 := Scalar.muli arg19 c32_i32_41
  let v41 : BitVec 32 := Scalar.addi v5 v40
  let c0_i32_43 : BitVec 32 := 0#32
  let c1_i32_45 : BitVec 32 := 1#32
  let arg21 : BitVec 32 := Scf.iv c0_i32_43 c1_i32_45 k0_t4
  let v368 : BitVec 32 := Scalar.addi v41 arg21
  let c1_i32_284 : BitVec 32 := 1#32
  let v369 : BitVec 32 := Scalar.subi v8 c1_i32_284
  let v370 : BitVec 32 := Scalar.minsi v368 v369
  let v371 : Index := Scalar.indexCast v370
  ![v371.toNat]
def k0_off10 (k0_t4 : Fin k0_t4_loop.trips) : Fin 2 → Nat :=
  let c0_i32_43 : BitVec 32 := 0#32
  let c1_i32_45 : BitVec 32 := 1#32
  let arg21 : BitVec 32 := Scf.iv c0_i32_43 c1_i32_45 k0_t4
  let c0_i32_285 : BitVec 32 := 0#32
  ![arg21.toNat, 0]
def k0_off11 (v372 : BitVec 32) : Fin 2 → Nat :=
  let c2_i32 : BitVec 32 := 2#32
  let v373 : BitVec 32 := Scalar.shrsi v372 c2_i32
  let c0_i32_286 : BitVec 32 := 0#32
  ![v373.toNat, 0]

def k0_chk2 (v372 : BitVec 32) : Prop :=
  (∀ a, (k0_off11 v372) a + S1x2560.size a ≤ S1536x2560.size a)
theorem k0_off11_inb : ∀ (v372 : BitVec 32) (k0_hw2 : k0_chk2 v372), ∀ a, (k0_off11 v372) a + S1x2560.size a ≤ S1536x2560.size a := fun v372 k0_hw2 => k0_hw2

@[reducible] def k0_t5_loop : Scf.Loop 32 :=
  let c0_i32_48 : BitVec 32 := 0#32
  let c32_i32_49 : BitVec 32 := 32#32
  let v44 : BitVec 32 := Scalar.addi c0_i32_48 c32_i32_49
  let c1_i32_50 : BitVec 32 := 1#32
  ⟨c0_i32_48, v44, c1_i32_50⟩
def k0_off12 (v5 : BitVec 32) (v8 : BitVec 32) (k0_t3 : Fin (k0_t3_loop v5 v8).trips) (k0_t5 : Fin k0_t5_loop.trips) : Fin 1 → Nat :=
  let c0_i32_4 : BitVec 32 := 0#32
  let c1_i32_7 : BitVec 32 := 1#32
  let arg19 : BitVec 32 := Scf.iv c0_i32_4 c1_i32_7 k0_t3
  let c32_i32_41 : BitVec 32 := 32#32
  let v40 : BitVec 32 := Scalar.muli arg19 c32_i32_41
  let v41 : BitVec 32 := Scalar.addi v5 v40
  let c0_i32_48 : BitVec 32 := 0#32
  let c1_i32_50 : BitVec 32 := 1#32
  let arg21 : BitVec 32 := Scf.iv c0_i32_48 c1_i32_50 k0_t5
  let v368 : BitVec 32 := Scalar.addi v41 arg21
  let c1_i32_284 : BitVec 32 := 1#32
  let v369 : BitVec 32 := Scalar.subi v8 c1_i32_284
  let v370 : BitVec 32 := Scalar.minsi v368 v369
  let v371 : Index := Scalar.indexCast v370
  ![v371.toNat]
def k0_off13 (k0_t5 : Fin k0_t5_loop.trips) : Fin 2 → Nat :=
  let c0_i32_48 : BitVec 32 := 0#32
  let c1_i32_50 : BitVec 32 := 1#32
  let arg21 : BitVec 32 := Scf.iv c0_i32_48 c1_i32_50 k0_t5
  let c0_i32_285 : BitVec 32 := 0#32
  ![arg21.toNat, 0]
def k0_off14 (v372 : BitVec 32) : Fin 2 → Nat :=
  let c2_i32 : BitVec 32 := 2#32
  let v373 : BitVec 32 := Scalar.shrsi v372 c2_i32
  let c0_i32_286 : BitVec 32 := 0#32
  ![v373.toNat, 0]

def k0_chk3 (v372 : BitVec 32) : Prop :=
  (∀ a, (k0_off14 v372) a + S1x2560.size a ≤ S1536x2560.size a)
theorem k0_off14_inb : ∀ (v372 : BitVec 32) (k0_hw3 : k0_chk3 v372), ∀ a, (k0_off14 v372) a + S1x2560.size a ≤ S1536x2560.size a := fun v372 k0_hw3 => k0_hw3

@[reducible] def k0_t6_loop : Scf.Loop 32 :=
  let c0_i32_279 : BitVec 32 := 0#32
  let c32_i32_280 : BitVec 32 := 32#32
  let v366 : BitVec 32 := Scalar.addi c0_i32_279 c32_i32_280
  let c1_i32_281 : BitVec 32 := 1#32
  ⟨c0_i32_279, v366, c1_i32_281⟩
def k0_off15 (v5 : BitVec 32) (v8 : BitVec 32) (k0_t3 : Fin (k0_t3_loop v5 v8).trips) (k0_t6 : Fin k0_t6_loop.trips) : Fin 1 → Nat :=
  let c0_i32_4 : BitVec 32 := 0#32
  let c1_i32_7 : BitVec 32 := 1#32
  let arg19 : BitVec 32 := Scf.iv c0_i32_4 c1_i32_7 k0_t3
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t6
  let v368 : BitVec 32 := Scalar.addi v41 arg21
  let c1_i32_284 : BitVec 32 := 1#32
  let v370 : BitVec 32 := Scalar.subi v8 c1_i32_284
  let v371 : BitVec 32 := Scalar.minsi v368 v370
  let v372 : Index := Scalar.indexCast v371
  ![v372.toNat]
def k0_mult2 (k0_t6 : Fin k0_t6_loop.trips) : BitVec 32 :=
  let c0_i32_279 : BitVec 32 := 0#32
  let c1_i32_281 : BitVec 32 := 1#32
  let arg21 : BitVec 32 := Scf.iv c0_i32_279 c1_i32_281 k0_t6
  let c24_i32 : BitVec 32 := 24#32
  let v379 : BitVec 32 := Scalar.muli arg21 c24_i32
  v379
def k0_off16 (k0_t6 : Fin k0_t6_loop.trips) : Fin 2 → Nat :=
  let c0_i32_279 : BitVec 32 := 0#32
  let c1_i32_281 : BitVec 32 := 1#32
  let arg21 : BitVec 32 := Scf.iv c0_i32_279 c1_i32_281 k0_t6
  let c24_i32 : BitVec 32 := 24#32
  let v379 : BitVec 32 := Scalar.muli arg21 c24_i32
  let v380 : BitVec 32 := v379
  let v381 : Index := Scalar.indexCast v380
  let c0_286 : Index := 0#32
  ![v381.toNat, 0]
def k0_off17 (v373 : BitVec 32) : Fin 1 → Nat :=
  let v418 : Index := Scalar.indexCast v373
  ![v418.toNat]

def k0_chk4 (v373 : BitVec 32) : Prop :=
  (∀ a, (k0_off17 v373) a + S1.size a ≤ S6144.size a)
theorem k0_off17_inb : ∀ (v373 : BitVec 32) (k0_hw4 : k0_chk4 v373), ∀ a, (k0_off17 v373) a + S1.size a ≤ S6144.size a := fun v373 k0_hw4 => k0_hw4

def k0_mult3 (i : grid0.Coords) (v5 : BitVec 32) (v8 : BitVec 32) (k0_t3 : Fin (k0_t3_loop v5 v8).trips) (k0_t6 : Fin k0_t6_loop.trips) (v375 : BitVec 32) : BitVec 32 :=
  let c0_i32_4 : BitVec 32 := 0#32
  let c1_i32_7 : BitVec 32 := 1#32
  let arg19 : BitVec 32 := Scf.iv c0_i32_4 c1_i32_7 k0_t3
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t6
  let v368 : BitVec 32 := Scalar.addi v41 arg21
  let v369 : BitVec 1 := Scalar.cmpi .slt v368 v8
  let arg0 : BitVec 32 := BitVec.ofNat 32 (i 0).val
  let c384_i32 : BitVec 32 := 384#32
  let v376 : BitVec 32 := Scalar.muli arg0 c384_i32
  let v377 : BitVec 32 := Scalar.subi v375 v376
  let c384_i32_285 : BitVec 32 := 384#32
  let v378 : BitVec 32 := Scalar.select v369 v377 c384_i32_285
  let c24_i32_292 : BitVec 32 := 24#32
  let v422 : BitVec 32 := Scalar.muli v378 c24_i32_292
  v422

def k0_off18 (i : grid0.Coords) (v5 : BitVec 32) (v8 : BitVec 32) (k0_t3 : Fin (k0_t3_loop v5 v8).trips) (k0_t6 : Fin k0_t6_loop.trips) (v375 : BitVec 32) : Fin 2 → Nat :=
  let c0_i32_4 : BitVec 32 := 0#32
  let c1_i32_7 : BitVec 32 := 1#32
  let arg19 : BitVec 32 := Scf.iv c0_i32_4 c1_i32_7 k0_t3
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t6
  let v368 : BitVec 32 := Scalar.addi v41 arg21
  let v369 : BitVec 1 := Scalar.cmpi .slt v368 v8
  let arg0 : BitVec 32 := BitVec.ofNat 32 (i 0).val
  let c384_i32 : BitVec 32 := 384#32
  let v376 : BitVec 32 := Scalar.muli arg0 c384_i32
  let v377 : BitVec 32 := Scalar.subi v375 v376
  let c384_i32_285 : BitVec 32 := 384#32
  let v378 : BitVec 32 := Scalar.select v369 v377 c384_i32_285
  let c24_i32_292 : BitVec 32 := 24#32
  let v422 : BitVec 32 := Scalar.muli v378 c24_i32_292
  let v423 : BitVec 32 := v422
  let v424 : Index := Scalar.indexCast v423
  let c0_293 : Index := 0#32
  ![v424.toNat, 0]

def k0_chk5 (i : grid0.Coords) (v5 : BitVec 32) (v8 : BitVec 32) (k0_t3 : Fin (k0_t3_loop v5 v8).trips) (k0_t6 : Fin k0_t6_loop.trips) (v375 : BitVec 32) : Prop :=
  (8 ∣ (k0_mult3 i v5 v8 k0_t3 k0_t6 v375).toNat) ∧
  (∀ a, (k0_off18 i v5 v8 k0_t3 k0_t6 v375) a + S24x128.size a ≤ S9240x128.size a)
theorem k0_mult3_dvd : ∀ (i : grid0.Coords) (v5 : BitVec 32) (v8 : BitVec 32) (k0_t3 : Fin (k0_t3_loop v5 v8).trips) (k0_t6 : Fin k0_t6_loop.trips) (v375 : BitVec 32) (k0_hw5 : k0_chk5 i v5 v8 k0_t3 k0_t6 v375), 8 ∣ (k0_mult3 i v5 v8 k0_t3 k0_t6 v375).toNat := fun i v5 v8 k0_t3 k0_t6 v375 k0_hw5 => k0_hw5.1
theorem k0_off18_inb : ∀ (i : grid0.Coords) (v5 : BitVec 32) (v8 : BitVec 32) (k0_t3 : Fin (k0_t3_loop v5 v8).trips) (k0_t6 : Fin k0_t6_loop.trips) (v375 : BitVec 32) (k0_hw5 : k0_chk5 i v5 v8 k0_t3 k0_t6 v375), ∀ a, (k0_off18 i v5 v8 k0_t3 k0_t6 v375) a + S24x128.size a ≤ S9240x128.size a := fun i v5 v8 k0_t3 k0_t6 v375 k0_hw5 => k0_hw5.2

@[reducible] def k0_t7_loop (v5 : BitVec 32) (v8 : BitVec 32) : Scf.Loop 32 :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let v13 : BitVec 32 := Scalar.addi c0_i32_4 v12
  let c1_i32_8 : BitVec 32 := 1#32
  ⟨v16, v13, c1_i32_8⟩
@[reducible] def k0_t8_loop : Scf.Loop 32 :=
  let c0_i32_43 : BitVec 32 := 0#32
  let c32_i32_44 : BitVec 32 := 32#32
  let v42 : BitVec 32 := Scalar.addi c0_i32_43 c32_i32_44
  let c1_i32_45 : BitVec 32 := 1#32
  ⟨c0_i32_43, v42, c1_i32_45⟩
def k0_off19 (v5 : BitVec 32) (v8 : BitVec 32) (k0_t7 : Fin (k0_t7_loop v5 v8).trips) (k0_t8 : Fin k0_t8_loop.trips) : Fin 1 → Nat :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_8 : BitVec 32 := 1#32
  let arg19 : BitVec 32 := Scf.iv v16 c1_i32_8 k0_t7
  let c32_i32_41 : BitVec 32 := 32#32
  let v40 : BitVec 32 := Scalar.muli arg19 c32_i32_41
  let v41 : BitVec 32 := Scalar.addi v5 v40
  let c0_i32_43 : BitVec 32 := 0#32
  let c1_i32_45 : BitVec 32 := 1#32
  let arg21 : BitVec 32 := Scf.iv c0_i32_43 c1_i32_45 k0_t8
  let v368 : BitVec 32 := Scalar.addi v41 arg21
  let c1_i32_284 : BitVec 32 := 1#32
  let v369 : BitVec 32 := Scalar.subi v8 c1_i32_284
  let v370 : BitVec 32 := Scalar.minsi v368 v369
  let v371 : Index := Scalar.indexCast v370
  ![v371.toNat]
def k0_off20 (k0_t8 : Fin k0_t8_loop.trips) : Fin 2 → Nat :=
  let c0_i32_43 : BitVec 32 := 0#32
  let c1_i32_45 : BitVec 32 := 1#32
  let arg21 : BitVec 32 := Scf.iv c0_i32_43 c1_i32_45 k0_t8
  let c0_i32_285 : BitVec 32 := 0#32
  ![arg21.toNat, 0]
def k0_off21 (v372 : BitVec 32) : Fin 2 → Nat :=
  let c2_i32 : BitVec 32 := 2#32
  let v373 : BitVec 32 := Scalar.shrsi v372 c2_i32
  let c0_i32_286 : BitVec 32 := 0#32
  ![v373.toNat, 0]

def k0_chk6 (v372 : BitVec 32) : Prop :=
  (∀ a, (k0_off21 v372) a + S1x2560.size a ≤ S1536x2560.size a)
theorem k0_off21_inb : ∀ (v372 : BitVec 32) (k0_hw6 : k0_chk6 v372), ∀ a, (k0_off21 v372) a + S1x2560.size a ≤ S1536x2560.size a := fun v372 k0_hw6 => k0_hw6

@[reducible] def k0_t9_loop : Scf.Loop 32 :=
  let c0_i32_48 : BitVec 32 := 0#32
  let c32_i32_49 : BitVec 32 := 32#32
  let v44 : BitVec 32 := Scalar.addi c0_i32_48 c32_i32_49
  let c1_i32_50 : BitVec 32 := 1#32
  ⟨c0_i32_48, v44, c1_i32_50⟩
def k0_off22 (v5 : BitVec 32) (v8 : BitVec 32) (k0_t7 : Fin (k0_t7_loop v5 v8).trips) (k0_t9 : Fin k0_t9_loop.trips) : Fin 1 → Nat :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_8 : BitVec 32 := 1#32
  let arg19 : BitVec 32 := Scf.iv v16 c1_i32_8 k0_t7
  let c32_i32_41 : BitVec 32 := 32#32
  let v40 : BitVec 32 := Scalar.muli arg19 c32_i32_41
  let v41 : BitVec 32 := Scalar.addi v5 v40
  let c0_i32_48 : BitVec 32 := 0#32
  let c1_i32_50 : BitVec 32 := 1#32
  let arg21 : BitVec 32 := Scf.iv c0_i32_48 c1_i32_50 k0_t9
  let v368 : BitVec 32 := Scalar.addi v41 arg21
  let c1_i32_284 : BitVec 32 := 1#32
  let v369 : BitVec 32 := Scalar.subi v8 c1_i32_284
  let v370 : BitVec 32 := Scalar.minsi v368 v369
  let v371 : Index := Scalar.indexCast v370
  ![v371.toNat]
def k0_off23 (k0_t9 : Fin k0_t9_loop.trips) : Fin 2 → Nat :=
  let c0_i32_48 : BitVec 32 := 0#32
  let c1_i32_50 : BitVec 32 := 1#32
  let arg21 : BitVec 32 := Scf.iv c0_i32_48 c1_i32_50 k0_t9
  let c0_i32_285 : BitVec 32 := 0#32
  ![arg21.toNat, 0]
def k0_off24 (v372 : BitVec 32) : Fin 2 → Nat :=
  let c2_i32 : BitVec 32 := 2#32
  let v373 : BitVec 32 := Scalar.shrsi v372 c2_i32
  let c0_i32_286 : BitVec 32 := 0#32
  ![v373.toNat, 0]

def k0_chk7 (v372 : BitVec 32) : Prop :=
  (∀ a, (k0_off24 v372) a + S1x2560.size a ≤ S1536x2560.size a)
theorem k0_off24_inb : ∀ (v372 : BitVec 32) (k0_hw7 : k0_chk7 v372), ∀ a, (k0_off24 v372) a + S1x2560.size a ≤ S1536x2560.size a := fun v372 k0_hw7 => k0_hw7

@[reducible] def k0_t10_loop : Scf.Loop 32 :=
  let c0_i32_279 : BitVec 32 := 0#32
  let c32_i32_280 : BitVec 32 := 32#32
  let v366 : BitVec 32 := Scalar.addi c0_i32_279 c32_i32_280
  let c1_i32_281 : BitVec 32 := 1#32
  ⟨c0_i32_279, v366, c1_i32_281⟩
def k0_off25 (v5 : BitVec 32) (v8 : BitVec 32) (k0_t7 : Fin (k0_t7_loop v5 v8).trips) (k0_t10 : Fin k0_t10_loop.trips) : Fin 1 → Nat :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_8 : BitVec 32 := 1#32
  let arg19 : BitVec 32 := Scf.iv v16 c1_i32_8 k0_t7
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t10
  let v368 : BitVec 32 := Scalar.addi v41 arg21
  let c1_i32_284 : BitVec 32 := 1#32
  let v370 : BitVec 32 := Scalar.subi v8 c1_i32_284
  let v371 : BitVec 32 := Scalar.minsi v368 v370
  let v372 : Index := Scalar.indexCast v371
  ![v372.toNat]

def k0_chk1 (v5 : BitVec 32) (v8 : BitVec 32) : Prop :=
  ((k0_t3_loop v5 v8).OK) ∧
  (∀ (k0_t3 : Fin (k0_t3_loop v5 v8).trips) (k0_t4 : Fin k0_t4_loop.trips), ∀ a, (k0_off9 v5 v8 k0_t3 k0_t4) a + S1.size a ≤ S6144.size a) ∧
  (∀ (k0_t3 : Fin (k0_t3_loop v5 v8).trips) (k0_t5 : Fin k0_t5_loop.trips), ∀ a, (k0_off12 v5 v8 k0_t3 k0_t5) a + S1.size a ≤ S6144.size a) ∧
  (∀ (k0_t3 : Fin (k0_t3_loop v5 v8).trips) (k0_t6 : Fin k0_t6_loop.trips), ∀ a, (k0_off15 v5 v8 k0_t3 k0_t6) a + S1.size a ≤ S6144.size a) ∧
  ((k0_t7_loop v5 v8).OK) ∧
  (∀ (k0_t7 : Fin (k0_t7_loop v5 v8).trips) (k0_t8 : Fin k0_t8_loop.trips), ∀ a, (k0_off19 v5 v8 k0_t7 k0_t8) a + S1.size a ≤ S6144.size a) ∧
  (∀ (k0_t7 : Fin (k0_t7_loop v5 v8).trips) (k0_t9 : Fin k0_t9_loop.trips), ∀ a, (k0_off22 v5 v8 k0_t7 k0_t9) a + S1.size a ≤ S6144.size a) ∧
  (∀ (k0_t7 : Fin (k0_t7_loop v5 v8).trips) (k0_t10 : Fin k0_t10_loop.trips), ∀ a, (k0_off25 v5 v8 k0_t7 k0_t10) a + S1.size a ≤ S6144.size a)
theorem k0_t3_ok : ∀ (v5 : BitVec 32) (v8 : BitVec 32) (k0_hw1 : k0_chk1 v5 v8), (k0_t3_loop v5 v8).OK := fun v5 v8 k0_hw1 => k0_hw1.1
theorem k0_off9_inb : ∀ (v5 : BitVec 32) (v8 : BitVec 32) (k0_hw1 : k0_chk1 v5 v8) (k0_t3 : Fin (k0_t3_loop v5 v8).trips) (k0_t4 : Fin k0_t4_loop.trips), ∀ a, (k0_off9 v5 v8 k0_t3 k0_t4) a + S1.size a ≤ S6144.size a := fun v5 v8 k0_hw1 k0_t3 k0_t4 => k0_hw1.2.1 k0_t3 k0_t4
theorem k0_off12_inb : ∀ (v5 : BitVec 32) (v8 : BitVec 32) (k0_hw1 : k0_chk1 v5 v8) (k0_t3 : Fin (k0_t3_loop v5 v8).trips) (k0_t5 : Fin k0_t5_loop.trips), ∀ a, (k0_off12 v5 v8 k0_t3 k0_t5) a + S1.size a ≤ S6144.size a := fun v5 v8 k0_hw1 k0_t3 k0_t5 => k0_hw1.2.2.1 k0_t3 k0_t5
theorem k0_off15_inb : ∀ (v5 : BitVec 32) (v8 : BitVec 32) (k0_hw1 : k0_chk1 v5 v8) (k0_t3 : Fin (k0_t3_loop v5 v8).trips) (k0_t6 : Fin k0_t6_loop.trips), ∀ a, (k0_off15 v5 v8 k0_t3 k0_t6) a + S1.size a ≤ S6144.size a := fun v5 v8 k0_hw1 k0_t3 k0_t6 => k0_hw1.2.2.2.1 k0_t3 k0_t6
theorem k0_t7_ok : ∀ (v5 : BitVec 32) (v8 : BitVec 32) (k0_hw1 : k0_chk1 v5 v8), (k0_t7_loop v5 v8).OK := fun v5 v8 k0_hw1 => k0_hw1.2.2.2.2.1
theorem k0_off19_inb : ∀ (v5 : BitVec 32) (v8 : BitVec 32) (k0_hw1 : k0_chk1 v5 v8) (k0_t7 : Fin (k0_t7_loop v5 v8).trips) (k0_t8 : Fin k0_t8_loop.trips), ∀ a, (k0_off19 v5 v8 k0_t7 k0_t8) a + S1.size a ≤ S6144.size a := fun v5 v8 k0_hw1 k0_t7 k0_t8 => k0_hw1.2.2.2.2.2.1 k0_t7 k0_t8
theorem k0_off22_inb : ∀ (v5 : BitVec 32) (v8 : BitVec 32) (k0_hw1 : k0_chk1 v5 v8) (k0_t7 : Fin (k0_t7_loop v5 v8).trips) (k0_t9 : Fin k0_t9_loop.trips), ∀ a, (k0_off22 v5 v8 k0_t7 k0_t9) a + S1.size a ≤ S6144.size a := fun v5 v8 k0_hw1 k0_t7 k0_t9 => k0_hw1.2.2.2.2.2.2.1 k0_t7 k0_t9
theorem k0_off25_inb : ∀ (v5 : BitVec 32) (v8 : BitVec 32) (k0_hw1 : k0_chk1 v5 v8) (k0_t7 : Fin (k0_t7_loop v5 v8).trips) (k0_t10 : Fin k0_t10_loop.trips), ∀ a, (k0_off25 v5 v8 k0_t7 k0_t10) a + S1.size a ≤ S6144.size a := fun v5 v8 k0_hw1 k0_t7 k0_t10 => k0_hw1.2.2.2.2.2.2.2 k0_t7 k0_t10

def k0_mult4 (k0_t10 : Fin k0_t10_loop.trips) : BitVec 32 :=
  let c0_i32_279 : BitVec 32 := 0#32
  let c1_i32_281 : BitVec 32 := 1#32
  let arg21 : BitVec 32 := Scf.iv c0_i32_279 c1_i32_281 k0_t10
  let c24_i32 : BitVec 32 := 24#32
  let v379 : BitVec 32 := Scalar.muli arg21 c24_i32
  v379
def k0_off26 (k0_t10 : Fin k0_t10_loop.trips) : Fin 2 → Nat :=
  let c0_i32_279 : BitVec 32 := 0#32
  let c1_i32_281 : BitVec 32 := 1#32
  let arg21 : BitVec 32 := Scf.iv c0_i32_279 c1_i32_281 k0_t10
  let c24_i32 : BitVec 32 := 24#32
  let v379 : BitVec 32 := Scalar.muli arg21 c24_i32
  let v380 : BitVec 32 := v379
  let v381 : Index := Scalar.indexCast v380
  let c0_286 : Index := 0#32
  ![v381.toNat, 0]
def k0_off27 (v373 : BitVec 32) : Fin 1 → Nat :=
  let v418 : Index := Scalar.indexCast v373
  ![v418.toNat]

def k0_chk8 (v373 : BitVec 32) : Prop :=
  (∀ a, (k0_off27 v373) a + S1.size a ≤ S6144.size a)
theorem k0_off27_inb : ∀ (v373 : BitVec 32) (k0_hw8 : k0_chk8 v373), ∀ a, (k0_off27 v373) a + S1.size a ≤ S6144.size a := fun v373 k0_hw8 => k0_hw8

def k0_mult5 (i : grid0.Coords) (v5 : BitVec 32) (v8 : BitVec 32) (k0_t7 : Fin (k0_t7_loop v5 v8).trips) (k0_t10 : Fin k0_t10_loop.trips) (v375 : BitVec 32) : BitVec 32 :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_8 : BitVec 32 := 1#32
  let arg19 : BitVec 32 := Scf.iv v16 c1_i32_8 k0_t7
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t10
  let v368 : BitVec 32 := Scalar.addi v41 arg21
  let v369 : BitVec 1 := Scalar.cmpi .slt v368 v8
  let arg0 : BitVec 32 := BitVec.ofNat 32 (i 0).val
  let c384_i32 : BitVec 32 := 384#32
  let v376 : BitVec 32 := Scalar.muli arg0 c384_i32
  let v377 : BitVec 32 := Scalar.subi v375 v376
  let c384_i32_285 : BitVec 32 := 384#32
  let v378 : BitVec 32 := Scalar.select v369 v377 c384_i32_285
  let c24_i32_292 : BitVec 32 := 24#32
  let v422 : BitVec 32 := Scalar.muli v378 c24_i32_292
  v422

def k0_off28 (i : grid0.Coords) (v5 : BitVec 32) (v8 : BitVec 32) (k0_t7 : Fin (k0_t7_loop v5 v8).trips) (k0_t10 : Fin k0_t10_loop.trips) (v375 : BitVec 32) : Fin 2 → Nat :=
  let c0_i32_4 : BitVec 32 := 0#32
  let v9 : BitVec 32 := Scalar.subi v8 v5
  let c31_i32 : BitVec 32 := 31#32
  let v10 : BitVec 32 := Scalar.addi v9 c31_i32
  let c32_i32 : BitVec 32 := 32#32
  let v11 : BitVec 32 := Scalar.divsi v10 c32_i32
  let v12 : BitVec 32 := Scalar.subi v11 c0_i32_4
  let c1_i32_6 : BitVec 32 := 1#32
  let v14 : BitVec 32 := Scalar.divsi v12 c1_i32_6
  let v15 : BitVec 32 := Scalar.muli v14 c1_i32_6
  let v16 : BitVec 32 := Scalar.addi c0_i32_4 v15
  let c1_i32_8 : BitVec 32 := 1#32
  let arg19 : BitVec 32 := Scf.iv v16 c1_i32_8 k0_t7
  let c32_i32_41 : BitVec 32 := 32#32
  let v40 : BitVec 32 := Scalar.muli arg19 c32_i32_41
  let v41 : BitVec 32 := Scalar.addi v5 v40
  let c0_i32_279 : BitVec 32 := 0#32
  let c1_i32_281 : BitVec 32 := 1#32
  let arg21 : BitVec 32 := Scf.iv c0_i32_279 c1_i32_281 k0_t10
  let v368 : BitVec 32 := Scalar.addi v41 arg21
  let v369 : BitVec 1 := Scalar.cmpi .slt v368 v8
  let arg0 : BitVec 32 := BitVec.ofNat 32 (i 0).val
  let c384_i32 : BitVec 32 := 384#32
  let v376 : BitVec 32 := Scalar.muli arg0 c384_i32
  let v377 : BitVec 32 := Scalar.subi v375 v376
  let c384_i32_285 : BitVec 32 := 384#32
  let v378 : BitVec 32 := Scalar.select v369 v377 c384_i32_285
  let c24_i32_292 : BitVec 32 := 24#32
  let v422 : BitVec 32 := Scalar.muli v378 c24_i32_292
  let v423 : BitVec 32 := v422
  let v424 : Index := Scalar.indexCast v423
  let c0_293 : Index := 0#32
  ![v424.toNat, 0]

def k0_chk9 (i : grid0.Coords) (v5 : BitVec 32) (v8 : BitVec 32) (k0_t7 : Fin (k0_t7_loop v5 v8).trips) (k0_t10 : Fin k0_t10_loop.trips) (v375 : BitVec 32) : Prop :=
  (8 ∣ (k0_mult5 i v5 v8 k0_t7 k0_t10 v375).toNat) ∧
  (∀ a, (k0_off28 i v5 v8 k0_t7 k0_t10 v375) a + S24x128.size a ≤ S9240x128.size a)
theorem k0_mult5_dvd : ∀ (i : grid0.Coords) (v5 : BitVec 32) (v8 : BitVec 32) (k0_t7 : Fin (k0_t7_loop v5 v8).trips) (k0_t10 : Fin k0_t10_loop.trips) (v375 : BitVec 32) (k0_hw9 : k0_chk9 i v5 v8 k0_t7 k0_t10 v375), 8 ∣ (k0_mult5 i v5 v8 k0_t7 k0_t10 v375).toNat := fun i v5 v8 k0_t7 k0_t10 v375 k0_hw9 => k0_hw9.1
theorem k0_off28_inb : ∀ (i : grid0.Coords) (v5 : BitVec 32) (v8 : BitVec 32) (k0_t7 : Fin (k0_t7_loop v5 v8).trips) (k0_t10 : Fin k0_t10_loop.trips) (v375 : BitVec 32) (k0_hw9 : k0_chk9 i v5 v8 k0_t7 k0_t10 v375), ∀ a, (k0_off28 i v5 v8 k0_t7 k0_t10 v375) a + S24x128.size a ≤ S9240x128.size a := fun i v5 v8 k0_t7 k0_t10 v375 k0_hw9 => k0_hw9.2

@[reducible] def k0_t11_loop : Scf.Loop 32 :=
  let c0_i32_38 : BitVec 32 := 0#32
  let c48_i32 : BitVec 32 := 48#32
  let v39 : BitVec 32 := Scalar.addi c0_i32_38 c48_i32
  let c1_i32_39 : BitVec 32 := 1#32
  ⟨c0_i32_38, v39, c1_i32_39⟩
def k0_mult6 (k0_t11 : Fin k0_t11_loop.trips) : BitVec 32 :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  v40
def k0_off29 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v42 : Index := Scalar.indexCast v41
  let c0_41 : Index := 0#32
  ![v42.toNat, 0]
def k0_off30 (k0_t11 : Fin k0_t11_loop.trips) (c0_i32_43 : BitVec 32) : Fin 2 → Nat :=
  let c0_i32_38 : BitVec 32 := 0#32
  let c1_i32_39 : BitVec 32 := 1#32
  let arg19 : BitVec 32 := Scf.iv c0_i32_38 c1_i32_39 k0_t11
  let c8_i32_42 : BitVec 32 := 8#32
  let v45 : BitVec 32 := Scalar.muli arg19 c8_i32_42
  let c24_i32 : BitVec 32 := 24#32
  let v46 : BitVec 32 := Scalar.muli v45 c24_i32
  let v47 : BitVec 32 := Scalar.addi v46 c0_i32_43
  let v48 : Index := Scalar.indexCast v47
  let c0_44 : Index := 0#32
  ![v48.toNat, 0]
def k0_off31 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v53 : Index := Scalar.indexCast v41
  let c128 : Index := 128#32
  ![v53.toNat, 128]
def k0_off32 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v64 : Index := Scalar.indexCast v41
  let c256 : Index := 256#32
  ![v64.toNat, 256]
def k0_off33 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v75 : Index := Scalar.indexCast v41
  let c384 : Index := 384#32
  ![v75.toNat, 384]
def k0_off34 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v86 : Index := Scalar.indexCast v41
  let c512_59 : Index := 512#32
  ![v86.toNat, 512]
def k0_off35 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v97 : Index := Scalar.indexCast v41
  let c640 : Index := 640#32
  ![v97.toNat, 640]
def k0_off36 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v108 : Index := Scalar.indexCast v41
  let c768 : Index := 768#32
  ![v108.toNat, 768]
def k0_off37 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v119 : Index := Scalar.indexCast v41
  let c896 : Index := 896#32
  ![v119.toNat, 896]
def k0_off38 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v130 : Index := Scalar.indexCast v41
  let c1024_76 : Index := 1024#32
  ![v130.toNat, 1024]
def k0_off39 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v141 : Index := Scalar.indexCast v41
  let c1152 : Index := 1152#32
  ![v141.toNat, 1152]
def k0_off40 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v152 : Index := Scalar.indexCast v41
  let c1280 : Index := 1280#32
  ![v152.toNat, 1280]
def k0_off41 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v163 : Index := Scalar.indexCast v41
  let c1408 : Index := 1408#32
  ![v163.toNat, 1408]
def k0_off42 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v174 : Index := Scalar.indexCast v41
  let c1536_94 : Index := 1536#32
  ![v174.toNat, 1536]
def k0_off43 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v185 : Index := Scalar.indexCast v41
  let c1664 : Index := 1664#32
  ![v185.toNat, 1664]
def k0_off44 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v196 : Index := Scalar.indexCast v41
  let c1792 : Index := 1792#32
  ![v196.toNat, 1792]
def k0_off45 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v207 : Index := Scalar.indexCast v41
  let c1920 : Index := 1920#32
  ![v207.toNat, 1920]
def k0_off46 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v218 : Index := Scalar.indexCast v41
  let c2048_112 : Index := 2048#32
  ![v218.toNat, 2048]
def k0_off47 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v229 : Index := Scalar.indexCast v41
  let c2176 : Index := 2176#32
  ![v229.toNat, 2176]
def k0_off48 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v240 : Index := Scalar.indexCast v41
  let c2304 : Index := 2304#32
  ![v240.toNat, 2304]
def k0_off49 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32 : BitVec 32 := 8#32
  let v40 : BitVec 32 := Scalar.muli arg19 c8_i32
  let v41 : BitVec 32 := v40
  let v251 : Index := Scalar.indexCast v41
  let c2432 : Index := 2432#32
  ![v251.toNat, 2432]
def k0_off50 (k0_t11 : Fin k0_t11_loop.trips) : Fin 2 → Nat :=
  let c0_i32_38 : BitVec 32 := 0#32
  let c1_i32_39 : BitVec 32 := 1#32
  let arg19 : BitVec 32 := Scf.iv c0_i32_38 c1_i32_39 k0_t11
  let c8_i32_130 : BitVec 32 := 8#32
  let v263 : BitVec 32 := Scalar.muli arg19 c8_i32_130
  let c24_i32_131 : BitVec 32 := 24#32
  let v264 : BitVec 32 := Scalar.muli v263 c24_i32_131
  let v265 : Index := Scalar.indexCast v264
  let c0_132 : Index := 0#32
  ![v265.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x384 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x1024x50304 : Shape := ⟨3, ![6, 1024, 50304]⟩
abbrev S6x1024x131 : Shape := ⟨3, ![6, 1024, 131]⟩
abbrev S6x1024x2560 : Shape := ⟨3, ![6, 1024, 2560]⟩
abbrev S6x1024 : Shape := ⟨2, ![6, 1024]⟩
abbrev S6144x50304 : Shape := ⟨2, ![6144, 50304]⟩
abbrev S6144x131 : Shape := ⟨2, ![6144, 131]⟩
abbrev S6144x2560 : Shape := ⟨2, ![6144, 2560]⟩
abbrev S6144x1 : Shape := ⟨2, ![6144, 1]⟩
abbrev S50304x2560 : Shape := ⟨2, ![50304, 2560]⟩
abbrev S6144x131x384 : Shape := ⟨3, ![6144, 131, 384]⟩
abbrev S6144x131x1 : Shape := ⟨3, ![6144, 131, 1]⟩
abbrev S6144 : Shape := ⟨1, ![6144]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S6x1024x50304, .fp8e5m2⟩
  | .hbm, ⟨1, _⟩ => ⟨S6x1024x131, .f32⟩
  | .hbm, ⟨2, _⟩ => ⟨S6x1024x2560, .fp8e4m3⟩
  | .hbm, ⟨3, _⟩ => ⟨S6x1024, .f32⟩
  | .hbm, ⟨4, _⟩ => ⟨S6x1024x2560, .i8⟩
  | .hbm, ⟨5, _⟩ => ⟨S6x1024, .f32⟩
  | .hbm, ⟨6, _⟩ => ⟨S6x1024, .i32⟩
  | .hbm, ⟨7, _⟩ => ⟨S6144x50304, .fp8e5m2⟩
  | .hbm, ⟨8, _⟩ => ⟨S6144x131, .f32⟩
  | .hbm, ⟨9, _⟩ => ⟨S6144x2560, .fp8e4m3⟩
  | .hbm, ⟨10, _⟩ => ⟨S6144x1, .f32⟩
  | .hbm, ⟨11, _⟩ => ⟨S6144x2560, .i8⟩
  | .hbm, ⟨12, _⟩ => ⟨S6144x1, .f32⟩
  | .hbm, ⟨13, _⟩ => ⟨S50304x2560, .f32⟩
  | .hbm, ⟨14, _⟩ => ⟨S6144x2560, .f32⟩
  | .hbm, ⟨15, _⟩ => ⟨S6144, .i32⟩
  | .hbm, ⟨16, _⟩ => ⟨S_, .f32⟩
  | .hbm, ⟨17, _⟩ => ⟨S50304x2560, .f32⟩
  | .hbm, ⟨18, _⟩ => ⟨S6144x1, .i32⟩
  | .hbm, ⟨19, _⟩ => ⟨S50304x2560, .f32⟩
  | .hbm, ⟨20, _⟩ => ⟨S50304x2560, .f32⟩
  | .local _ .vmem, ⟨0, _⟩ => ⟨S6144x50304, .fp8e5m2⟩
  | .local _ .vmem, ⟨1, _⟩ => ⟨S6144x131, .f32⟩
  | .local _ .vmem, ⟨2, _⟩ => ⟨S6144x2560, .fp8e4m3⟩
  | .local _ .vmem, ⟨3, _⟩ => ⟨S6144x1, .f32⟩
  | .local _ .vmem, ⟨4, _⟩ => ⟨S6144x2560, .i8⟩
  | .local _ .vmem, ⟨5, _⟩ => ⟨S6144x1, .f32⟩
  | .local _ .vmem, ⟨6, _⟩ => ⟨S50304x2560, .f32⟩
  | .local _ .vmem, ⟨7, _⟩ => ⟨S6144x2560, .f32⟩
  | _, _ => ⟨S6x1024x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x50304 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x131 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S50304x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Ops.lean ====
/- What the modules of the kernel's run share: how a buffer's contents are stated, and how a load or a list of stores reads. -/
module

public import proofs.«01_k».proof.Proof.Gen.Kernel.Launch
public import proofs.«01_k».proof.Proof.Gen.Kernel.Skeleton
public import Idealize.ShloMosaic.Lib.Tactic
public import Idealize.ShloMosaic.Lib.Exec
public import Idealize.ShloMosaic.Lib.WritesUnit
public import Idealize.ShloMosaic.Lib.Pipeline.Kit
public import Idealize.ShloMosaic.Lib.Pipeline.Value
public import Idealize.ShloMosaic.Lib.Pipeline.FrameBody
public import Idealize.ShloMosaic.Lib.Pointwise

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-- A memref's buffer held whole at contents that read as a function satisfying `P`. -/
abbrev holds (c : Dev nD) {sp : Space} {s : Shape} {e : EltTy} (M : Memref sig .tc sp s e) (P : (s.Idx → Elt F e) → Prop) : sProp 𝕄 :=
  iprop(∃ f, (M.view.loc (c : Thread nD τ) ↦[M.view.set]{fullShare} f) ∗ ⌜P (M.view.read (Elt F) f)⌝)

/-- A load reads the buffer at the load's index. -/
theorem readAt_eq {κ : Kind} {sp : Space} {s : Shape} {e : EltTy} {Val : EltTy → Type} (v : View sig κ sp s e) (f : v.ty.Contents Val)
    (B : LoadRect s) (x : B.shape.Idx) (y : s.Idx) (h : ∀ a, (B.idx x a).val = (y a).val) :
    View.readAt Val v B f x = v.read Val f y :=
  congrArg (v.read Val f) (funext fun a => Fin.ext (h a))

/-- A load of a unit-stride rectangle reads the buffer at the offsets plus the load's index. -/
theorem readAt_unit_eq {κ : Kind} {sp : Space} {s : Shape} {e : EltTy} {Val : EltTy → Type} (v : View sig κ sp s e) (f : v.ty.Contents Val)
    {off off' size : Fin s.rank → ℕ} (inb : ∀ a, off a + size a ≤ s.size a) (hoff : off = off')
    (x : (Rect.unit off size inb).toLoadRect.shape.Idx) (y : s.Idx) (h : ∀ a, off' a + (x a).val = (y a).val) :
    View.readAt Val v (Rect.unit off size inb).toLoadRect f x = v.read Val f y := by
  subst hoff
  refine readAt_eq v f _ x y fun a => ?_
  show off a + 1 * (x a).val = (y a).val
  rw [Nat.one_mul]; exact h a

/-- After a store of the whole buffer, the buffer reads what was stored. -/
theorem read_writes_whole {κ : Kind} {sp : Space} {s : Shape} {e : EltTy} {Val : EltTy → Type} (v : View sig κ sp s e) (f : v.ty.Contents Val)
    (w : (Rect.whole s).shape.Idx → Val e) (L : List (View.Piece Val s e)) (y : s.Idx) :
    v.read Val (v.writes Val f (⟨Rect.whole s, w⟩ :: L)) y = w y :=
  View.read_writes_cons_unit_of_mem v f _ w L y y rfl fun a => by simp

/-- A unit-stride slice of a memref reads the memref at the offsets plus the index. -/
theorem read_slice_unit {κ : Kind} {sp : Space} {s : Shape} {e : EltTy} {Val : EltTy → Type} (M : Memref sig κ sp s e) (f : M.view.ty.Contents Val)
    {off off' size : Fin s.rank → ℕ} (inb : ∀ a, off a + size a ≤ s.size a) (hs : ∀ a, (Rect.unit off size inb).stride a = 1) (hoff : off = off')
    (x : (Rect.unit off size inb).shape.Idx) (y : s.Idx) (h : ∀ a, off' a + (x a).val = (y a).val) :
    (M.slice (Rect.unit off size inb) hs).view.read Val f x = M.view.read Val f y := by
  subst hoff
  refine congrArg (M.view.read Val f) (funext fun a => Fin.ext ?_)
  show off a + 1 * (x a).val = (y a).val
  rw [Nat.one_mul]; exact h a

/-- Two rank-2 indices with the same coordinates are equal. -/
theorem idx2_ext {d : Fin 2 → ℕ} {x y : (⟨2, d⟩ : Shape).Idx} (h0 : (x 0).val = (y 0).val) (h1 : (x 1).val = (y 1).val) : x = y :=
  funext (Fin.forall_fin_two.mpr ⟨Fin.ext h0, Fin.ext h1⟩)

/-- An index lies in a unit-stride rectangle of a rank-2 buffer if each coordinate does. -/
theorem mem_unit2 {n0 n1 : ℕ} {off : Fin 2 → ℕ} {o0 o1 s0 s1 : ℕ} {inb : ∀ a, off a + (![s0, s1] : Fin 2 → ℕ) a ≤ (⟨2, ![n0, n1]⟩ : Shape).size a}
    {r : Fin n0} {d : Fin n1} (hoff : off = ![o0, o1]) (h0 : o0 ≤ r.val) (h1 : r.val < o0 + s0) (h2 : o1 ≤ d.val)
    (h3 : d.val < o1 + s1) : ix2 r d ∈ (Rect.unit (s := ⟨2, ![n0, n1]⟩) off ![s0, s1] inb).set := by
  subst hoff
  exact Rect.mem_set_unit.mpr (Fin.forall_fin_two.mpr ⟨⟨h0, h1⟩, ⟨h2, h3⟩⟩)

/-- An index whose row is outside a unit-stride rectangle's rows is outside the rectangle. -/
theorem not_mem_unit2_row {n0 n1 : ℕ} {off : Fin 2 → ℕ} {o0 o1 s0 s1 : ℕ} {inb : ∀ a, off a + (![s0, s1] : Fin 2 → ℕ) a ≤ (⟨2, ![n0, n1]⟩ : Shape).size a}
    {r : Fin n0} {d : Fin n1} (hoff : off = ![o0, o1]) (h : ¬ (o0 ≤ r.val ∧ r.val < o0 + s0)) :
    ix2 r d ∉ (Rect.unit (s := ⟨2, ![n0, n1]⟩) off ![s0, s1] inb).set := by
  subst hoff
  exact fun hm => h (Rect.mem_set_unit.mp hm 0)

/-- A load of a unit-stride rectangle of a rank-2 buffer, coordinate by coordinate. -/
theorem readAt_unit2 {κ : Kind} {sp : Space} {n0 n1 : ℕ} {e : EltTy} {Val : EltTy → Type} (v : View sig κ sp ⟨2, ![n0, n1]⟩ e) (f : v.ty.Contents Val)
    {off : Fin 2 → ℕ} {o0 o1 s0 s1 : ℕ} (inb : ∀ a, off a + (![s0, s1] : Fin 2 → ℕ) a ≤ (⟨2, ![n0, n1]⟩ : Shape).size a) (hoff : off = ![o0, o1])
    (a : Fin s0) (b : Fin s1) (r : Fin n0) (d : Fin n1) (h0 : o0 + a.val = r.val) (h1 : o1 + b.val = d.val) :
    View.readAt Val v (Rect.unit (s := ⟨2, ![n0, n1]⟩) off ![s0, s1] inb).toLoadRect f (ix2 a b) = v.read Val f (ix2 r d) :=
  readAt_unit_eq v f inb hoff (ix2 a b) (ix2 r d) (Fin.forall_fin_two.mpr ⟨h0, h1⟩)

/-- A list whose first element satisfies `P` has an element that does. -/
theorem ex_head {α : Type*} {P : α → Prop} {a : α} {l : List α} (h : P a) : ∃ x ∈ a :: l, P x := ⟨a, List.mem_cons_self, h⟩

/-- A list whose tail has an element satisfying `P` has one. -/
theorem ex_tail {α : Type*} {P : α → Prop} {a : α} {l : List α} (h : ∃ x ∈ l, P x) : ∃ x ∈ a :: l, P x :=
  let ⟨x, hx, hP⟩ := h; ⟨x, List.mem_cons_of_mem _ hx, hP⟩

end Cert.Kernel.Hand
-- ==== Proof.Kernel.LoopT1.lean ====
/- The loop of the first grid point that brings the activations in and dequantizes them once for all. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- One dequantized entry of the activations. -/
def xbVal (a : Elt F .fp8e4m3) (b : Elt F .f32) : Elt F .bf16 :=
  FloatOps.mulf (FloatOps.extf .bf16 bitsLt_fp8e4m3_bf16 a) (FloatOps.truncf .bf16 bitsLt_bf16_f32 b)

/-- `Y` holds the dequantized activations of the tokens below `n`. -/
def XbUpTo (X7 : S6144x2560.Idx → Elt F .fp8e4m3) (X8 : S6144x1.Idx → Elt F .f32) (n : ℕ) (Y : S6144x2560.Idx → Elt F .bf16) : Prop :=
  ∀ (t : Fin 6144) (d : Fin 2560), t.val < n → Y (ix2 t d) = xbVal (X7 (ix2 t d)) (X8 (ix2 t 0))

/-- The invariant of the loop: the tokens of the chunks before `k` are done. -/
def invT1 (c : Dev nD) (arg7 : Memref sig .tc .hbm S6144x2560 .fp8e4m3) (arg8 : Memref sig .tc .vmem S6144x1 .f32)
    (arg11 : Memref sig .tc .vmem S6144x2560 .bf16) (arg12 : Memref sig .tc .vmem S512x2560 .fp8e4m3) (arg17 : DmaSems sig S_)
    (X7 : BufTy.Contents (Elt F) arg7.view.ty) (X8 : BufTy.Contents (Elt F) arg8.view.ty) (k : ℕ) (_ : Unit) : sProp 𝕄 :=
  iprop((arg7.view.loc (c : Thread nD τ) ↦{fullShare} X7) ∗ (arg8.view.loc (c : Thread nD τ) ↦[arg8.view.set]{fullShare} X8)
    ∗ holds c arg11 (XbUpTo (arg7.view.read (Elt F) X7) (arg8.view.read (Elt F) X8) (512 * k))
    ∗ (∃ f, arg12.view.loc (c : Thread nD τ) ↦[arg12.view.set]{fullShare} f) ∗ semVal ((c : Thread nD τ), SemLoc.dma arg17.sem) 0
    ∗ (∃ W, owes (c : Thread nD τ) 0 W))

/-- One trip extends the invariant by one chunk of 512 tokens. -/
theorem stepT1 (𝒱 : Variants) (c : Dev nD) (bd : Option 𝒱.V) (i : grid0.Coords) (k0_h1 : k0_cond1 i = 1#1)
    (X7 : BufTy.Contents (Elt F) arg7.view.ty) (X8 : BufTy.Contents (Elt F) arg8.view.ty) (k : Fin k0_t1_loop.trips) (u : Unit) :
    invT1 c arg7 arg8 arg11 arg12 arg17 X7 X8 k.val u
      ⊢ wp frame (wpE (defs₀ (F := F)) 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_h1 k u)
          (fun u' => (invT1 c arg7 arg8 arg11 arg12 arg17 X7 X8 (k.val + 1) u' : sProp 𝕄)) := by
  have hk : k.val < 12 := Nat.lt_of_lt_of_le k.isLt k0_t1_abs.2.1
  unfold invT1 holds k0_t1_body
  iintro ⟨H7, H8, ⟨%f, H11, %hf⟩, ⟨%f12, H12⟩, HC, ⟨%W, HO⟩⟩
  sl_exec
  sl_step
  isplitl [H7]; · iexact H7
  isplitl [H8]; · iexact H8
  isplitl [H11]
  · iexists _
    isplitl [H11]; · iexact H11
    ipureintro
    intro t d ht
    by_cases hlt : t.val < 512 * k.val
    · rw [View.read_writes_cons_unit_of_not_mem _ _ _ _ _ _ (k0_off3_eq k) 0 (.inl (by simpa using hlt)), View.writes_nil]
      exact hf t d hlt
    · have hx1 : t.val - 512 * k.val < 512 := by omega
      rw [View.read_writes_cons_unit_of_mem _ _ _ _ _ _ (ix2 ⟨t.val - 512 * k.val, hx1⟩ d) (k0_off3_eq k)
        (Fin.forall_fin_two.mpr ⟨by simp; omega, by simp⟩)]
      pointwise [k0_pay193, xbVal]
      rw [readAt_unit_eq _ _ _ (k0_off2_eq k) _ (ix2 t 0) (Fin.forall_fin_two.mpr ⟨by simp; omega, by simp⟩)]
      unfold stepT1.sl.v52 View.readCov
      rw [readAt_unit_eq _ _ _ rfl _ (ix2 ⟨t.val - 512 * k.val, hx1⟩ d) (Fin.forall_fin_two.mpr ⟨by simp, by simp⟩), read_writes_whole]
      unfold stepT1.sl.dma0
      rw [ReadAs.apply_same,
        read_slice_unit arg7 X7 _ _ (k0_off1_eq k) _ (ix2 t d) (Fin.forall_fin_two.mpr ⟨by simp; omega, by simp⟩)]
  isplitl [H12]; · iexists _; iexact H12
  isplitl [HC]; · iexact HC
  iexists _; iexact HO

end Cert.Kernel.Hand
-- ==== Proof.Kernel.LoopT2.lean ====
/- The loop that dequantizes one block of the upstream gradient, transposed, into its scratch. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- One dequantized entry of the upstream gradient. -/
def gtVal (a : Elt F .fp8e5m2) (b : Elt F .f32) : Elt F .bf16 :=
  FloatOps.mulf (FloatOps.extf .bf16 bitsLt_fp8e5m2_bf16 a) (FloatOps.truncf .bf16 bitsLt_bf16_f32 b)

/-- The transposed block `Y` holds the dequantized entries of the tokens below `n`. -/
def GtUpTo (X5 : S6144x384.Idx → Elt F .fp8e5m2) (X6 : S1x1x6144.Idx → Elt F .f32) (n : ℕ) (Y : S384x6144.Idx → Elt F .bf16) : Prop :=
  ∀ (r : Fin 384) (t : Fin 6144), t.val < n → Y (ix2 r t) = gtVal (X5 (ix2 t r)) (X6 (ix3 0 0 t))

/-- The invariant of the loop: the tokens of the chunks before `k` are done. -/
def invT2 (c : Dev nD) (arg5 : Memref sig .tc .vmem S6144x384 .fp8e5m2) (arg6 : Memref sig .tc .vmem S1x1x6144 .f32) (arg13 : Memref sig .tc .vmem S384x6144 .bf16)
    (X5 : BufTy.Contents (Elt F) arg5.view.ty) (X6 : BufTy.Contents (Elt F) arg6.view.ty) (k : ℕ) (_ : Unit) : sProp 𝕄 :=
  iprop((arg5.view.loc (c : Thread nD τ) ↦[arg5.view.set]{fullShare} X5) ∗ (arg6.view.loc (c : Thread nD τ) ↦[arg6.view.set]{fullShare} X6)
    ∗ holds c arg13 (GtUpTo (arg5.view.read (Elt F) X5) (arg6.view.read (Elt F) X6) (512 * k)))

/-- One trip extends the invariant by one chunk of 512 tokens. -/
theorem stepT2 (𝒱 : Variants) (c : Dev nD) (bd : Option 𝒱.V) (i : grid0.Coords)
    (X5 : BufTy.Contents (Elt F) arg5.view.ty) (X6 : BufTy.Contents (Elt F) arg6.view.ty) (k : Fin k0_t2_loop.trips) (u : Unit) :
    invT2 c arg5 arg6 arg13 X5 X6 k.val u
      ⊢ wp frame (wpE (defs₀ (F := F)) 𝒱 (c : Thread nD τ) bd) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k u)
          (fun u' => (invT2 c arg5 arg6 arg13 X5 X6 (k.val + 1) u' : sProp 𝕄)) := by
  have hk : k.val < 12 := Nat.lt_of_lt_of_le k.isLt k0_t2_abs.2.1
  unfold invT2 holds k0_t2_body
  iintro ⟨H5, H6, ⟨%f, H13, %hf⟩⟩
  sl_exec
  sl_step
  isplitl [H5]; · iexact H5
  isplitl [H6]; · iexact H6
  iexists _
  isplitl [H13]; · iexact H13
  ipureintro
  intro r t ht
  by_cases hlt : t.val < 512 * k.val
  · rw [View.read_writes_cons_unit_of_not_mem _ _ _ _ _ _ (k0_off6_eq k) 1 (.inl (by simpa using hlt)), View.writes_nil]
    exact hf r t hlt
  · have hx1 : t.val - 512 * k.val < 512 := by omega
    rw [View.read_writes_cons_unit_of_mem _ _ _ _ _ _ (ix2 r ⟨t.val - 512 * k.val, hx1⟩) (k0_off6_eq k)
      (Fin.forall_fin_two.mpr ⟨by simp, by simp; omega⟩)]
    pointwise [k0_pay194, gtVal]
    rw [readAt_unit_eq _ _ _ (k0_off4_eq k) _ (ix2 t r) (Fin.forall_fin_two.mpr ⟨by simp; omega, by simp⟩),
      readAt_unit_eq _ _ _ (k0_off5_eq k) _ (ix3 0 0 t) (Fin.forall_fin_succ.mpr ⟨by simp, Fin.forall_fin_two.mpr ⟨by simp, by simp; omega⟩⟩)]

end Cert.Kernel.Hand
-- ==== Proof.Kernel.Words.lean ====
/- The closed forms of the word arithmetic the kernel does on its prefetched tables: how many batches a block has, which
   sorted position each slot of a batch reads, and which rows of the accumulator it adds into. -/
module

public import proofs.«01_k».proof.Proof.Kernel.Ops
public import Idealize.ShloMosaic.Lib.Affine

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-- A word below 2^31 reads the same signed and unsigned. -/
theorem isI {x : BitVec 32} (h : x.toNat < 2 ^ 31) : Affine.IsInt x (x.toNat : ℤ) := by
  unfold Affine.IsInt
  rw [BitVec.toInt_eq_toNat_cond]
  split <;> omega

/-- A word whose signed reading is a natural number reads as that number. -/
theorem natOf {x : BitVec 32} {n : ℕ} (h : Affine.IsInt x (n : ℤ)) : x.toNat = n := by
  have := Affine.toNat_of h (by omega)
  omega

section Block
variable {v5 v8 : BitVec 32} (hle : v5.toNat ≤ v8.toNat) (hb : v8.toNat ≤ 6144)
include hle hb

/-- The batches of a block: its tokens in groups of 32, rounded up. -/
theorem isInt_batches : Affine.IsInt (k0_t3_loop v5 v8).ub (((v8.toNat - v5.toNat + 31) / 32 : ℕ) : ℤ) := by
  have h5 := isI (x := v5) (by omega)
  have h8 := isI (x := v8) (by omega)
  have a0 : Affine.IsInt 0#32 0 := Affine.ofNat _ (by omega)
  have a1 : Affine.IsInt 1#32 1 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 : Affine.IsInt (Scalar.addi (Scalar.subi v8 v5) 31#32) ((v8.toNat : ℤ) - v5.toNat + 31) := Affine.addi b1 a31 (by omega)
  have b3 : Affine.IsInt (Scalar.divsi (Scalar.addi (Scalar.subi v8 v5) 31#32) 32#32) (((v8.toNat : ℤ) - v5.toNat + 31) / 32) :=
    Affine.divsi b2 a32 (by omega)
  have b4 := Affine.subi b3 a0 (e := ((v8.toNat : ℤ) - v5.toNat + 31) / 32) (by omega)
  have b5 := Affine.divsi_one b4 a1 (e := ((v8.toNat : ℤ) - v5.toNat + 31) / 32) (by omega)
  have b6 := Affine.muli b5 a1 (e := ((v8.toNat : ℤ) - v5.toNat + 31) / 32) (by omega)
  have b7 := Affine.addi a0 b6 (e := (((v8.toNat - v5.toNat + 31) / 32 : ℕ) : ℤ)) (by omega)
  exact b7

/-- The number of trips of the loop over batches. -/
theorem t3_trips : (k0_t3_loop v5 v8).trips = (v8.toNat - v5.toNat + 31) / 32 :=
  Affine.trips_eq (el := 0) (k := 1) (Affine.ofNat _ (by omega)) (isInt_batches hle hb) (Affine.ofNat _ (by omega)) _ (by omega)

/-- The loop over batches is well formed. -/
theorem t3_ok : (k0_t3_loop v5 v8).OK :=
  Affine.ok (el := 0) (k := 1) (Affine.ofNat _ (by omega)) (isInt_batches hle hb) (Affine.ofNat _ (by omega)) (by omega)

/-- The remainder loop makes no trip. -/
theorem t7_trips : (k0_t7_loop v5 v8).trips = 0 := by
  have h5 := isI (x := v5) (by omega)
  have h8 := isI (x := v8) (by omega)
  have a0 : Affine.IsInt 0#32 0 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 := Affine.addi b1 a31 (e := (v8.toNat : ℤ) - v5.toNat + 31) (by omega)
  have b3 := Affine.divsi b2 a32 (e := ((v8.toNat : ℤ) - v5.toNat + 31) / 32) (by omega)
  have b4 := Affine.subi b3 a0 (e := ((v8.toNat : ℤ) - v5.toNat + 31) / 32) (by omega)
  have b5 := Affine.addi a0 b4 (e := (((v8.toNat - v5.toNat + 31) / 32 : ℕ) : ℤ)) (by omega)
  exact Affine.trips_eq (isInt_batches hle hb) b5 (k := 1) (Affine.ofNat _ (by omega)) 0 (by omega)

/-- The remainder loop is well formed. -/
theorem t7_ok : (k0_t7_loop v5 v8).OK := by
  have h5 := isI (x := v5) (by omega)
  have h8 := isI (x := v8) (by omega)
  have a0 : Affine.IsInt 0#32 0 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 := Affine.addi b1 a31 (e := (v8.toNat : ℤ) - v5.toNat + 31) (by omega)
  have b3 := Affine.divsi b2 a32 (e := ((v8.toNat : ℤ) - v5.toNat + 31) / 32) (by omega)
  have b4 := Affine.subi b3 a0 (e := ((v8.toNat : ℤ) - v5.toNat + 31) / 32) (by omega)
  have b5 := Affine.addi a0 b4 (e := (((v8.toNat - v5.toNat + 31) / 32 : ℕ) : ℤ)) (by omega)
  exact Affine.ok (isInt_batches hle hb) b5 (k := 1) (Affine.ofNat _ (by omega)) (by omega)

/-- The sorted position before clamping: first position of the block, plus 32 per batch, plus the slot. -/
theorem isInt_pos {k i : ℕ} (hk : k < (v8.toNat - v5.toNat + 31) / 32) (hi : i < 32) :
    Affine.IsInt (Scalar.addi (Scalar.addi v5 (Scalar.muli (Scf.iv 0#32 1#32 k) 32#32)) (Scf.iv 0#32 1#32 i))
      ((v5.toNat + 32 * k + i : ℕ) : ℤ) := by
  have h5 := isI (x := v5) (by omega)
  have a0 : Affine.IsInt 0#32 0 := Affine.ofNat _ (by omega)
  have a1 : Affine.IsInt 1#32 1 := Affine.ofNat _ (by omega)
  have a32 : Affine.IsInt 32#32 32 := Affine.ofNat _ (by omega)
  have c1 := Affine.iv a0 a1 k (e := (k : ℤ)) (by omega)
  have c2 := Affine.iv a0 a1 i (e := (i : ℤ)) (by omega)
  have c3 := Affine.muli c1 a32 (e := (k : ℤ) * 32) (by omega)
  have c4 := Affine.addi h5 c3 (e := (v5.toNat : ℤ) + k * 32) (by omega)
  exact Affine.addi c4 c2 (by omega)

/-- The clamped sorted position. -/
theorem toNat_pos {k i : ℕ} (hk : k < (v8.toNat - v5.toNat + 31) / 32) (hi : i < 32) :
    (Scalar.minsi (Scalar.addi (Scalar.addi v5 (Scalar.muli (Scf.iv 0#32 1#32 k) 32#32)) (Scf.iv 0#32 1#32 i))
      (Scalar.subi v8 1#32)).toNat = min (v5.toNat + 32 * k + i) (v8.toNat - 1) := by
  have h8 := isI (x := v8) (by omega)
  have c := isInt_pos hle hb hk hi
  have a1 : Affine.IsInt 1#32 1 := Affine.ofNat _ (by omega)
  have d := Affine.subi h8 a1 (e := (v8.toNat : ℤ) - 1) (by omega)
  exact natOf (Affine.minsi c d (by omega))

/-- The loop counters of the three inner loops are below 32. -/
theorem t4_lt (k : Fin k0_t4_loop.trips) : k.val < 32 := lt_of_lt_of_le k.isLt k0_t4_abs.2.1
theorem t5_lt (k : Fin k0_t5_loop.trips) : k.val < 32 := lt_of_lt_of_le k.isLt k0_t5_abs.2.1
theorem t6_lt (k : Fin k0_t6_loop.trips) : k.val < 32 := lt_of_lt_of_le k.isLt k0_t6_abs.2.1

/-- The three loads of a sorted position's token. -/
theorem off9_eq (k : Fin (k0_t3_loop v5 v8).trips) (i : Fin k0_t4_loop.trips) :
    k0_off9 v5 v8 k i = ![min (v5.toNat + 32 * k.val + i.val) (v8.toNat - 1)] :=
  congrArg (fun n => ![n]) (toNat_pos hle hb (lt_of_lt_of_eq k.isLt (t3_trips hle hb)) (t4_lt hle hb i))
theorem off12_eq (k : Fin (k0_t3_loop v5 v8).trips) (i : Fin k0_t5_loop.trips) :
    k0_off12 v5 v8 k i = ![min (v5.toNat + 32 * k.val + i.val) (v8.toNat - 1)] :=
  congrArg (fun n => ![n]) (toNat_pos hle hb (lt_of_lt_of_eq k.isLt (t3_trips hle hb)) (t5_lt hle hb i))
theorem off15_eq (k : Fin (k0_t3_loop v5 v8).trips) (i : Fin k0_t6_loop.trips) :
    k0_off15 v5 v8 k i = ![min (v5.toNat + 32 * k.val + i.val) (v8.toNat - 1)] :=
  congrArg (fun n => ![n]) (toNat_pos hle hb (lt_of_lt_of_eq k.isLt (t3_trips hle hb)) (t6_lt hle hb i))

/-- What the kernel assumes of a block's first and last position holds. -/
theorem chk1_of : k0_chk1 v5 v8 := by
  have e : ∀ k : Fin (k0_t3_loop v5 v8).trips, v8.toNat ≠ 0 := fun k h0 => by
    have := lt_of_lt_of_eq k.isLt (t3_trips hle hb); omega
  have z : ∀ {P : Prop} (k : Fin (k0_t7_loop v5 v8).trips), P := fun k => absurd (lt_of_lt_of_eq k.isLt (t7_trips hle hb)) (by omega)
  refine ⟨t3_ok hle hb, fun k i => ?_, fun k i => ?_, fun k i => ?_, t7_ok hle hb, fun k _ => z k, fun k _ => z k, fun k _ => z k⟩
  · rw [off9_eq hle hb]
    have := e k
    intro a; fin_cases a; show min _ _ + 1 ≤ 6144; omega
  · rw [off12_eq hle hb]
    have := e k
    intro a; fin_cases a; show min _ _ + 1 ≤ 6144; omega
  · rw [off15_eq hle hb]
    have := e k
    intro a; fin_cases a; show min _ _ + 1 ≤ 6144; omega

/-- The row of the accumulator block a slot adds into: the token's id within the block, or the spare row 384 when the slot
    lies beyond the block's tokens. -/
def slotRow (v5 v8 : BitVec 32) (c k i : ℕ) (s : BitVec 32) : ℕ :=
  if v5.toNat + 32 * k + i < v8.toNat then s.toNat - 384 * c else 384

theorem slotRow_le {c k i : ℕ} {s : BitVec 32}
    (hs : v5.toNat + 32 * k + i < v8.toNat → 384 * c ≤ s.toNat ∧ s.toNat < 384 * (c + 1)) : slotRow v5 v8 c k i s ≤ 384 := by
  unfold slotRow; split
  · have := hs ‹_›; omega
  · omega

theorem mult3_eq (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    (k0_mult3 i v5 v8 k q s).toNat = 24 * slotRow v5 v8 (i 0).val k.val q.val s := by
  have hk := lt_of_lt_of_eq k.isLt (t3_trips hle hb)
  have hq := t6_lt hle hb q
  have hi : (i 0).val < 131 := (i 0).isLt
  have c := isInt_pos hle hb hk hq
  have h8 := isI (x := v8) (by omega)
  have a384 : Affine.IsInt 384#32 384 := Affine.ofNat _ (by omega)
  have a24 : Affine.IsInt 24#32 24 := Affine.ofNat _ (by omega)
  have ai : Affine.IsInt (BitVec.ofNat 32 (i 0).val) ((i 0).val : ℤ) := Affine.ofNat _ (by omega)
  have am := Affine.muli ai a384 (e := (i 0).val * 384) (by omega)
  unfold slotRow
  split
  · rename_i h
    have := hs h
    have asI := isI (x := s) (by omega)
    have ad := Affine.subi asI am (e := s.toNat - (i 0).val * 384) (by omega)
    have ae := Affine.select_holds (Affine.slt_holds c h8 (by omega)) ad a384 (e := s.toNat - (i 0).val * 384) rfl
    exact natOf (Affine.muli ae a24 (by omega))
  · rename_i h
    have ae := Affine.select_fails (Affine.slt_fails c h8 (by omega)) (Affine.word (Scalar.subi s (Scalar.muli (BitVec.ofNat 32 (i 0).val) 384#32))) a384 rfl
    exact natOf (Affine.muli ae a24 (by omega))

theorem off18_eq (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    k0_off18 i v5 v8 k q s = ![24 * slotRow v5 v8 (i 0).val k.val q.val s, 0] :=
  congrArg (fun n => ![n, 0]) (mult3_eq hle hb i k q s hs)

/-- What the kernel assumes of a token's row holds. -/
theorem chk5_of (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    k0_chk5 i v5 v8 k q s := by
  have := slotRow_le hle hb hs
  refine ⟨?_, ?_⟩
  · rw [mult3_eq hle hb i k q s hs]; omega
  · rw [off18_eq hle hb i k q s hs]
    intro a; fin_cases a
    · show 24 * _ + 24 ≤ 9240; omega
    · show 0 + 128 ≤ 128; omega

end Block

/-- A token below 6144 has its word row at a quarter of it. -/
theorem off11_eq {v : BitVec 32} (hv : v.toNat < 6144) : k0_off11 v = ![v.toNat / 4, 0] :=
  congrArg (fun n => ![n, 0]) (natOf (Affine.shrsi (isI (x := v) (by omega)) (Affine.ofNat 2 (by omega) : Affine.IsInt 2#32 2) 2 4 (by norm_num) (by omega)))
theorem off14_eq {v : BitVec 32} (hv : v.toNat < 6144) : k0_off14 v = ![v.toNat / 4, 0] := off11_eq hv
theorem off17_eq (v : BitVec 32) : k0_off17 v = ![v.toNat] := rfl

theorem chk2_of {v : BitVec 32} (hv : v.toNat < 6144) : k0_chk2 v := by
  unfold k0_chk2; rw [off11_eq hv]; intro a; fin_cases a
  · show v.toNat / 4 + 1 ≤ 1536; omega
  · show 0 + 2560 ≤ 2560; omega
theorem chk3_of {v : BitVec 32} (hv : v.toNat < 6144) : k0_chk3 v := chk2_of hv
theorem chk4_of {v : BitVec 32} (hv : v.toNat < 6144) : k0_chk4 v := by
  unfold k0_chk4; rw [off17_eq]; intro a; fin_cases a; show v.toNat + 1 ≤ 6144; omega

/-- What the kernel needs of its three prefetched tables: `O` lists tokens, `S` lists row ids, and `B` cuts the positions into
    blocks: position `j` of block `c` has its id in the block's 384 rows. -/
structure TabOK (O S : S6144.Idx → BitVec 32) (B : S132.Idx → BitVec 32) : Prop where
  ord : ∀ j, (O j).toNat < 6144
  mono : ∀ c c' : Fin 132, c'.val = c.val + 1 → (B (ix1 c)).toNat ≤ (B (ix1 c')).toNat
  le : ∀ c : Fin 132, (B (ix1 c)).toNat ≤ 6144
  seg : ∀ (c c' : Fin 132) (j : Fin 6144), c'.val = c.val + 1 → (B (ix1 c)).toNat ≤ j.val → j.val < (B (ix1 c')).toNat →
    384 * c.val ≤ (S (ix1 j)).toNat ∧ (S (ix1 j)).toNat < 384 * (c.val + 1)

end Cert.Kernel.Hand
-- ==== Proof.Kernel.LoopT11.lean ====
/- The last loop of a grid point: it adds the rows gathered by token id to the block of the result and clears them. -/
module

public import proofs.«01_k».proof.Proof.Kernel.Ops

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- The word zero as an `f32`. -/
def fzero : Elt F .f32 := FloatOps.ofBits .f32 0x00000000#32

/-- The entry of the row buffer that is added at row `r`, column `d` of the block. -/
def embAt (E : S9240x128.Idx → Elt F .f32) (r : Fin 384) (d : Fin 2560) : Elt F .f32 :=
  E (ix2 ⟨24 * r.val + d.val / 128, by omega⟩ ⟨d.val % 128, Nat.mod_lt _ (by decide)⟩)

/-- The block after `k` trips: the rows below `8 * k` have their gathered rows added. -/
def OutAt (D : S384x2560.Idx → Elt F .f32) (E : S9240x128.Idx → Elt F .f32) (k : ℕ) (Y : S384x2560.Idx → Elt F .f32) : Prop :=
  ∀ (r : Fin 384) (d : Fin 2560), Y (ix2 r d) = if r.val < 8 * k then FloatOps.addf (D (ix2 r d)) (embAt E r d) else D (ix2 r d)

/-- The row buffer after `k` trips: its rows below `192 * k` are zero, the others as at the start. -/
def EmbAt (E : S9240x128.Idx → Elt F .f32) (k : ℕ) (Z : S9240x128.Idx → Elt F .f32) : Prop :=
  ∀ (R : Fin 9240) (l : Fin 128), Z (ix2 R l) = if R.val < 192 * k then fzero else E (ix2 R l)

/-- The invariant of the loop. -/
def invT11 (c : Dev nD) (arg10 : Memref sig .tc .vmem S384x2560 .f32) (arg14 : Memref sig .tc .vmem S9240x128 .f32)
    (D : S384x2560.Idx → Elt F .f32) (E : S9240x128.Idx → Elt F .f32) (k : ℕ) (_ : Unit) : sProp 𝕄 :=
  iprop(holds c arg10 (OutAt D E k) ∗ holds c arg14 (EmbAt E k))

/-- What one piece of a trip stores: the block's entries plus the row buffer's, at the piece's own place. -/
theorem pieceT11 (f : BufTy.Contents (Elt F) arg10.view.ty) (g : BufTy.Contents (Elt F) arg14.view.ty) (k : Fin k0_t11_loop.trips) (b : Fin 20)
    (hk : k.val < 48) {off : Fin 2 → ℕ} (hoff : off = ![8 * k.val, 128 * b.val]) (inb : ∀ a, off a + S8x128.size a ≤ S384x2560.size a)
    (inb' : ∀ (a : Fin S9240x128.rank), S8x128.size a = 0 ∨ k0_off30 k (BitVec.ofNat 32 b.val) a + (![24, 1] : Fin 2 → ℕ) a * (S8x128.size a - 1) < S9240x128.size a)
    (x : S8x128.Idx) :
    FloatOps.addf (View.readAt (Elt F) arg10.view (Rect.unit (s := S384x2560) off S8x128.size inb).toLoadRect f x)
        (View.readAt (Elt F) arg14.view (⟨k0_off30 k (BitVec.ofNat 32 b.val), S8x128.size, ![24, 1], inb'⟩ : LoadRect S9240x128) g x)
      = (fun y : S384x2560.Idx => FloatOps.addf (arg10.view.read (Elt F) f y) (embAt (arg14.view.read (Elt F) g) (y 0) (y 1)))
          ((Rect.unit (s := S384x2560) off S8x128.size inb).emb x) := by
  have h0 : (x 0).val < 8 := (x 0).isLt
  have h1 : (x 1).val < 128 := (x 1).isLt
  subst hoff
  refine congrArg₂ FloatOps.addf rfl (readAt_eq _ _ _ _ _ (Fin.forall_fin_two.mpr ⟨?_, ?_⟩))
  · show k0_off30 k (BitVec.ofNat 32 b.val) 0 + 24 * (x 0).val = 24 * (8 * k.val + 1 * (x 0).val) + (128 * b.val + 1 * (x 1).val) / 128
    rw [k0_off30_eq]; show 192 * k.val + b.val + 24 * (x 0).val = _; omega
  · show k0_off30 k (BitVec.ofNat 32 b.val) 1 + 1 * (x 1).val = (128 * b.val + 1 * (x 1).val) % 128
    rw [k0_off30_eq]; show 0 + 1 * (x 1).val = _; omega

/-- One trip adds and clears eight rows. -/
theorem stepT11 (𝒱 : Variants) (c : Dev nD) (bd : Option 𝒱.V) (i : grid0.Coords)
    (D : S384x2560.Idx → Elt F .f32) (E : S9240x128.Idx → Elt F .f32) (k : Fin k0_t11_loop.trips) (u : Unit) :
    invT11 c arg10 arg14 D E k.val u
      ⊢ wp frame (wpE (defs₀ (F := F)) 𝒱 (c : Thread nD τ) bd) Set.univ (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k u)
          (fun u' => (invT11 c arg10 arg14 D E (k.val + 1) u' : sProp 𝕄)) := by
  have hk : k.val < 48 := Nat.lt_of_lt_of_le k.isLt k0_t11_abs.2.1
  unfold invT11 holds k0_t11_body
  iintro ⟨⟨%f, H10, %hf⟩, ⟨%g, H14, %hg⟩⟩
  sl_exec
  sl_step
  isplitl [H10]
  · iexists _
    isplitl [H10]; · iexact H10
    ipureintro
    intro r d
    by_cases hin : 8 * k.val ≤ r.val ∧ r.val < 8 * k.val + 8
    · rw [View.read_writes_apply_of_pieces _ _ (fun y : S384x2560.Idx => FloatOps.addf (arg10.view.read (Elt F) f y) (embAt (arg14.view.read (Elt F) g) (y 0) (y 1)))]
      · rw [if_pos (by omega)]
        show FloatOps.addf (arg10.view.read (Elt F) f (ix2 r d)) (embAt (arg14.view.read (Elt F) g) r d) = _
        rw [hf r d, if_neg (by omega)]
        unfold embAt
        rw [hg, if_neg (by simp; omega)]
      · simp only [List.forall_mem_cons]
        refine ⟨?_, ?_, ?_, ?_, ?_, ?_, ?_, ?_, ?_, ?_, ?_, ?_, ?_, ?_, ?_, ?_, ?_, ?_, ?_, ?_, fun p hp => absurd hp List.not_mem_nil⟩ <;> intro x
        all_goals sl_unfold_words
        all_goals simp only [k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, shapeCast_self]
        · exact pieceT11 f g k 19 hk (k0_off49_eq k) _ _ x
        · exact pieceT11 f g k 18 hk (k0_off48_eq k) _ _ x
        · exact pieceT11 f g k 17 hk (k0_off47_eq k) _ _ x
        · exact pieceT11 f g k 16 hk (k0_off46_eq k) _ _ x
        · exact pieceT11 f g k 15 hk (k0_off45_eq k) _ _ x
        · exact pieceT11 f g k 14 hk (k0_off44_eq k) _ _ x
        · exact pieceT11 f g k 13 hk (k0_off43_eq k) _ _ x
        · exact pieceT11 f g k 12 hk (k0_off42_eq k) _ _ x
        · exact pieceT11 f g k 11 hk (k0_off41_eq k) _ _ x
        · exact pieceT11 f g k 10 hk (k0_off40_eq k) _ _ x
        · exact pieceT11 f g k 9 hk (k0_off39_eq k) _ _ x
        · exact pieceT11 f g k 8 hk (k0_off38_eq k) _ _ x
        · exact pieceT11 f g k 7 hk (k0_off37_eq k) _ _ x
        · exact pieceT11 f g k 6 hk (k0_off36_eq k) _ _ x
        · exact pieceT11 f g k 5 hk (k0_off35_eq k) _ _ x
        · exact pieceT11 f g k 4 hk (k0_off34_eq k) _ _ x
        · exact pieceT11 f g k 3 hk (k0_off33_eq k) _ _ x
        · exact pieceT11 f g k 2 hk (k0_off32_eq k) _ _ x
        · exact pieceT11 f g k 1 hk (k0_off31_eq k) _ _ x
        · exact pieceT11 f g k 0 hk (k0_off29_eq k) _ _ x
      · obtain ⟨q, hq⟩ : ∃ q : Fin 20, d.val / 128 = q.val := ⟨⟨d.val / 128, by omega⟩, rfl⟩
        fin_cases q <;> simp at hq
        · exact ex_tail (ex_tail (ex_tail (ex_tail (ex_tail (ex_tail (ex_tail (ex_tail (ex_tail (ex_tail (ex_tail (ex_tail (ex_tail (ex_tail (ex_tail (ex_tail (ex_tail (ex_tail (ex_tail (ex_head (mem_unit2 (inb := k0_off29_inb k) (k0_off29_eq k) (by omega) (by omega) (by omega) (by omega)))))))))))))))))))))
        · exact ex_tail (ex_tail (ex_tail (ex_tail (ex_tail (ex_tail (ex_tail (ex_tail (ex_tail (ex_tail (ex_tail (ex_tail (ex_tail (ex_tail (ex_tail (ex_tail (ex_tail (ex_tail (ex_head (mem_unit2 (inb := k0_off31_inb k) (k0_off31_eq k) (by omega) (by omega) (by omega) (by omega))))))))))))))))))))
        · exact ex_tail (ex_tail (ex_tail (ex_tail (ex_tail (ex_tail (ex_tail (ex_tail (ex_tail (ex_tail (ex_tail (ex_tail (ex_tail (ex_tail (ex_tail (ex_tail (ex_tail (ex_head (mem_unit2 (inb := k0_off32_inb k) (k0_off32_eq k) (by omega) (by omega) (by omega) (by omega)))))))))))))))))))
        · exact ex_tail (ex_tail (ex_tail (ex_tail (ex_tail (ex_tail (ex_tail (ex_tail (ex_tail (ex_tail (ex_tail (ex_tail (ex_tail (ex_tail (ex_tail (ex_tail (ex_head (mem_unit2 (inb := k0_off33_inb k) (k0_off33_eq k) (by omega) (by omega) (by omega) (by omega))))))))))))))))))
        · exact ex_tail (ex_tail (ex_tail (ex_tail (ex_tail (ex_tail (ex_tail (ex_tail (ex_tail (ex_tail (ex_tail (ex_tail (ex_tail (ex_tail (ex_tail (ex_head (mem_unit2 (inb := k0_off34_inb k) (k0_off34_eq k) (by omega) (by omega) (by omega) (by omega)))))))))))))))))
        · exact ex_tail (ex_tail (ex_tail (ex_tail (ex_tail (ex_tail (ex_tail (ex_tail (ex_tail (ex_tail (ex_tail (ex_tail (ex_tail (ex_tail (ex_head (mem_unit2 (inb := k0_off35_inb k) (k0_off35_eq k) (by omega) (by omega) (by omega) (by omega))))))))))))))))
        · exact ex_tail (ex_tail (ex_tail (ex_tail (ex_tail (ex_tail (ex_tail (ex_tail (ex_tail (ex_tail (ex_tail (ex_tail (ex_tail (ex_head (mem_unit2 (inb := k0_off36_inb k) (k0_off36_eq k) (by omega) (by omega) (by omega) (by omega)))))))))))))))
        · exact ex_tail (ex_tail (ex_tail (ex_tail (ex_tail (ex_tail (ex_tail (ex_tail (ex_tail (ex_tail (ex_tail (ex_tail (ex_head (mem_unit2 (inb := k0_off37_inb k) (k0_off37_eq k) (by omega) (by omega) (by omega) (by omega))))))))))))))
        · exact ex_tail (ex_tail (ex_tail (ex_tail (ex_tail (ex_tail (ex_tail (ex_tail (ex_tail (ex_tail (ex_tail (ex_head (mem_unit2 (inb := k0_off38_inb k) (k0_off38_eq k) (by omega) (by omega) (by omega) (by omega)))))))))))))
        · exact ex_tail (ex_tail (ex_tail (ex_tail (ex_tail (ex_tail (ex_tail (ex_tail (ex_tail (ex_tail (ex_head (mem_unit2 (inb := k0_off39_inb k) (k0_off39_eq k) (by omega) (by omega) (by omega) (by omega))))))))))))
        · exact ex_tail (ex_tail (ex_tail (ex_tail (ex_tail (ex_tail (ex_tail (ex_tail (ex_tail (ex_head (mem_unit2 (inb := k0_off40_inb k) (k0_off40_eq k) (by omega) (by omega) (by omega) (by omega)))))))))))
        · exact ex_tail (ex_tail (ex_tail (ex_tail (ex_tail (ex_tail (ex_tail (ex_tail (ex_head (mem_unit2 (inb := k0_off41_inb k) (k0_off41_eq k) (by omega) (by omega) (by omega) (by omega))))))))))
        · exact ex_tail (ex_tail (ex_tail (ex_tail (ex_tail (ex_tail (ex_tail (ex_head (mem_unit2 (inb := k0_off42_inb k) (k0_off42_eq k) (by omega) (by omega) (by omega) (by omega)))))))))
        · exact ex_tail (ex_tail (ex_tail (ex_tail (ex_tail (ex_tail (ex_head (mem_unit2 (inb := k0_off43_inb k) (k0_off43_eq k) (by omega) (by omega) (by omega) (by omega))))))))
        · exact ex_tail (ex_tail (ex_tail (ex_tail (ex_tail (ex_head (mem_unit2 (inb := k0_off44_inb k) (k0_off44_eq k) (by omega) (by omega) (by omega) (by omega)))))))
        · exact ex_tail (ex_tail (ex_tail (ex_tail (ex_head (mem_unit2 (inb := k0_off45_inb k) (k0_off45_eq k) (by omega) (by omega) (by omega) (by omega))))))
        · exact ex_tail (ex_tail (ex_tail (ex_head (mem_unit2 (inb := k0_off46_inb k) (k0_off46_eq k) (by omega) (by omega) (by omega) (by omega)))))
        · exact ex_tail (ex_tail (ex_head (mem_unit2 (inb := k0_off47_inb k) (k0_off47_eq k) (by omega) (by omega) (by omega) (by omega))))
        · exact ex_tail (ex_head (mem_unit2 (inb := k0_off48_inb k) (k0_off48_eq k) (by omega) (by omega) (by omega) (by omega)))
        · exact ex_head (mem_unit2 (inb := k0_off49_inb k) (k0_off49_eq k) (by omega) (by omega) (by omega) (by omega))
    · rw [View.read_writes_apply_of_forall_not_mem]
      · rw [hf r d]
        by_cases h : r.val < 8 * k.val
        · rw [if_pos h, if_pos (by omega)]
        · rw [if_neg h, if_neg (by omega)]
      · simp only [List.forall_mem_cons]
        exact ⟨not_mem_unit2_row (k0_off49_eq k) (by omega),
          not_mem_unit2_row (k0_off48_eq k) (by omega),
          not_mem_unit2_row (k0_off47_eq k) (by omega),
          not_mem_unit2_row (k0_off46_eq k) (by omega),
          not_mem_unit2_row (k0_off45_eq k) (by omega),
          not_mem_unit2_row (k0_off44_eq k) (by omega),
          not_mem_unit2_row (k0_off43_eq k) (by omega),
          not_mem_unit2_row (k0_off42_eq k) (by omega),
          not_mem_unit2_row (k0_off41_eq k) (by omega),
          not_mem_unit2_row (k0_off40_eq k) (by omega),
          not_mem_unit2_row (k0_off39_eq k) (by omega),
          not_mem_unit2_row (k0_off38_eq k) (by omega),
          not_mem_unit2_row (k0_off37_eq k) (by omega),
          not_mem_unit2_row (k0_off36_eq k) (by omega),
          not_mem_unit2_row (k0_off35_eq k) (by omega),
          not_mem_unit2_row (k0_off34_eq k) (by omega),
          not_mem_unit2_row (k0_off33_eq k) (by omega),
          not_mem_unit2_row (k0_off32_eq k) (by omega),
          not_mem_unit2_row (k0_off31_eq k) (by omega),
          not_mem_unit2_row (k0_off29_eq k) (by omega), fun p hp => absurd hp List.not_mem_nil⟩
  · iexists _
    isplitl [H14]; · iexact H14
    ipureintro
    intro R l
    by_cases hlt : 192 * k.val ≤ R.val ∧ R.val < 192 * k.val + 192
    · rw [View.read_writes_cons_unit_of_mem _ _ _ _ _ _ (ix2 ⟨R.val - 192 * k.val, by omega⟩ l) (k0_off50_eq k)
        (Fin.forall_fin_two.mpr ⟨by simp; omega, by simp⟩), if_pos (by omega)]
      pointwise [k0_pay4, fzero]
    · rw [View.read_writes_cons_unit_of_not_mem _ _ _ _ _ _ (k0_off50_eq k) 0 (by simp; omega), View.writes_nil, hg R l]
      by_cases h : R.val < 192 * k.val
      · rw [if_pos h, if_pos (by omega)]
      · rw [if_neg h, if_neg (by omega)]

end Cert.Kernel.Hand
-- ==== Proof.Kernel.LoopT6.lean ====
/- The loop that adds a batch's 32 decoded rows into the row buffer, one token a trip. -/
module

public import proofs.«01_k».proof.Proof.Kernel.Words
public import proofs.«01_k».proof.Proof.Kernel.LoopT11

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- Byte `t % 4` of a word. -/
def byteOf (w : BitVec 32) (t : BitVec 32) : BitVec 32 :=
  IntOp.andi (IntOp.shrui .vector w (Scalar.muli (Scalar.andi t 3#32) 8#32)) 255#32

/-- The decoding of an 8-bit float code by integer arithmetic. -/
def decByte (b : BitVec 32) : Elt F .f32 :=
  Scalar.select (IntOp.cmpi .slt (IntOp.andi b 127#32) 4#32)
    (Scalar.select (IntOp.cmpi .ne (IntOp.andi b 128#32) 0#32)
      (FloatOps.subf (FloatOps.ofBits .f32 0x00000000#32) (FloatOps.mulf (FloatOps.sitofp .f32 (IntOp.andi b 127#32)) (FloatOps.ofBits .f32 0x37800000#32)))
      (FloatOps.mulf (FloatOps.sitofp .f32 (IntOp.andi b 127#32)) (FloatOps.ofBits .f32 0x37800000#32)))
    (FloatOps.ofBits .f32 (IntOp.ori (IntOp.addi (IntOp.shli .vector (IntOp.andi b 127#32) 21#32) (Scalar.select (IntOp.cmpi .sge (IntOp.andi b 127#32) 124#32) 1879048192#32 939524096#32)) (IntOp.shli .vector (IntOp.andi b 128#32) 24#32)))

theorem pay197_apply (v373 : BitVec 32) (v382 : Vec F S24x128 .i32) (v419 : Elt F .f32) (v425 : Vec F S24x128 .f32) (r : Fin 24) (l : Fin 128) :
    k0_pay197 (F := F) (k0_pay5 (F := F) v373 v382) (k0_pay6 (F := F) v373 v382) (k0_pay7 v373 v382) (k0_pay8 v373 v382) 4#32 v419 v425 (ix2 r l)
      = FloatOps.addf (v425 (ix2 r l)) (FloatOps.mulf (decByte (byteOf (v382 (ix2 r l)) v373)) v419) := by
  unfold k0_pay197 k0_pay7 k0_pay8 k0_pay6 k0_pay5
  pointwise []
  rfl

/-- Entry `j` of a table of 6144 words. -/
def at1 {e : EltTy} (X : S6144.Idx → Elt F e) (j : ℕ) : Elt F e := X (ix1 ⟨min j 6143, by omega⟩)

/-- The word of token `t`, column `d`: tokens are packed four to a row. -/
def ewAt (EW : S1536x2560.Idx → BitVec 32) (t : ℕ) (d : Fin 2560) : BitVec 32 := EW (ix2 ⟨min (t / 4) 1535, by omega⟩ d)

/-- What sorted position `j` contributes at column `d`: its token's decoded code times its token's scale. -/
def termv (O : S6144.Idx → Elt F .i32) (ESC : S6144.Idx → Elt F .f32) (EW : S1536x2560.Idx → BitVec 32) (j : ℕ) (d : Fin 2560) : Elt F .f32 :=
  FloatOps.mulf (decByte (F := F) (byteOf (ewAt EW (BitVec.toNat (at1 (F := F) O j)) d) (at1 (F := F) O j))) (at1 ESC (BitVec.toNat (at1 (F := F) O j)))

/-- Row `r`, column `d` of a block after its first `n` positions, from position `A` on. -/
def accv (O S : S6144.Idx → Elt F .i32) (ESC : S6144.Idx → Elt F .f32) (EW : S1536x2560.Idx → BitVec 32) (A cb : ℕ) (r : Fin 384) (d : Fin 2560) :
    ℕ → Elt F .f32
  | 0 => fzero
  | n + 1 => if BitVec.toNat (at1 (F := F) S (A + n)) - 384 * cb = r.val then FloatOps.addf (accv O S ESC EW A cb r d n) (termv O ESC EW (A + n) d)
      else accv O S ESC EW A cb r d n

/-- The row buffer holds the sums of the first `n` positions. -/
def AccAt (O S : S6144.Idx → Elt F .i32) (ESC : S6144.Idx → Elt F .f32) (EW : S1536x2560.Idx → BitVec 32) (A cb n : ℕ) (Z : S9240x128.Idx → Elt F .f32) : Prop :=
  ∀ (r : Fin 384) (d : Fin 2560), embAt Z r d = accv O S ESC EW A cb r d n

/-- The repacked ring holds the words of batch `k`'s 32 tokens, 24 buffer rows to a token. -/
def RingAt (O : S6144.Idx → Elt F .i32) (EW : S1536x2560.Idx → BitVec 32) (A B k : ℕ) (Z : S768x128.Idx → Elt F .i32) : Prop :=
  ∀ (i : Fin 32) (d : Fin 2560), Z (ix2 ⟨24 * i.val + d.val / 128, by omega⟩ ⟨d.val % 128, Nat.mod_lt _ (by decide)⟩)
    = ewAt EW (BitVec.toNat (at1 (F := F) O (min (A + 32 * k + i.val) (B - 1)))) d

/-- Positions `A` to `B` belong to block `cb`. -/
def Seg (S : S6144.Idx → Elt F .i32) (A B cb : ℕ) : Prop :=
  ∀ j, A ≤ j → j < B → 384 * cb ≤ BitVec.toNat (at1 (F := F) S j) ∧ BitVec.toNat (at1 (F := F) S j) < 384 * (cb + 1)

/-- A one-word load of a table reads the table's entry at the load's offset. -/
theorem smemVal {e : EltTy} (v : View sig .tc .smem S6144 e) (f : v.ty.Contents (Elt F)) {off : Fin 1 → ℕ} {n : ℕ} (hoff : off = ![n]) (hn : n < 6144)
    (inb : ∀ a, off a + S1.size a ≤ S6144.size a) (x : (Rect.unit (s := S6144) off S1.size inb).toLoadRect.shape.Idx) :
    View.readAt (Elt F) v (Rect.unit (s := S6144) off S1.size inb).toLoadRect f x = at1 (v.read (Elt F) f) n := by
  refine readAt_unit_eq v f inb hoff x _ fun a => ?_
  have hx : (x 0).val < 1 := (x 0).isLt
  fin_cases a
  show n + (x 0).val = min n 6143
  omega

/-- The invariant of the loop. -/
def invT6 (c : Dev nD) (arg1 arg2 : Memref sig .tc .smem S6144 .i32) (arg4 : Memref sig .tc .smem S6144 .f32) (arg14 : Memref sig .tc .vmem S9240x128 .f32)
    (arg16 : Memref sig .tc .vmem S768x128 .i32) (sh : PosShare TreeShare) (X1 : BufTy.Contents (Elt F) arg1.view.ty) (X2 : BufTy.Contents (Elt F) arg2.view.ty)
    (X4 : BufTy.Contents (Elt F) arg4.view.ty) (EW : S1536x2560.Idx → BitVec 32) (A B cb k3 k : ℕ) (_ : BitVec 32) : sProp 𝕄 :=
  iprop((arg1.view.loc (c : Thread nD τ) ↦{sh} X1) ∗ (arg2.view.loc (c : Thread nD τ) ↦{sh} X2) ∗ (arg4.view.loc (c : Thread nD τ) ↦[arg4.view.set]{fullShare} X4)
    ∗ holds c arg14 (AccAt (arg1.view.read (Elt F) X1) (arg2.view.read (Elt F) X2) (arg4.view.read (Elt F) X4) EW A cb (min (32 * k3 + k) (B - A)))
    ∗ holds c arg16 (RingAt (arg1.view.read (Elt F) X1) EW A B k3))

/-- One trip adds one token's row. -/
theorem stepT6 (𝒱 : Variants) (c : Dev nD) (bd : Option 𝒱.V) (i : grid0.Coords) (sh : PosShare TreeShare) (X1 : BufTy.Contents (Elt F) arg1.view.ty)
    (X2 : BufTy.Contents (Elt F) arg2.view.ty) (X4 : BufTy.Contents (Elt F) arg4.view.ty) (EW : S1536x2560.Idx → BitVec 32) (v5 v8 : Elt F .i32) (hw1 : k0_chk1 v5 v8)
    (hle : v5.toNat ≤ v8.toNat) (hb : v8.toNat ≤ 6144) (hO : ∀ j, BitVec.toNat (arg1.view.read (Elt F) X1 j) < 6144)
    (hS : Seg (F := F) (arg2.view.read (Elt F) X2) v5.toNat v8.toNat (i 0).val) (k3 : Fin (k0_t3_loop v5 v8).trips)
    (v41 : BitVec 32) (hv41 : v41 = Scalar.addi v5 (Scalar.muli (Scf.iv 0#32 1#32 k3.val) 32#32)) (k : Fin k0_t6_loop.trips) (u : BitVec 32) :
    invT6 c arg1 arg2 arg4 arg14 arg16 sh X1 X2 X4 EW v5.toNat v8.toNat (i 0).val k3.val k.val u
      ⊢ wp frame (wpE (defs₀ (F := F)) 𝒱 (c : Thread nD τ) bd) Set.univ
          (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (BitVec.ofNat 32 (i 0).val) v5 v8 hw1 k3 v41 k u)
          (fun u' => (invT6 c arg1 arg2 arg4 arg14 arg16 sh X1 X2 X4 EW v5.toNat v8.toNat (i 0).val k3.val (k.val + 1) u' : sProp 𝕄)) := by
  have hk : k.val < 32 := t6_lt hle hb k
  unfold invT6 holds k0_t6_body
  iintro ⟨H1, H2, H4, ⟨%f, H14, %hf⟩, ⟨%g, H16, %hg⟩⟩
  sl_exec
  have hk3 := lt_of_lt_of_eq k3.isLt (t3_trips hle hb)
  generalize hp : min (v5.toNat + 32 * k3.val + k.val) (v8.toNat - 1) = p
  have hp' : p < 6144 := by omega
  have e1 : stepT6.sl.r X1 v5 v8 hw1 k3 k = at1 (arg1.view.read (Elt F) X1) p := by
    unfold stepT6.sl.r
    exact smemVal _ _ ((off15_eq hle hb k3 k).trans (congrArg (fun n => ![n]) hp)) hp' _ _
  have hw4 : k0_chk4 (stepT6.sl.r X1 v5 v8 hw1 k3 k) := by rw [e1]; exact chk4_of (hO _)
  sl_exec
  have hseg : v5.toNat + 32 * k3.val + k.val < v8.toNat → 384 * (i 0).val ≤ (stepT6.sl.r_1 X2 v5 v8 hw1 k3 k).toNat
      ∧ (stepT6.sl.r_1 X2 v5 v8 hw1 k3 k).toNat < 384 * ((i 0).val + 1) := by
    intro h
    have e2 : stepT6.sl.r_1 X2 v5 v8 hw1 k3 k = at1 (arg2.view.read (Elt F) X2) p := by
      unfold stepT6.sl.r_1
      exact smemVal _ _ ((off15_eq hle hb k3 k).trans (congrArg (fun n => ![n]) hp)) hp' _ _
    rw [e2]
    exact hS p (by omega) (by omega)
  have hw5 : k0_chk5 i v5 v8 k3 k (stepT6.sl.r_1 X2 v5 v8 hw1 k3 k) := chk5_of hle hb i k3 k _ hseg
  sl_exec
  sl_step
  isplitl [H1]; · iexact H1
  isplitl [H2]; · iexact H2
  isplitl [H4]; · iexact H4
  isplitr [H16]
  · iexists _
    isplitl [H14]; · iexact H14
    ipureintro
    intro r d
    have hr := r.isLt
    have hd := d.isLt
    unfold embAt
    by_cases hj : v5.toNat + 32 * k3.val + k.val < v8.toNat
    · have hpj : v5.toNat + (32 * k3.val + k.val) = p := by omega
      have e2 : stepT6.sl.r_1 X2 v5 v8 hw1 k3 k = at1 (arg2.view.read (Elt F) X2) p := by
        unfold stepT6.sl.r_1
        exact smemVal _ _ ((off15_eq hle hb k3 k).trans (congrArg (fun n => ![n]) hp)) hp' _ _
      have hs := hseg hj
      rw [show min (32 * k3.val + (k.val + 1)) (v8.toNat - v5.toNat) = (32 * k3.val + k.val) + 1 by omega]
      rw [show min (32 * k3.val + k.val) (v8.toNat - v5.toNat) = 32 * k3.val + k.val by omega] at hf
      have e18 := off18_eq hle hb i k3 k _ hseg
      unfold slotRow at e18
      rw [if_pos hj] at e18
      unfold accv
      rw [hpj, ← e2]
      by_cases hit : (stepT6.sl.r_1 X2 v5 v8 hw1 k3 k).toNat - 384 * (i 0).val = r.val
      · rw [if_pos hit, View.read_writes_cons_unit_of_mem _ _ _ _ _ _ (ix2 ⟨d.val / 128, by omega⟩ ⟨d.val % 128, by omega⟩) e18
          (Fin.forall_fin_two.mpr ⟨by simp [hit], by simp⟩)]
        have e6 : stepT6.sl.r_6 X1 X4 v5 v8 hw1 k3 k hw4 = at1 (arg4.view.read (Elt F) X4) (BitVec.toNat (at1 (F := F) (arg1.view.read (Elt F) X1) p)) := by
          unfold stepT6.sl.r_6
          exact smemVal _ _ ((off17_eq _).trans (congrArg (fun w : BitVec 32 => ![w.toNat]) e1)) (hO _) _ _
        rw [e6]
        unfold stepT6.sl.r_2 stepT6.sl.r_3 stepT6.sl.r_4 stepT6.sl.r_5
        rw [e1]
        refine (pay197_apply _ _ _ _ _ _).trans (congrArg₂ FloatOps.addf ?_ (congrArg (fun b => FloatOps.mulf (decByte (byteOf b _)) _) ?_))
        · refine (readAt_unit2 arg14.view f _ e18 _ _ ⟨24 * r.val + d.val / 128, by omega⟩ ⟨d.val % 128, by omega⟩ ?_ ?_).trans (hf r d)
          · show 24 * _ + d.val / 128 = 24 * r.val + d.val / 128
            rw [hit]
          · show 0 + d.val % 128 = d.val % 128
            omega
        · refine (readAt_unit2 arg16.view g _ (k0_off16_eq k) _ _ ⟨24 * k.val + d.val / 128, by omega⟩ ⟨d.val % 128, by omega⟩ ?_ ?_).trans
            ((hg ⟨k.val, hk⟩ d).trans ?_)
          · rfl
          · show 0 + d.val % 128 = d.val % 128
            omega
          rw [show min (v5.toNat + 32 * k3.val + (⟨k.val, hk⟩ : Fin 32).val) (v8.toNat - 1) = p from hp]
      · rw [if_neg hit, View.read_writes_cons_unit_of_not_mem _ _ _ _ _ _ e18 0 (by simp; omega)]
        exact hf r d
    · have e18 := off18_eq hle hb i k3 k _ hseg
      unfold slotRow at e18
      rw [if_neg hj] at e18
      rw [View.read_writes_cons_unit_of_not_mem _ _ _ _ _ _ e18 0 (by simp; omega)]
      rw [show min (32 * k3.val + (k.val + 1)) (v8.toNat - v5.toNat) = min (32 * k3.val + k.val) (v8.toNat - v5.toNat) by omega]
      exact hf r d
  · iexists _
    isplitl [H16]; · iexact H16
    ipureintro
    exact hg

end Cert.Kernel.Hand
-- ==== Proof.Kernel.LoopT45.lean ====
/- The two loops that fetch a batch's 32 word rows: one issues the transfers, the other waits for them. -/
module

public import proofs.«01_k».proof.Proof.Kernel.LoopT6
public import Idealize.ShloMosaic.Lib.Batch
public import Idealize.ShloMosaic.Lib.ShareLeaves
public import Idealize.ShloMosaic.Lib.SparseCore.Stream

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero)
open ShareLeaves (leaf pointsTo_leaves)

/-- Row `n` of the words' buffer. -/
abbrev srcRow (arg9 : Memref sig .tc .hbm S1536x2560 .i32) (n : Fin 1536) : Memref sig .tc .hbm S1x2560 .i32 :=
  arg9.slice (Rect.unit (s := S1536x2560) ![n.val, 0] S1x2560.size (Fin.forall_fin_two.mpr ⟨n.isLt, Nat.le_refl _⟩)) (fun _ => rfl)

/-- Row `t` of the ring. -/
abbrev dstRow (arg15 : Memref sig .tc .vmem S32x2560 .i32) (t : Fin 32) : Memref sig .tc .vmem S1x2560 .i32 :=
  arg15.slice (Rect.unit (s := S32x2560) ![t.val, 0] S1x2560.size (Fin.forall_fin_two.mpr ⟨t.isLt, Nat.le_refl _⟩)) (fun _ => rfl)

/-- What transfer `t` delivers: the ring's row holding the words' row, and the share of the words' row back. -/
def delivT (c : Dev nD) (arg9 : Memref sig .tc .hbm S1536x2560 .i32) (arg15 : Memref sig .tc .vmem S32x2560 .i32)
    (XE : BufTy.Contents (Elt F) arg9.view.ty) (f : BufTy.Contents (Elt F) arg15.view.ty) (w : Fin 32 → Fin 1536) (t : Fin 32) : sProp 𝕄 :=
  iprop((arg15.view.loc (c : Thread nD τ) ↦[(dstRow arg15 t).view.set]{fullShare} ((dstRow arg15 t).view.write (Elt F) f ((srcRow arg9 (w t)).view.read (Elt F) XE) Finset.univ))
    ∗ (arg9.view.loc (c : Thread nD τ) ↦[(srcRow arg9 (w t)).view.set]{leaf 5 fullShare t} XE))

instance delivT_storable (c : Dev nD) (arg9 : Memref sig .tc .hbm S1536x2560 .i32) (arg15 : Memref sig .tc .vmem S32x2560 .i32)
    (XE : BufTy.Contents (Elt F) arg9.view.ty) (f : BufTy.Contents (Elt F) arg15.view.ty) (w : Fin 32 → Fin 1536) (t : Fin 32) :
    Storable (upEmb : UEmb _ 𝕄) (delivT c arg9 arg15 XE f w t) := by
  unfold delivT; infer_instance

/-- The units one row's transfer credits. -/
def rowN (arg15 : Memref sig .tc .vmem S32x2560 .i32) : ℕ := (dstRow arg15 0).view.dmaCredit

theorem rowN_pos : 0 < rowN arg15 := (dstRow arg15 0).view.dmaCredit_pos (by decide)

/-- The batch: 32 transfers on the kernel's own semaphore. -/
abbrev batchT (c : Dev nD) (arg9 : Memref sig .tc .hbm S1536x2560 .i32) (arg15 : Memref sig .tc .vmem S32x2560 .i32) (arg18 : DmaSems sig S_)
    (XE : BufTy.Contents (Elt F) arg9.view.ty) (f : BufTy.Contents (Elt F) arg15.view.ty) (w : Fin 32 → Fin 1536) (j u : ℕ) : sProp 𝕄 :=
  Batch (countersEmb (U := Pipeline.UD sig nD τ)) (c : Thread nD τ) (.dma arg18.sem) () (rowN arg15) (delivT c arg9 arg15 XE f w) j u

/-- The invariant of the issuing loop. -/
def invT4 (c : Dev nD) (arg1 : Memref sig .tc .smem S6144 .i32) (arg9 : Memref sig .tc .hbm S1536x2560 .i32) (arg15 : Memref sig .tc .vmem S32x2560 .i32)
    (arg18 : DmaSems sig S_) (sh : PosShare TreeShare) (X1 : BufTy.Contents (Elt F) arg1.view.ty)
    (XE : BufTy.Contents (Elt F) arg9.view.ty) (f : BufTy.Contents (Elt F) arg15.view.ty) (w : Fin 32 → Fin 1536) (j : ℕ) (_ : BitVec 32) : sProp 𝕄 :=
  iprop((arg1.view.loc (c : Thread nD τ) ↦{sh} X1)
    ∗ bigSep (pending (n := 32) j) (fun t => (arg9.view.loc (c : Thread nD τ) ↦[(srcRow arg9 (w t)).view.set]{leaf 5 fullShare t} XE : sProp 𝕄))
    ∗ bigSep (pending (n := 32) j) (fun t => (arg15.view.loc (c : Thread nD τ) ↦[(dstRow arg15 t).view.set]{fullShare} f : sProp 𝕄))
    ∗ batchT c arg9 arg15 arg18 XE f w j 0)

/-- The invariant of the waiting loop. -/
def invT5 (c : Dev nD) (arg1 : Memref sig .tc .smem S6144 .i32) (arg9 : Memref sig .tc .hbm S1536x2560 .i32) (arg15 : Memref sig .tc .vmem S32x2560 .i32)
    (arg18 : DmaSems sig S_) (sh : PosShare TreeShare) (X1 : BufTy.Contents (Elt F) arg1.view.ty)
    (XE : BufTy.Contents (Elt F) arg9.view.ty) (f : BufTy.Contents (Elt F) arg15.view.ty) (w : Fin 32 → Fin 1536) (j : ℕ) (_ : BitVec 32) : sProp 𝕄 :=
  iprop((arg1.view.loc (c : Thread nD τ) ↦{sh} X1) ∗ batchT c arg9 arg15 arg18 XE f w 32 (rowN arg15 * j) ∗ ∃ W, owes (c : Thread nD τ) 0 W)

/-- Issuing the transfer of one row. -/
theorem wp_row (𝒱 : Variants) (c : Dev nD) (bd : Option 𝒱.V) {α : Type} {Q : α → sProp 𝕄} (XE : BufTy.Contents (Elt F) arg9.view.ty) (f : BufTy.Contents (Elt F) arg15.view.ty)
    (w : Fin 32 → Fin 1536) (t : Fin 32) {off1 off2 : Fin 2 → ℕ} (inb1 : ∀ a, off1 a + S1x2560.size a ≤ S32x2560.size a)
    (inb2 : ∀ a, off2 a + S1x2560.size a ≤ S1536x2560.size a) (h1 : off1 = ![t.val, 0]) (h2 : off2 = ![(w t).val, 0])
    {hsrc hdst hsem} {k : PUnit → Prog (TpuEff nD τ sig (Elt F) Λ₀ .tc) α} :
    iprop((arg9.view.loc (c : Thread nD τ) ↦[(srcRow arg9 (w t)).view.set]{leaf 5 fullShare t} XE)
        ∗ (arg15.view.loc (c : Thread nD τ) ↦[(dstRow arg15 t).view.set]{fullShare} f) ∗ batchT c arg9 arg15 arg18 XE f w t.val 0)
      ⊢ iprop((batchT c arg9 arg15 arg18 XE f w (t.val + 1) 0 -∗ wp frame (wpE (defs₀ (F := F)) 𝒱 (c : Thread nD τ) bd) Set.univ (k ⟨⟩) Q)
          -∗ wp frame (wpE (defs₀ (F := F)) 𝒱 (c : Thread nD τ) bd) Set.univ
            (.op (.enqueueDma (arg9.slice (Rect.unit (s := S1536x2560) off2 S1x2560.size inb2) (fun _ => rfl))
              (.here (arg15.slice (Rect.unit (s := S32x2560) off1 S1x2560.size inb1) (fun _ => rfl))) (.dma arg18.sem) hsrc hdst hsem) k) Q) := by
  subst h1 h2
  exact Transfers.wp_dmaBatch (countersEmb (U := Pipeline.UD sig nD τ)) 𝒱 (c : Thread nD τ) bd (src := srcRow arg9 (w t)) (dst := dstRow arg15 t)
    (via := .same) () (rowN arg15) rfl (Finset.Subset.refl _) t.isLt (Nat.zero_le _) (by unfold delivT; exact BIBase.Entails.rfl)

/-- Waiting for one row's transfer. -/
theorem wp_rowWait (𝒱 : Variants) (c : Dev nD) (bd : Option 𝒱.V) {α : Type} {Q : α → sProp 𝕄} (XE : BufTy.Contents (Elt F) arg9.view.ty) (f : BufTy.Contents (Elt F) arg15.view.ty)
    (w : Fin 32 → Fin 1536) {j : ℕ} (hj : j < 32) (W : Waits sig Unit) {off1 off2 : Fin 2 → ℕ} (inb1 : ∀ a, off1 a + S1x2560.size a ≤ S32x2560.size a)
    (inb2 : ∀ a, off2 a + S1x2560.size a ≤ S1536x2560.size a) {hsrc hdst} {k : PUnit → Prog (TpuEff nD τ sig (Elt F) Λ₀ .tc) α} :
    iprop(batchT c arg9 arg15 arg18 XE f w 32 (rowN arg15 * j) ∗ owes (c : Thread nD τ) 0 W)
      ⊢ iprop((iprop(batchT c arg9 arg15 arg18 XE f w 32 (rowN arg15 * (j + 1)) ∗ ∃ W, owes (c : Thread nD τ) 0 W) -∗ wp frame (wpE (defs₀ (F := F)) 𝒱 (c : Thread nD τ) bd) Set.univ (k ⟨⟩) Q)
          -∗ wp frame (wpE (defs₀ (F := F)) 𝒱 (c : Thread nD τ) bd) Set.univ
            (.op (.waitDma2 arg18.sem (arg9.slice (Rect.unit (s := S1536x2560) off2 S1x2560.size inb2) (fun _ => rfl))
              (arg15.slice (Rect.unit (s := S32x2560) off1 S1x2560.size inb1) (fun _ => rfl)) hsrc hdst) k) Q) := by
  have h := Transfers.wp_waitBatchMul (countersEmb (U := Pipeline.UD sig nD τ)) 𝒱 (c : Thread nD τ) bd (defs := defs₀ (F := F)) (Q := Q) (k := k)
    (sem := arg18.sem) (srcw := arg9.slice (Rect.unit (s := S1536x2560) off2 S1x2560.size inb2) (fun _ => rfl))
    (dstw := arg15.slice (Rect.unit (s := S32x2560) off1 S1x2560.size inb1) (fun _ => rfl)) (hsrc := hsrc) (hdst := hdst) () (N := rowN arg15) 1 (Nat.one_mul _).symm
    (D := delivT c arg9 arg15 XE f w) (j := 32) (u := rowN arg15 * j) (by nlinarith [rowN_pos (arg15 := arg15)]) (W := W)
  iintro H Hk
  iapply h $$ H
  iintro ⟨HB, HW⟩
  iapply Hk
  isplitl [HB]
  · rw [show rowN arg15 * (j + 1) = rowN arg15 * j + 1 * rowN arg15 by ring]; iexact HB
  · iexists _; iexact HW

/-- The words' row that slot `t` of batch `k3` reads. -/
def rowIdx (O : S6144.Idx → BitVec 32) (hO : ∀ j, BitVec.toNat (O j) < 6144) (A B k3 : ℕ) (t : Fin 32) : Fin 1536 :=
  ⟨BitVec.toNat (at1 (F := F) (e := .i32) O (min (A + 32 * k3 + t.val) (B - 1))) / 4, by
    have := hO (ix1 ⟨min (min (A + 32 * k3 + t.val) (B - 1)) 6143, by omega⟩)
    unfold at1; omega⟩

theorem stepT4 (𝒱 : Variants) (c : Dev nD) (bd : Option 𝒱.V) (i : grid0.Coords) (sh : PosShare TreeShare) (X1 : BufTy.Contents (Elt F) arg1.view.ty)
    (XE : BufTy.Contents (Elt F) arg9.view.ty) (f : BufTy.Contents (Elt F) arg15.view.ty) (v5 v8 : Elt F .i32) (hw1 : k0_chk1 v5 v8)
    (hle : v5.toNat ≤ v8.toNat) (hb : v8.toNat ≤ 6144) (hO : ∀ j, BitVec.toNat (arg1.view.read (Elt F) X1 j) < 6144)
    (k3 : Fin (k0_t3_loop v5 v8).trips) (k : Fin k0_t4_loop.trips) (u : BitVec 32) :
    invT4 c arg1 arg9 arg15 arg18 sh X1 XE f (rowIdx (F := F) (arg1.view.read (Elt F) X1) hO v5.toNat v8.toNat k3.val) k.val u
      ⊢ wp frame (wpE (defs₀ (F := F)) 𝒱 (c : Thread nD τ) bd) Set.univ
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v5 v8 hw1 0#32 1#32 k3 k u)
          (fun u' => (invT4 c arg1 arg9 arg15 arg18 sh X1 XE f (rowIdx (F := F) (arg1.view.read (Elt F) X1) hO v5.toNat v8.toNat k3.val) (k.val + 1) u' : sProp 𝕄)) := by
  have hk : k.val < 32 := t4_lt hle hb k
  unfold invT4 k0_t4_body
  rw [bigSep_pending_step _ k.val hk, bigSep_pending_step _ k.val hk]
  iintro ⟨H1, ⟨HS, HSr⟩, ⟨HD, HDr⟩, HB⟩
  sl_exec
  have hk3 := lt_of_lt_of_eq k3.isLt (t3_trips hle hb)
  have hp' : min (v5.toNat + 32 * k3.val + k.val) (v8.toNat - 1) < 6144 := by omega
  have e1 : stepT4.sl.r X1 v5 v8 hw1 k3 k = at1 (arg1.view.read (Elt F) X1) (min (v5.toNat + 32 * k3.val + k.val) (v8.toNat - 1)) := by
    unfold stepT4.sl.r
    exact smemVal _ _ (off9_eq hle hb k3 k) hp' _ _
  have hw2 : k0_chk2 (stepT4.sl.r X1 v5 v8 hw1 k3 k) := by rw [e1]; exact chk2_of (hO _)
  iapply (wp_assume 𝒱 (c : Thread nD τ) bd Set.univ hw2)
  iapply (wp_row 𝒱 c bd XE f (rowIdx (F := F) (arg1.view.read (Elt F) X1) hO v5.toNat v8.toNat k3.val) ⟨k.val, hk⟩ _ _ (k0_off10_eq k)
    ((off11_eq (by rw [e1]; exact hO _)).trans (by rw [e1]; rfl))) $$ [HS HD HB]
  · isplitl [HS]; · iexact HS
    isplitl [HD]; · iexact HD
    iexact HB
  iintro HB
  rw [show ((Prog.ret PUnit.unit : Prog (TpuEff nD τ sig (Elt F) Λ₀ .tc) PUnit).bind fun _ => (pure 0#32 : Prog (TpuEff nD τ sig (Elt F) Λ₀ .tc) (BitVec 32))) = Prog.ret 0#32 from rfl, wp_ret]; imodintro
  isplitl [H1]; · iexact H1
  isplitl [HSr]; · iexact HSr
  isplitl [HDr]; · iexact HDr
  iexact HB

theorem stepT5 (𝒱 : Variants) (c : Dev nD) (bd : Option 𝒱.V) (i : grid0.Coords) (sh : PosShare TreeShare) (X1 : BufTy.Contents (Elt F) arg1.view.ty)
    (XE : BufTy.Contents (Elt F) arg9.view.ty) (f : BufTy.Contents (Elt F) arg15.view.ty) (v5 v8 : Elt F .i32) (hw1 : k0_chk1 v5 v8)
    (hle : v5.toNat ≤ v8.toNat) (hb : v8.toNat ≤ 6144) (hO : ∀ j, BitVec.toNat (arg1.view.read (Elt F) X1 j) < 6144)
    (w : Fin 32 → Fin 1536) (k3 : Fin (k0_t3_loop v5 v8).trips) (k : Fin k0_t5_loop.trips) (u : BitVec 32) :
    invT5 c arg1 arg9 arg15 arg18 sh X1 XE f w k.val u
      ⊢ wp frame (wpE (defs₀ (F := F)) 𝒱 (c : Thread nD τ) bd) Set.univ
          (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v5 v8 hw1 0#32 1#32 k3 k u)
          (fun u' => (invT5 c arg1 arg9 arg15 arg18 sh X1 XE f w (k.val + 1) u' : sProp 𝕄)) := by
  have hk : k.val < 32 := t5_lt hle hb k
  unfold invT5 k0_t5_body
  iintro ⟨H1, HB, ⟨%W, HW⟩⟩
  sl_exec
  have hk3 := lt_of_lt_of_eq k3.isLt (t3_trips hle hb)
  have hp' : min (v5.toNat + 32 * k3.val + k.val) (v8.toNat - 1) < 6144 := by omega
  have e1 : stepT5.sl.r X1 v5 v8 hw1 k3 k = at1 (arg1.view.read (Elt F) X1) (min (v5.toNat + 32 * k3.val + k.val) (v8.toNat - 1)) := by
    unfold stepT5.sl.r
    exact smemVal _ _ (off12_eq hle hb k3 k) hp' _ _
  have hw3 : k0_chk3 (stepT5.sl.r X1 v5 v8 hw1 k3 k) := by rw [e1]; exact chk3_of (hO _)
  iapply (wp_assume 𝒱 (c : Thread nD τ) bd Set.univ hw3)
  iapply (wp_rowWait 𝒱 c bd XE f w hk W (k0_off13_inb k) (k0_off14_inb _ hw3)) $$ [HB HW]
  · isplitl [HB]; · iexact HB
    iexact HW
  iintro ⟨HB, HW⟩
  rw [show ((Prog.ret PUnit.unit : Prog (TpuEff nD τ sig (Elt F) Λ₀ .tc) PUnit).bind fun _ => (pure 0#32 : Prog (TpuEff nD τ sig (Elt F) Λ₀ .tc) (BitVec 32))) = Prog.ret 0#32 from rfl, wp_ret]; imodintro
  isplitl [H1]; · iexact H1
  isplitl [HB]; · iexact HB
  iexact HW

end Cert.Kernel.Hand
-- ==== Proof.Kernel.Fetch.lean ====
/- Before a batch's transfers the two buffers are split into rows; after it they are put together again, the ring holding the words' rows. -/
module

public import proofs.«01_k».proof.Proof.Kernel.LoopT45

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero)
open ShareLeaves (leaf pointsTo_leaves)

theorem rect_unit_congr {s : Shape} {o o' z z' : Fin s.rank → ℕ} {inb : ∀ a, o a + z a ≤ s.size a} {inb' : ∀ a, o' a + z' a ≤ s.size a} (h : o = o') (h' : z = z') :
    Rect.unit o z inb = Rect.unit o' z' inb' := by subst h h'; rfl

/-- The ring's rows as the row slices the library speaks of. -/
theorem dstRow_set (t : Fin 32) : (dstRow arg15 t).view.set = (arg15.view.slice (S32x2560.rowRect 0 t)).set := by
  have h : ∀ r r' : Rect S32x2560, r = r' → (arg15.view.slice r).set = (arg15.view.slice r').set := fun r r' h => by subst h; rfl
  refine h _ _ (rect_unit_congr ?_ ?_)
  · funext a; revert a; exact Fin.forall_fin_two.mpr ⟨rfl, rfl⟩
  · funext a; revert a; exact Fin.forall_fin_two.mpr ⟨rfl, rfl⟩

/-- The ring split into its rows. -/
theorem ring_rows (c : Dev nD) (f : BufTy.Contents (Elt F) arg15.view.ty) :
    (arg15.view.loc (c : Thread nD τ) ↦[arg15.view.set]{fullShare} f : sProp 𝕄)
      = bigSep Finset.univ fun t : Fin 32 => arg15.view.loc (c : Thread nD τ) ↦[(dstRow arg15 t).view.set]{fullShare} f := by
  rw [Idealize.ShloMosaic.pointsTo_rows (c : Thread nD τ) arg15.view 0 fullShare f]
  exact BI.bigSep_congr fun t _ => by rw [dstRow_set (arg15 := arg15) t]

/-- The words' buffer split into 32 shares, each into the row it lends and the rest. -/
theorem words_rows (c : Dev nD) (XE : BufTy.Contents (Elt F) arg9.view.ty) (w : Fin 32 → Fin 1536) :
    (arg9.view.loc (c : Thread nD τ) ↦{fullShare} XE : sProp 𝕄)
      = iprop(bigSep Finset.univ (fun t : Fin 32 => (arg9.view.loc (c : Thread nD τ) ↦[(srcRow arg9 (w t)).view.set]{leaf 5 fullShare t} XE : sProp 𝕄))
        ∗ bigSep Finset.univ (fun t : Fin 32 => (arg9.view.loc (c : Thread nD τ) ↦[Finset.univ \ (srcRow arg9 (w t)).view.set]{leaf 5 fullShare t} XE : sProp 𝕄))) := by
  refine Eq.trans ?_ (BI.bigSep_sep Finset.univ _ _)
  refine (pointsTo_leaves (Ix := Unit) (Name := ℕ) (U := Pipeline.UD sig nD τ) (Lvl := ℕ) (ℓ := arg9.view.loc (c : Thread nD τ)) Finset.univ XE 5 fullShare).trans ?_
  exact BI.bigSep_congr fun t _ => BI.Entails.antisymm (pointsTo_split_subset (Finset.subset_univ _)).1 (pointsTo_split_subset (Finset.subset_univ _)).2

/-- The rows written, put together: row `t` of the ring reads row `w t` of the words. -/
theorem ring_join (c : Dev nD) (XE : BufTy.Contents (Elt F) arg9.view.ty) (f : BufTy.Contents (Elt F) arg15.view.ty) (w : Fin 32 → Fin 1536) :
    (bigSep Finset.univ fun t : Fin 32 => arg15.view.loc (c : Thread nD τ) ↦[(dstRow arg15 t).view.set]{fullShare}
        ((dstRow arg15 t).view.write (Elt F) f ((srcRow arg9 (w t)).view.read (Elt F) XE) Finset.univ))
      ⊢ holds (F := F) c arg15 (fun g => ∀ (t : Fin 32) (d : Fin 2560), g (ix2 t d) = arg9.view.read (Elt F) XE (ix2 (w t) d)) := by
  have hj := pointsTo_biUnion_join (Ix := Unit) (Name := ℕ) (U := Pipeline.UD sig nD τ) (Lvl := ℕ) (ℓ := arg15.view.loc (c : Thread nD τ)) (q := fullShare) Finset.univ
    (fun t : Fin 32 => (dstRow arg15 t).view.set)
    (fun t => (dstRow arg15 t).view.write (Elt F) f ((srcRow arg9 (w t)).view.read (Elt F) XE) Finset.univ) f
    (fun t _ t' _ h => by rw [dstRow_set, dstRow_set]; exact arg15.view.disjoint_rows 0 h)
  refine hj.trans ?_
  have hs : (Finset.univ.biUnion fun t : Fin 32 => (dstRow arg15 t).view.set) = arg15.view.set := by
    rw [arg15.view.set_eq_biUnion_rows 0]
    exact Finset.biUnion_congr rfl fun t _ => dstRow_set t
  rw [hs]
  iintro ⟨%g, %hg, H⟩
  iexists g
  isplitl [H]
  · iexact H
  · ipureintro
    intro t d
    have hx : arg15.view.emb (ix2 t d) = (dstRow arg15 t).view.emb (ix2 (0 : Fin 1) d) :=
      congrArg arg15.view.emb (idx2_ext (by show t.val = t.val + 1 * 0; omega) (by show d.val = 0 + 1 * d.val; omega))
    rw [View.read_apply, hx, hg t (Finset.mem_univ t) _ (View.emb_mem_set _ _), View.write_emb_of_mem _ _ (Finset.mem_univ _), cast_cast, cast_eq]
    exact read_slice_unit arg9 XE _ _ rfl _ _ (Fin.forall_fin_two.mpr ⟨by show (w t).val + 0 = _; rfl, by show 0 + d.val = d.val; omega⟩)

end Cert.Kernel.Hand
-- ==== Proof.Kernel.LoopT3.lean ====
/- One batch of 32 tokens: fetch their words' rows, repack them, and add each token's row into its slot. -/
module

public import proofs.«01_k».proof.Proof.Kernel.Fetch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero bigSep_pending_zero)
open ShareLeaves (leaf)

/-- The invariant over the batches: before batch `k3` the slots hold the sums of the first `32 * k3` tokens of the part. -/
def invT3 (c : Dev nD) (arg1 arg2 : Memref sig .tc .smem S6144 .i32) (arg4 : Memref sig .tc .smem S6144 .f32)
    (arg9 : Memref sig .tc .hbm S1536x2560 .i32) (arg14 : Memref sig .tc .vmem S9240x128 .f32) (arg15 : Memref sig .tc .vmem S32x2560 .i32)
    (arg16 : Memref sig .tc .vmem S768x128 .i32) (arg18 : DmaSems sig S_) (sh : PosShare TreeShare) (X1 : BufTy.Contents (Elt F) arg1.view.ty)
    (X2 : BufTy.Contents (Elt F) arg2.view.ty) (X4 : BufTy.Contents (Elt F) arg4.view.ty) (XE : BufTy.Contents (Elt F) arg9.view.ty)
    (A B cb : ℕ) (k3 : ℕ) (_ : BitVec 32) : sProp 𝕄 :=
  iprop((arg1.view.loc (c : Thread nD τ) ↦{sh} X1) ∗ (arg2.view.loc (c : Thread nD τ) ↦{sh} X2)
    ∗ (arg4.view.loc (c : Thread nD τ) ↦[arg4.view.set]{fullShare} X4) ∗ (arg9.view.loc (c : Thread nD τ) ↦{fullShare} XE)
    ∗ holds (F := F) c arg14 (AccAt (arg1.view.read (Elt F) X1) (arg2.view.read (Elt F) X2) (arg4.view.read (Elt F) X4) (arg9.view.read (Elt F) XE) A cb (min (32 * k3) (B - A)))
    ∗ holds (F := F) c arg15 (fun _ => True) ∗ holds (F := F) c arg16 (fun _ => True)
    ∗ semVal ((c : Thread nD τ), .dma arg18.sem) 0 ∗ ∃ W, owes (c : Thread nD τ) 0 W)

/-- What the transfers deliver, the ring's rows and the words' rows apart. -/
theorem deliv_split (c : Dev nD) (XE : BufTy.Contents (Elt F) arg9.view.ty) (f : BufTy.Contents (Elt F) arg15.view.ty) (w : Fin 32 → Fin 1536) :
    bigSep Finset.univ (delivT (F := F) c arg9 arg15 XE f w)
      ⊢ iprop(bigSep Finset.univ (fun t : Fin 32 => (arg15.view.loc (c : Thread nD τ) ↦[(dstRow arg15 t).view.set]{fullShare}
          ((dstRow arg15 t).view.write (Elt F) f ((srcRow arg9 (w t)).view.read (Elt F) XE) Finset.univ) : sProp 𝕄))
        ∗ bigSep Finset.univ (fun t : Fin 32 => (arg9.view.loc (c : Thread nD τ) ↦[(srcRow arg9 (w t)).view.set]{leaf 5 fullShare t} XE : sProp 𝕄))) := by
  unfold delivT
  exact Entails.of_eq (BI.bigSep_sep Finset.univ _ _)

/-- Row `y / 24` of the ring as the repacked ring holds it, 128 words to a row. -/
def ringG (R : S32x2560.Idx → Elt F .i32) (y : S768x128.Idx) : Elt F .i32 :=
  R (ix2 ⟨min ((y 0).val / 24) 31, by omega⟩ ⟨min (128 * ((y 0).val % 24) + (y 1).val) 2559, by omega⟩)

/-- What one store of the repacking writes is the ring's words at their places. -/
theorem piece_ok (g : BufTy.Contents (Elt F) arg15.view.ty) {o0 o1 r0 : ℕ} (inb : ∀ a, (![o0, o1] : Fin 2 → ℕ) a + S8x128.size a ≤ S32x2560.size a) {inb'} {hst}
    (h1 : o1 % 128 = 0) (h2 : r0 = 24 * o0 + o1 / 128) (x : S8x128.Idx) :
    shapeCast S8x128 (View.readAt (Elt F) arg15.view (Rect.unit (s := S32x2560) ![o0, o1] S8x128.size inb).toLoadRect g) shapeCasts_S8x128_S8x128 x
      = ringG (F := F) (arg15.view.read (Elt F) g) ((⟨⟨![r0, 0], S8x128.size, ![24, 1], inb'⟩, hst⟩ : Rect S768x128).emb x) := by
  have hi0 : o0 + 8 ≤ 32 := inb 0
  have hi1 : o1 + 128 ≤ 2560 := inb 1
  have hx0 : (x 0).val < 8 := (x 0).isLt
  have hx1 : (x 1).val < 128 := (x 1).isLt
  refine (congrFun (shapeCast_self (s := S8x128) _ shapeCasts_S8x128_S8x128) x).trans ?_
  refine readAt_unit_eq arg15.view g inb rfl x (ix2 ⟨min ((r0 + 24 * (x 0).val) / 24) 31, by omega⟩ ⟨min (128 * ((r0 + 24 * (x 0).val) % 24) + (0 + 1 * (x 1).val)) 2559, by omega⟩) (Fin.forall_fin_two.mpr ⟨?_, ?_⟩)
  · show o0 + (x 0).val = min ((r0 + 24 * (x 0).val) / 24) 31
    omega
  · show o1 + (x 1).val = min (128 * ((r0 + 24 * (x 0).val) % 24) + (0 + 1 * (x 1).val)) 2559
    omega

/-- What identifies a stored rectangle: its offsets, sizes and strides. -/
def rectKey (r : Rect S768x128) : ℕ × ℕ × ℕ × ℕ × ℕ × ℕ := (r.off 0, r.off 1, r.size 0, r.size 1, r.stride 0, r.stride 1)

/-- The 80 stores' rectangles, last first: store `q` goes to rows `192 * (q / 20) + q % 20`, every 24th. -/
def keys : List (ℕ × ℕ × ℕ × ℕ × ℕ × ℕ) := (List.range 80).reverse.map fun q => (192 * (q / 20) + q % 20, 0, 8, 128, 24, 1)

theorem mem_keys (a : ℕ) (ha : a < 4) (b : ℕ) (hb : b < 20) : (192 * a + b, 0, 8, 128, 24, 1) ∈ keys := by
  refine List.mem_map.mpr ⟨20 * a + b, List.mem_reverse.mpr (List.mem_range.mpr (by omega)), ?_⟩
  rw [show (20 * a + b) / 20 = a by omega, show (20 * a + b) % 20 = b by omega]

/-- After the 80 stores the repacked ring holds the ring's words. -/
theorem ring_of_pieces (f : BufTy.Contents (Elt F) arg16.view.ty) (R : S32x2560.Idx → Elt F .i32) (L : List (View.Piece (Elt F) S768x128 .i32))
    (hL : (L.map fun p => rectKey p.1) = keys)
    (hG : ∀ p ∈ L, ∀ x : p.1.shape.Idx, p.2 x = ringG R (p.1.emb x)) (i : Fin 32) (d : Fin 2560) :
    arg16.view.read (Elt F) (arg16.view.writes (Elt F) f L) (ix2 ⟨24 * i.val + d.val / 128, by omega⟩ ⟨d.val % 128, Nat.mod_lt _ (by decide)⟩) = R (ix2 i d) := by
  obtain ⟨p, hp, he⟩ := List.mem_map.mp (hL ▸ mem_keys (i.val / 8) (by omega) (d.val / 128) (by omega))
  simp only [rectKey, Prod.mk.injEq] at he
  obtain ⟨e0, e1, e2, e3, e4, e5⟩ := he
  refine (View.read_writes_apply_of_pieces arg16.view f (ringG R) L hG _ ⟨p, hp, ?_⟩).trans ?_
  · refine (LoadRect.mem_set _).mpr (Fin.forall_fin_two.mpr ⟨⟨i.val % 8, ?_, ?_⟩, ⟨d.val % 128, ?_, ?_⟩⟩)
    · rw [e2]; omega
    · rw [e0, e4]; show 24 * i.val + d.val / 128 = _; omega
    · rw [e3]; omega
    · rw [e1, e5]; show d.val % 128 = _; omega
  · refine congrArg R (idx2_ext ?_ ?_)
    · show min ((24 * i.val + d.val / 128) / 24) 31 = i.val; omega
    · show min (128 * ((24 * i.val + d.val / 128) % 24) + d.val % 128) 2559 = d.val; omega

theorem t6_trips : Scf.trips k0_t6_loop.lb k0_t6_loop.ub k0_t6_loop.st = 32 := by decide +kernel

theorem t5_trips : Scf.trips k0_t5_loop.lb k0_t5_loop.ub k0_t5_loop.st = 32 := by decide +kernel

set_option maxHeartbeats 4000000 in
theorem stepT3 (𝒱 : Variants) (c : Dev nD) (bd : Option 𝒱.V) (i : grid0.Coords) (sh : PosShare TreeShare) (X1 : BufTy.Contents (Elt F) arg1.view.ty)
    (X2 : BufTy.Contents (Elt F) arg2.view.ty) (X4 : BufTy.Contents (Elt F) arg4.view.ty) (XE : BufTy.Contents (Elt F) arg9.view.ty)
    (v5 v8 : Elt F .i32) (hw1 : k0_chk1 v5 v8)
    (hle : v5.toNat ≤ v8.toNat) (hb : v8.toNat ≤ 6144) (hO : ∀ j, BitVec.toNat (arg1.view.read (Elt F) X1 j) < 6144)
    (hS : Seg (F := F) (arg2.view.read (Elt F) X2) v5.toNat v8.toNat (i 0).val) (k3 : Fin (k0_t3_loop v5 v8).trips) (u : BitVec 32) :
    invT3 c arg1 arg2 arg4 arg9 arg14 arg15 arg16 arg18 sh X1 X2 X4 XE v5.toNat v8.toNat (i 0).val k3.val u
      ⊢ wp frame (wpE (defs₀ (F := F)) 𝒱 (c : Thread nD τ) bd) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (BitVec.ofNat 32 (i 0).val) v5 v8 hw1 k3 u)
          (fun u' => (invT3 c arg1 arg2 arg4 arg9 arg14 arg15 arg16 arg18 sh X1 X2 X4 XE v5.toNat v8.toNat (i 0).val (k3.val + 1) u' : sProp 𝕄)) := by
  have hk3 := lt_of_lt_of_eq k3.isLt (t3_trips hle hb)
  unfold invT3 k0_t3_body
  iintro ⟨H1, H2, H4, H9, H14, ⟨%f15, H15, -⟩, ⟨%f16, H16, -⟩, Hs, HW⟩
  ihave H9 := (Entails.of_eq (words_rows (F := F) (arg9 := arg9) c XE (rowIdx (F := F) (arg1.view.read (Elt F) X1) hO v5.toNat v8.toNat k3.val))) $$ H9
  icases H9 with ⟨H9, H9r⟩
  ihave H15 := (Entails.of_eq (ring_rows (F := F) (arg15 := arg15) c f15)) $$ H15
  imod (Transfers.batch_alloc' (Lvl := ℕ) (countersEmb (U := Pipeline.UD sig nD τ)) (c : Thread nD τ) () (rowN arg15)
    (delivT (F := F) c arg9 arg15 XE f15 (rowIdx (F := F) (arg1.view.read (Elt F) X1) hO v5.toNat v8.toNat k3.val)) (sm := .dma arg18.sem) (E := Set.univ)) $$ Hs with HB
  sl_exec
  sl_for (invT4 (F := F) c arg1 arg9 arg15 arg18 sh X1 XE f15 (rowIdx (F := F) (arg1.view.read (Elt F) X1) hO v5.toNat v8.toNat k3.val)) $$ [H1 H9 H15 HB]
  · intro k u
    exact stepT4 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 XE f15 v5 v8 hw1 hle hb hO k3 k u
  · unfold invT4
    isplitl [H1]; · iexact H1
    rw [pending_zero]
    isplitl [H9]; · iexact H9
    isplitl [H15]; · iexact H15
    iexact HB
  iintro %u4 HI
  unfold invT4
  icases HI with ⟨H1, -, -, HB⟩
  sl_exec
  sl_for (invT5 (F := F) c arg1 arg9 arg15 arg18 sh X1 XE f15 (rowIdx (F := F) (arg1.view.read (Elt F) X1) hO v5.toNat v8.toNat k3.val)) $$ [H1 HB HW]
  · intro k u
    exact stepT5 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 XE f15 v5 v8 hw1 hle hb hO _ k3 k u
  · unfold invT5
    isplitl [H1]; · iexact H1
    isplitl [HB]; · iexact HB
    iexact HW
  iintro %u5 HI
  unfold invT5
  icases HI with ⟨H1, HB, HW⟩
  rw [t5_trips]
  imod (Transfers.batch_collect' (countersEmb (U := Pipeline.UD sig nD τ)) (c : Thread nD τ) (ι := ()) (n := 32) (sm := .dma arg18.sem)
    (D := delivT (F := F) c arg9 arg15 XE f15 (rowIdx (F := F) (arg1.view.read (Elt F) X1) hO v5.toNat v8.toNat k3.val)) (rowN_pos (arg15 := arg15))) $$ HB with ⟨HD, Hs⟩
  ihave HD := deliv_split (F := F) c XE f15 _ $$ HD
  icases HD with ⟨H15, H9⟩
  ihave H9 := (Entails.of_eq (words_rows (F := F) (arg9 := arg9) c XE (rowIdx (F := F) (arg1.view.read (Elt F) X1) hO v5.toNat v8.toNat k3.val)).symm) $$ [H9 H9r]
  · isplitl [H9]; · iexact H9
    iexact H9r
  ihave H15 := ring_join c XE f15 (rowIdx (F := F) (arg1.view.read (Elt F) X1) hO v5.toNat v8.toNat k3.val) $$ H15
  icases H15 with ⟨%g15, H15, %hg15⟩
  sl_exec
  sl_for (invT6 (F := F) c arg1 arg2 arg4 arg14 arg16 sh X1 X2 X4 (arg9.view.read (Elt F) XE) v5.toNat v8.toNat (i 0).val k3.val) $$ [H1 H2 H4 H14 H16]
  · intro k u
    exact stepT6 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 X2 X4 (arg9.view.read (Elt F) XE) v5 v8 hw1 hle hb hO hS k3 _ rfl k u
  · unfold invT6
    isplitl [H1]; · iexact H1
    isplitl [H2]; · iexact H2
    isplitl [H4]; · iexact H4
    isplitl [H14]; · iexact H14
    iexists _
    isplitl [H16]; · iexact H16
    ipureintro
    intro t d
    refine (ring_of_pieces f16 (arg15.view.read (Elt F) g15) _ ?_ ?_ t d).trans ?_
    · sl_kernel_rfl
    · repeat' (refine List.forall_mem_cons.mpr ⟨fun x => ?_, ?_⟩)
      all_goals first
        | exact piece_ok (arg15 := arg15) g15 _ rfl rfl _
        | (intro p hp; exact absurd hp List.not_mem_nil)
    · refine (hg15 t d).trans ?_
      refine congrArg (arg9.view.read (Elt F) XE) (idx2_ext (Nat.min_eq_left ?_).symm rfl)
      exact Nat.le_of_lt_succ (rowIdx (F := F) (arg1.view.read (Elt F) X1) hO v5.toNat v8.toNat k3.val t).isLt
  iintro %u6 HI
  unfold invT6
  icases HI with ⟨H1, H2, H4, H14, ⟨%g16, H16, -⟩⟩
  rw [t6_trips]
  sl_exec
  rw [wp_ret]; imodintro
  isplitl [H1]; · iexact H1
  isplitl [H2]; · iexact H2
  isplitl [H4]; · iexact H4
  isplitl [H9]; · iexact H9
  isplitl [H14]
  · rw [show 32 * (k3.val + 1) = 32 * k3.val + 32 by ring]; iexact H14
  isplitl [H15]
  · iexists _
    isplitl [H15]; · iexact H15
    ipureintro; trivial
  isplitl [H16]
  · iexists _
    isplitl [H16]; · iexact H16
    ipureintro; trivial
  isplitl [Hs]; · iexact Hs
  iexact HW

end Cert.Kernel.Hand
-- ==== Proof.Kernel.Body.lean ====
/- One grid point's run of the kernel body. -/
module

public import proofs.«01_k».proof.Proof.Kernel.LoopT1
public import proofs.«01_k».proof.Proof.Kernel.LoopT2
public import proofs.«01_k».proof.Proof.Kernel.LoopT3
public import proofs.«01_k».proof.Proof.Kernel.LoopT11

@[expose] public section

set_option pp.maxSteps 150

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- The rows gathered for a block are all zero. -/
def EmbZero (Z : S9240x128.Idx → Elt F .f32) : Prop := ∀ (r : Fin 384) (d : Fin 2560), embAt Z r d = fzero

/-- The dequantized block of the upstream gradient, transposed. -/
def gtOf (X5 : S6144x384.Idx → Elt F .fp8e5m2) (X6 : S1x1x6144.Idx → Elt F .f32) : FVec F S384x6144 .bf16 :=
  fun y => gtVal (X5 (ix2 (y 1) (y 0))) (X6 (ix3 0 0 (y 1)))

/-- 512 columns of the dequantized activations, from column `512 * n` on. -/
def xbOf (X7 : S6144x2560.Idx → Elt F .fp8e4m3) (X8 : S6144x1.Idx → Elt F .f32) (n : Fin 5) : FVec F S6144x512 .bf16 :=
  fun y => xbVal (X7 (ix2 (y 0) ⟨512 * n.val + (y 1).val, by have : (y 1).val < 512 := (y 1).isLt; show _ < 2560; omega⟩)) (X8 (ix2 (y 0) 0))

/-- The contraction's entry at row `r`, column `d` of a block. -/
def dotv (X5 : S6144x384.Idx → Elt F .fp8e5m2) (X6 : S1x1x6144.Idx → Elt F .f32)
    (X7 : S6144x2560.Idx → Elt F .fp8e4m3) (X8 : S6144x1.Idx → Elt F .f32) (r : Fin 384) (d : Fin 2560) : Elt F .f32 :=
  k0_pay201 (gtOf X5 X6) (xbOf X7 X8 ⟨d.val / 512, by omega⟩) (ix2 r ⟨d.val % 512, Nat.mod_lt _ (by decide)⟩)

/-- The first position of block `n`'s tokens in the sorted order. -/
def bnd (B : S132.Idx → BitVec 32) (n : ℕ) : ℕ := (B (ix1 ⟨min n 131, by omega⟩)).toNat

/-- The block the kernel leaves at grid point `cb`. -/
def outv (O S : S6144.Idx → BitVec 32) (B : S132.Idx → BitVec 32) (ESC : S6144.Idx → Elt F .f32) (X5 : S6144x384.Idx → Elt F .fp8e5m2) (X6 : S1x1x6144.Idx → Elt F .f32)
    (X7 : S6144x2560.Idx → Elt F .fp8e4m3) (X8 : S6144x1.Idx → Elt F .f32) (EW : S1536x2560.Idx → BitVec 32) (cb : ℕ) : S384x2560.Idx → Elt F .f32 :=
  fun y => FloatOps.addf (dotv X5 X6 X7 X8 (y 0) (y 1)) (accv (F := F) O S ESC EW (bnd B cb) cb (y 0) (y 1) (bnd B (cb + 1) - bnd B cb))

theorem off7_eq : ∀ i : grid0.Coords, k0_off7 i = ![(i 0).val] := by decide +kernel
theorem off8_eq : ∀ i : grid0.Coords, k0_off8 i = ![(i 0).val + 1] := by decide +kernel

/-- A one-word load of the table of bounds reads the table's entry at the load's offset. -/
theorem bndVal (v : View sig .tc .smem S132 .i32) (f : v.ty.Contents (Elt F)) {off : Fin 1 → ℕ} {n : ℕ} (hoff : off = ![n]) (hn : n < 132)
    (inb : ∀ a, off a + S1.size a ≤ S132.size a) (x : (Rect.unit (s := S132) off S1.size inb).toLoadRect.shape.Idx) :
    View.readAt (Elt F) v (Rect.unit (s := S132) off S1.size inb).toLoadRect f x = v.read (Elt F) f (ix1 ⟨n, hn⟩) := by
  refine readAt_unit_eq v f inb hoff x _ fun a => ?_
  have hx : (x 0).val < 1 := (x 0).isLt
  fin_cases a
  show n + (x 0).val = n
  omega

theorem bnd_eq (B : S132.Idx → BitVec 32) {n : ℕ} (hn : n < 132) : bnd B n = (B (ix1 ⟨n, hn⟩)).toNat := by
  unfold bnd
  refine congrArg (fun m : Fin 132 => (B (ix1 m)).toNat) (Fin.ext ?_)
  show min n 131 = n
  omega

/-- What one store of the contraction puts: the block's entries at the store's place. -/
theorem pieceDot (X5 : S6144x384.Idx → Elt F .fp8e5m2) (X6 : S1x1x6144.Idx → Elt F .f32)
    (X7 : S6144x2560.Idx → Elt F .fp8e4m3) (X8 : S6144x1.Idx → Elt F .f32)
    (fg : BufTy.Contents (Elt F) arg13.view.ty) (fx : BufTy.Contents (Elt F) arg11.view.ty)
    (hfg : GtUpTo X5 X6 6144 (arg13.view.read (Elt F) fg)) (hfx : XbUpTo X7 X8 6144 (arg11.view.read (Elt F) fx)) (n : Fin 5) {o : ℕ} (ho : o = 512 * n.val)
    (inb1 : ∀ a, (![0, 0] : Fin 2 → ℕ) a + S384x6144.size a ≤ S384x6144.size a) (inb2 : ∀ a, (![0, o] : Fin 2 → ℕ) a + S6144x512.size a ≤ S6144x2560.size a)
    (inb3 : ∀ a, (![0, o] : Fin 2 → ℕ) a + S384x512.size a ≤ S384x2560.size a) (x : S384x512.Idx) :
    k0_pay201 (F := F) (View.readAt (Elt F) arg13.view (Rect.unit (s := S384x6144) ![0, 0] S384x6144.size inb1).toLoadRect fg)
        (View.readAt (Elt F) arg11.view (Rect.unit (s := S6144x2560) ![0, o] S6144x512.size inb2).toLoadRect fx) x
      = (fun y : S384x2560.Idx => dotv X5 X6 X7 X8 (y 0) (y 1)) ((Rect.unit (s := S384x2560) ![0, o] S384x512.size inb3).emb x) := by
  have e1 : View.readAt (Elt F) arg13.view (Rect.unit (s := S384x6144) ![0, 0] S384x6144.size inb1).toLoadRect fg = gtOf X5 X6 := by
    funext y
    refine (readAt_unit_eq arg13.view fg inb1 rfl y (ix2 (y 0) (y 1)) (Fin.forall_fin_two.mpr ⟨by simp, by simp⟩)).trans ?_
    exact hfg _ _ (y 1).isLt
  have e2 : View.readAt (Elt F) arg11.view (Rect.unit (s := S6144x2560) ![0, o] S6144x512.size inb2).toLoadRect fx = xbOf X7 X8 n := by
    funext y
    have h1 : (y 1).val < 512 := (y 1).isLt
    refine (readAt_unit_eq arg11.view fx inb2 rfl y (ix2 (y 0) ⟨512 * n.val + (y 1).val, by omega⟩) (Fin.forall_fin_two.mpr ⟨?_, ?_⟩)).trans ?_
    · show 0 + (y 0).val = (y 0).val; omega
    · show o + (y 1).val = 512 * n.val + (y 1).val; omega
    · exact hfx _ _ (y 0).isLt
  have h1 : (x 1).val < 512 := (x 1).isLt
  rw [e1, e2]
  show _ = dotv X5 X6 X7 X8 _ _
  unfold dotv
  have a0 : (((Rect.unit (s := S384x2560) ![0, o] S384x512.size inb3).emb x) 1).val = o + 1 * (x 1).val := rfl
  have a1 : (((Rect.unit (s := S384x2560) ![0, o] S384x512.size inb3).emb x) 0).val = 0 + 1 * (x 0).val := rfl
  refine congrArg₂ (fun (m : Fin 5) (z : S384x512.Idx) => k0_pay201 (F := F) (gtOf X5 X6) (xbOf X7 X8 m) z) (Fin.ext ?_) (idx2_ext ?_ ?_)
  · show n.val = (((Rect.unit (s := S384x2560) ![0, o] S384x512.size inb3).emb x) 1).val / 512
    omega
  · show (x 0).val = (((Rect.unit (s := S384x2560) ![0, o] S384x512.size inb3).emb x) 0).val
    omega
  · show (x 1).val = (((Rect.unit (s := S384x2560) ![0, o] S384x512.size inb3).emb x) 1).val % 512
    omega

/-- What the first grid point sets up, and every later one finds. -/
def ready (c : Dev nD) (arg7 : Memref sig .tc .hbm S6144x2560 .fp8e4m3) (arg8 : Memref sig .tc .vmem S6144x1 .f32)
    (arg11 : Memref sig .tc .vmem S6144x2560 .bf16) (arg12 : Memref sig .tc .vmem S512x2560 .fp8e4m3) (arg14 : Memref sig .tc .vmem S9240x128 .f32)
    (arg16 : Memref sig .tc .vmem S768x128 .i32) (arg17 : DmaSems sig S_)
    (X7 : BufTy.Contents (Elt F) arg7.view.ty) (X8 : BufTy.Contents (Elt F) arg8.view.ty) (first : Prop) : sProp 𝕄 :=
  iprop((arg7.view.loc (c : Thread nD τ) ↦{fullShare} X7) ∗ (arg8.view.loc (c : Thread nD τ) ↦[arg8.view.set]{fullShare} X8)
    ∗ holds c arg11 (fun Y => first ∨ XbUpTo (arg7.view.read (Elt F) X7) (arg8.view.read (Elt F) X8) 6144 Y)
    ∗ (∃ f, arg12.view.loc (c : Thread nD τ) ↦[arg12.view.set]{fullShare} f)
    ∗ holds c arg14 (fun Z => first ∨ EmbZero Z)
    ∗ (∃ f, arg16.view.loc (c : Thread nD τ) ↦[arg16.view.set]{fullShare} f)
    ∗ semVal ((c : Thread nD τ), SemLoc.dma arg17.sem) 0
    ∗ (∃ W, owes (c : Thread nD τ) 0 W))

/-- What every grid point finds and leaves besides. -/
def rest (c : Dev nD) (arg1 : Memref sig .tc .smem S6144 .i32) (arg2 : Memref sig .tc .smem S6144 .i32) (arg3 : Memref sig .tc .smem S132 .i32)
    (arg4 : Memref sig .tc .smem S6144 .f32) (arg5 : Memref sig .tc .vmem S6144x384 .fp8e5m2) (arg6 : Memref sig .tc .vmem S1x1x6144 .f32)
    (arg9 : Memref sig .tc .hbm S1536x2560 .i32) (arg13 : Memref sig .tc .vmem S384x6144 .bf16) (arg15 : Memref sig .tc .vmem S32x2560 .i32) (arg18 : DmaSems sig S_)
    (sh : PosShare TreeShare) (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X9 : BufTy.Contents (Elt F) arg9.view.ty) : sProp 𝕄 :=
  iprop((arg1.view.loc (c : Thread nD τ) ↦{sh} X1) ∗ (arg2.view.loc (c : Thread nD τ) ↦{sh} X2) ∗ (arg3.view.loc (c : Thread nD τ) ↦{sh} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg9.view.loc (c : Thread nD τ) ↦{fullShare} X9)
    ∗ holds c arg13 (fun _ => True) ∗ holds c arg15 (fun _ => True) ∗ semVal ((c : Thread nD τ), SemLoc.dma arg18.sem) 0)

set_option maxHeartbeats 4000000 in
/-- One grid point: it leaves its block of the result, and what the next point finds. -/
theorem point_run (𝒱 : Variants) (c : Dev nD) (bd : Option 𝒱.V) (i : grid0.Coords) (sh : PosShare TreeShare)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty)
    (hT : TabOK (arg1.view.read (Elt F) X1) (arg2.view.read (Elt F) X2) (arg3.view.read (Elt F) X3)) :
    iprop(rest c arg1 arg2 arg3 arg4 arg5 arg6 arg9 arg13 arg15 arg18 sh X1 X2 X3 X4 X5 X6 X9
        ∗ ready c arg7 arg8 arg11 arg12 arg14 arg16 arg17 X7 X8 (k0_cond1 i = 1#1) ∗ holds c arg10 (fun _ => True))
      ⊢ wp frame (wpE (defs₀ (F := F)) 𝒱 (c : Thread nD τ) bd) Set.univ (cc0_tied_dw (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
        (fun _ => iprop(rest c arg1 arg2 arg3 arg4 arg5 arg6 arg9 arg13 arg15 arg18 sh X1 X2 X3 X4 X5 X6 X9
        ∗ ready c arg7 arg8 arg11 arg12 arg14 arg16 arg17 X7 X8 False
        ∗ holds c arg10 (fun Y => Y = outv (arg1.view.read (Elt F) X1) (arg2.view.read (Elt F) X2) (arg3.view.read (Elt F) X3) (arg4.view.read (Elt F) X4)
            (arg5.view.read (Elt F) X5) (arg6.view.read (Elt F) X6) (arg7.view.read (Elt F) X7) (arg8.view.read (Elt F) X8) (arg9.view.read (Elt F) X9) (i 0).val))) := by
  unfold ready rest holds
  iintro ⟨⟨H1, H2, H3, H4, H5, H6, H9, ⟨%f13, H13, -⟩, ⟨%f15, H15, -⟩, HE⟩, ⟨H7, H8, ⟨%f, H11, %hf⟩, ⟨%f12, H12⟩, ⟨%f14, H14, %hf14⟩, ⟨%f16, H16⟩, HC, HW⟩, ⟨%f10, H10, -⟩⟩
  have hi : (i 0).val < 131 := (i 0).isLt
  by_cases h1 : k0_cond1 i = 1#1
  swap
  focus
    replace hf := hf.resolve_left h1
    replace hf14 := hf14.resolve_left h1
    sl_exec
    rename' f => fx, f12 => fy, f14 => fz, f16 => fv, hf => hfx, hf14 => hfz
  swap
  focus
    sl_exec
    sl_for (invT1 (F := F) c arg7 arg8 arg11 arg12 arg17 X7 X8) $$ [H7 H8 H11 H12 HC HW]
    · intro k u
      exact stepT1 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i h1 X7 X8 k u
    · unfold invT1 holds
      isplitl [H7]; · iexact H7
      isplitl [H8]; · iexact H8
      isplitl [H11]
      · iexists _
        isplitl [H11]; · iexact H11
        ipureintro; intro t d ht; omega
      isplitl [H12]; · iexists _; iexact H12
      isplitl [HC]; · iexact HC
      iexact HW
    iintro %u1 HI
    unfold invT1 holds
    icases HI with ⟨H7, H8, ⟨%fx, H11, %hfx⟩, ⟨%fy, H12⟩, HC, HW⟩
    ihave HZ : iprop(∃ fz, (arg14.view.loc (c : Thread nD τ) ↦[arg14.view.set]{fullShare} fz) ∗ ⌜EmbZero (arg14.view.read (Elt F) fz)⌝) $$ [H14]
    · iexists _
      isplitl [H14]; · iexact H14
      ipureintro
      intro r d
      unfold embAt point_run.sl.H14_1
      refine View.read_writes_apply_of_pieces _ _ (fun _ => fzero) _ ?_ _ ?_
      · exact List.forall_mem_cons.mpr ⟨fun x => rfl, fun p hp => absurd hp List.not_mem_nil⟩
      · exact ex_head (mem_unit2 (inb := inb_S9240x128_S9240x128_0_0) rfl (by omega) (by omega) (by omega) (by omega))
    icases HZ with ⟨%fz, H14, %hfz⟩
    replace hfx : XbUpTo (arg7.view.read (Elt F) X7) (arg8.view.read (Elt F) X8) 6144 (arg11.view.read (Elt F) fx) := hfx
    ihave HV : iprop(∃ fv, (arg16.view.loc (c : Thread nD τ) ↦[arg16.view.set]{fullShare} fv)) $$ [H16]
    · iexists _; iexact H16
    icases HV with ⟨%fv, H16⟩
    clear hf hf14 f f12 f14 f16
    sl_exec
  all_goals
    sl_for (invT2 (F := F) c arg5 arg6 arg13 X5 X6) $$ [H5 H6 H13]
    · intro k u
      exact stepT2 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i X5 X6 k u
    · unfold invT2 holds
      isplitl [H5]; · iexact H5
      isplitl [H6]; · iexact H6
      iexists _
      isplitl [H13]; · iexact H13
      ipureintro; intro r t ht; omega
    iintro %u2 HI
    unfold invT2 holds
    icases HI with ⟨H5, H6, ⟨%fg, H13, %hfg⟩⟩
    replace hfg : GtUpTo (arg5.view.read (Elt F) X5) (arg6.view.read (Elt F) X6) 6144 (arg13.view.read (Elt F) fg) := hfg
    sl_exec
    have b5 : (i 0).val < 132 := by omega
    have b8 : (i 0).val + 1 < 132 := by omega
    obtain ⟨v5, hv5⟩ : ∃ v : BitVec 32, v = arg3.view.read (Elt F) X3 (ix1 ⟨(i 0).val, b5⟩) := ⟨_, rfl⟩
    obtain ⟨v8, hv8⟩ : ∃ v : BitVec 32, v = arg3.view.read (Elt F) X3 (ix1 ⟨(i 0).val + 1, b8⟩) := ⟨_, rfl⟩
    first
      | rw [show point_run.sl.r_3 i X3 = v5 from (by unfold point_run.sl.r_3; rw [hv5]; exact bndVal _ _ (off7_eq i) b5 _ _)]
        rw [show point_run.sl.r_4 i X3 = v8 from (by unfold point_run.sl.r_4; rw [hv8]; exact bndVal _ _ (off8_eq i) b8 _ _)]
      | rw [show point_run.sl.r i X3 = v5 from (by unfold point_run.sl.r; rw [hv5]; exact bndVal _ _ (off7_eq i) b5 _ _)]
        rw [show point_run.sl.r_1 i X3 = v8 from (by unfold point_run.sl.r_1; rw [hv8]; exact bndVal _ _ (off8_eq i) b8 _ _)]
    have hA : bnd (arg3.view.read (Elt F) X3) (i 0).val = v5.toNat := by rw [hv5]; exact bnd_eq _ b5
    have hB : bnd (arg3.view.read (Elt F) X3) ((i 0).val + 1) = v8.toNat := by rw [hv8]; exact bnd_eq _ b8
    have hle : v5.toNat ≤ v8.toNat := by rw [hv5, hv8]; exact hT.mono _ _ rfl
    have hb : v8.toNat ≤ 6144 := by rw [hv8]; exact hT.le _
    have hS : Seg (F := F) (arg2.view.read (Elt F) X2) v5.toNat v8.toNat (i 0).val := by
      intro j hj1 hj2
      have h := hT.seg ⟨(i 0).val, b5⟩ ⟨(i 0).val + 1, b8⟩ ⟨j, by omega⟩ rfl (by rw [← hv5]; exact hj1) (by rw [← hv8]; exact hj2)
      have e : at1 (F := F) (e := .i32) (arg2.view.read (Elt F) X2) j = arg2.view.read (Elt F) X2 (ix1 ⟨j, by omega⟩) :=
        congrArg (fun m : Fin 6144 => arg2.view.read (Elt F) X2 (ix1 m)) (Fin.ext (show min j 6143 = j by omega))
      rw [e]; exact h
    have hw1 : k0_chk1 v5 v8 := chk1_of hle hb
    iapply (wp_assume 𝒱 (c : Thread nD τ) bd Set.univ hw1)
    sl_exec
    sl_for (invT3 (F := F) c arg1 arg2 arg4 arg9 arg14 arg15 arg16 arg18 sh X1 X2 X4 X9 v5.toNat v8.toNat (i 0).val) $$ [H1 H2 H4 H9 H14 H15 H16 HE HW]
    · intro k u
      exact stepT3 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 X2 X4 X9 v5 v8 hw1 hle hb hT.ord hS k u
    · unfold invT3 holds
      isplitl [H1]; · iexact H1
      isplitl [H2]; · iexact H2
      isplitl [H4]; · iexact H4
      isplitl [H9]; · iexact H9
      isplitl [H14]
      · iexists _
        isplitl [H14]; · iexact H14
        ipureintro
        intro r d
        rw [Nat.mul_zero, Nat.zero_min]
        exact hfz r d
      isplitl [H15]
      · iexists _
        isplitl [H15]; · iexact H15
        ipureintro; trivial
      isplitl [H16]
      · iexists _
        isplitl [H16]; · iexact H16
        ipureintro; trivial
      isplitl [HE]; · iexact HE
      iexact HW
    iintro %u3 HI
    unfold invT3 holds
    icases HI with ⟨H1, H2, H4, H9, ⟨%gz, H14, %hgz⟩, ⟨%g15, H15, -⟩, ⟨%g16, H16, -⟩, HE, HW⟩
    replace hgz : AccAt (F := F) (arg1.view.read (Elt F) X1) (arg2.view.read (Elt F) X2) (arg4.view.read (Elt F) X4) (arg9.view.read (Elt F) X9) v5.toNat (i 0).val
        (v8.toNat - v5.toNat) (arg14.view.read (Elt F) gz) := by
      have e := t3_trips hle hb
      rw [show Scf.trips (k0_t3_loop v5 v8).lb (k0_t3_loop v5 v8).ub (k0_t3_loop v5 v8).st = (v8.toNat - v5.toNat + 31) / 32 from e,
        Nat.min_eq_right (by omega)] at hgz
      exact hgz
    sl_exec
    sl_for (fun (_ : ℕ) (_ : BitVec 32) => (iprop(emp) : sProp 𝕄)) $$ []
    · intro k u
      exact absurd (lt_of_lt_of_eq k.isLt (t7_trips hle hb)) (by omega)
    · itrivial
    iintro %u7 -
    sl_exec
    ihave HD : iprop(∃ fd, (arg10.view.loc (c : Thread nD τ) ↦[arg10.view.set]{fullShare} fd)
        ∗ ⌜∀ (r : Fin 384) (d : Fin 2560), arg10.view.read (Elt F) fd (ix2 r d) = dotv (arg5.view.read (Elt F) X5) (arg6.view.read (Elt F) X6) (arg7.view.read (Elt F) X7) (arg8.view.read (Elt F) X8) r d⌝) $$ [H10]
    · iexists _
      isplitl [H10]; · iexact H10
      ipureintro
      intro r d
      refine (View.read_writes_apply_of_pieces _ _ (fun y : S384x2560.Idx => dotv (arg5.view.read (Elt F) X5) (arg6.view.read (Elt F) X6) (arg7.view.read (Elt F) X7) (arg8.view.read (Elt F) X8) (y 0) (y 1)) _ ?_ (ix2 r d) ?_).trans rfl
      · refine List.forall_mem_cons.mpr ⟨?_, List.forall_mem_cons.mpr ⟨?_, List.forall_mem_cons.mpr ⟨?_, List.forall_mem_cons.mpr ⟨?_,
          List.forall_mem_cons.mpr ⟨?_, fun p hp => absurd hp List.not_mem_nil⟩⟩⟩⟩⟩ <;> intro x
        · sl_unfold_words; exact pieceDot _ _ _ _ fg fx hfg hfx 4 (o := 2048) rfl inb_S384x6144_S384x6144_0_0 inb_S6144x2560_S6144x512_0_2048 inb_S384x2560_S384x512_0_2048 x
        · sl_unfold_words; exact pieceDot _ _ _ _ fg fx hfg hfx 3 (o := 1536) rfl inb_S384x6144_S384x6144_0_0 inb_S6144x2560_S6144x512_0_1536 inb_S384x2560_S384x512_0_1536 x
        · sl_unfold_words; exact pieceDot _ _ _ _ fg fx hfg hfx 2 (o := 1024) rfl inb_S384x6144_S384x6144_0_0 inb_S6144x2560_S6144x512_0_1024 inb_S384x2560_S384x512_0_1024 x
        · sl_unfold_words; exact pieceDot _ _ _ _ fg fx hfg hfx 1 (o := 512) rfl inb_S384x6144_S384x6144_0_0 inb_S6144x2560_S6144x512_0_512 inb_S384x2560_S384x512_0_512 x
        · sl_unfold_words; exact pieceDot _ _ _ _ fg fx hfg hfx 0 (o := 0) rfl inb_S384x6144_S384x6144_0_0 inb_S6144x2560_S6144x512_0_0 inb_S384x2560_S384x512_0_0 x
      · obtain ⟨q, hq⟩ : ∃ q : Fin 5, d.val / 512 = q.val := ⟨⟨d.val / 512, by omega⟩, rfl⟩
        fin_cases q <;> simp at hq
        · exact ex_tail (ex_tail (ex_tail (ex_tail (ex_head (mem_unit2 (inb := inb_S384x2560_S384x512_0_0) rfl (by omega) (by omega) (by omega) (by omega))))))
        · exact ex_tail (ex_tail (ex_tail (ex_head (mem_unit2 (inb := inb_S384x2560_S384x512_0_512) rfl (by omega) (by omega) (by omega) (by omega)))))
        · exact ex_tail (ex_tail (ex_head (mem_unit2 (inb := inb_S384x2560_S384x512_0_1024) rfl (by omega) (by omega) (by omega) (by omega))))
        · exact ex_tail (ex_head (mem_unit2 (inb := inb_S384x2560_S384x512_0_1536) rfl (by omega) (by omega) (by omega) (by omega)))
        · exact ex_head (mem_unit2 (inb := inb_S384x2560_S384x512_0_2048) rfl (by omega) (by omega) (by omega) (by omega))
    icases HD with ⟨%fd, H10, %hfd⟩
    sl_for (invT11 (F := F) c arg10 arg14 (arg10.view.read (Elt F) fd) (arg14.view.read (Elt F) gz)) $$ [H10 H14]
    · intro k u
      exact stepT11 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i _ _ k u
    · unfold invT11 holds
      isplitl [H10]
      · iexists _
        isplitl [H10]; · iexact H10
        ipureintro
        intro r d
        rw [if_neg (by omega)]
      · iexists _
        isplitl [H14]; · iexact H14
        ipureintro
        intro R l
        rw [if_neg (by omega)]
    iintro %u11 HI
    unfold invT11 holds
    icases HI with ⟨⟨%go, H10, %hgo⟩, ⟨%ge, H14, %hge⟩⟩
    replace hgo : OutAt (arg10.view.read (Elt F) fd) (arg14.view.read (Elt F) gz) 48 (arg10.view.read (Elt F) go) := hgo
    replace hge : EmbAt (arg14.view.read (Elt F) gz) 48 (arg14.view.read (Elt F) ge) := hge
    sl_exec
    rw [wp_ret]; imodintro
    isplitl [H1 H2 H3 H4 H5 H6 H9 H13 H15 HE]
    · isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H13]
      · iexists _
        isplitl [H13]; · iexact H13
        ipureintro; trivial
      isplitl [H15]
      · iexists _
        isplitl [H15]; · iexact H15
        ipureintro; trivial
      iexact HE
    isplitl [H7 H8 H11 H12 H14 H16 HC HW]
    · isplitl [H7]; · iexact H7
      isplitl [H8]; · iexact H8
      isplitl [H11]
      · iexists _
        isplitl [H11]; · iexact H11
        ipureintro; exact Or.inr hfx
      isplitl [H12]; · iexists _; iexact H12
      isplitl [H14]
      · iexists _
        isplitl [H14]; · iexact H14
        ipureintro
        refine Or.inr fun r d => ?_
        unfold embAt
        rw [hge, if_pos (by show 24 * r.val + d.val / 128 < _; omega)]
      isplitl [H16]; · iexists _; iexact H16
      isplitl [HC]; · iexact HC
      iexact HW
    iexists _
    isplitl [H10]; · iexact H10
    ipureintro
    funext y
    have hy : y = ix2 (y 0) (y 1) := idx2_ext rfl rfl
    rw [hy]
    refine (hgo (y 0) (y 1)).trans ?_
    rw [if_pos (by have : (y 0).val < 384 := (y 0).isLt; omega)]
    refine (congrArg₂ FloatOps.addf (hfd (y 0) (y 1)) (hgz (y 0) (y 1))).trans ?_
    unfold outv
    rw [hA, hB]
    rfl

end Cert.Kernel.Hand
-- ==== Proof.Kernel.Tables.lean ====
/- The tables the program prepares before its kernel: the order of the tokens by id, the sorted ids, and the bounds of each block's tokens. -/
module

public import proofs.«01_k».proof.Proof.Gen.Kernel.Launch
public import proofs.«01_k».proof.Proof.Kernel.Words
public import Idealize.ShloMosaic.Lib.SortFacts
public import Idealize.ShloMosaic.Lib.Routing.Ops
public import Idealize.ShloMosaic.Lib.StableHlo.ReadAt

@[expose] public section

set_option pp.maxSteps 300

noncomputable section

namespace Cert.Kernel.Hand

open Cert.Kernel Cert.Kernel.Gen
open Idealize.ShloMosaic Idealize.ShloMosaic.TcCoe Idealize.ShloMosaic.Tactic

variable {F : FTy → Type} [FloatOps F]

/-- The position whose id the sort puts at `k`. -/
def perm (ids : S6144.Idx → BitVec 32) : Fin 6144 → Fin 6144 :=
  sortedFrom (fun k k' => IntOp.cmpi .slt (ids (ix1 k)) (ids (ix1 k')) == 1#1)

/-- The order of the tokens, as words. -/
def ordT (ids : S6144.Idx → BitVec 32) : S6144.Idx → BitVec 32 := fun j => BitVec.ofNat 32 (perm ids (j 0)).val

/-- The ids in that order. -/
def sidT (ids : S6144.Idx → BitVec 32) : S6144.Idx → BitVec 32 := fun j => ids (ix1 (perm ids (j 0)))

/-- How many ids are below the first row of each block. -/
def offT (ids : S6144.Idx → BitVec 32) : S132.Idx → BitVec 32 :=
  fun c => BitVec.ofNat 32 (Finset.univ.filter fun t : Fin 6144 => (ids (ix1 t)).toInt < 384 * (c 0).val).card

theorem toInt_lt_of_slt {x y : BitVec 32} : IntOp.cmpi .slt x y = 1#1 ↔ x.toInt < y.toInt := by
  show BitVec.ofBool (decide (x.toInt < y.toInt)) = 1#1 ↔ _
  by_cases h : x.toInt < y.toInt <;> simp [h]

/-- A word holding a small number reads as it, signed. -/
theorem toInt_ofNat {n : ℕ} (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- The sorted ids do not decrease. -/
theorem perm_mono (ids : S6144.Idx → BitVec 32) {k k' : Fin 6144} (h : k ≤ k') : (ids (ix1 (perm ids k))).toInt ≤ (ids (ix1 (perm ids k'))).toInt := by
  rcases eq_or_lt_of_le h with rfl | h
  · exact le_rfl
  have := sortedFrom_noInversion (fun k k' : Fin 6144 => IntOp.cmpi .slt (ids (ix1 k)) (ids (ix1 k')) == 1#1)
    (fun k k' : Fin 6144 => IntOp.cmpi .slt (ids (ix1 k)) (ids (ix1 k')) == 1#1)
    (fun a b h => by
      rw [beq_iff_eq, toInt_lt_of_slt] at h
      rw [beq_eq_false_iff_ne, ne_eq, toInt_lt_of_slt]; omega)
    (fun a b h => h)
    (fun a b c h1 h2 => by
      rw [beq_eq_false_iff_ne, ne_eq, toInt_lt_of_slt] at h1 h2 ⊢; omega) k k' h
  rw [beq_eq_false_iff_ne, ne_eq, toInt_lt_of_slt] at this
  exact not_lt.mp this

/-- The order is a permutation of the positions. -/
theorem perm_bijective (ids : S6144.Idx → BitVec 32) : Function.Bijective (perm ids) :=
  ⟨sortedFrom_injective _, sortedFrom_surjective _⟩

/-- In a list that does not decrease, the entries below a value are as many as the positions before the first that is not. -/
theorem lt_card_iff {n : ℕ} (s : Fin n → ℤ) (hs : ∀ k k', k ≤ k' → s k ≤ s k') (v : ℤ) (k : Fin n) :
    k.val < (Finset.univ.filter fun t : Fin n => s t < v).card ↔ s k < v := by
  constructor
  · intro h
    by_contra hk
    have : (Finset.univ.filter fun t : Fin n => s t < v) ⊆ Finset.Iio k := by
      intro t ht
      rw [Finset.mem_filter] at ht
      rw [Finset.mem_Iio]
      by_contra hle
      have := hs k t (not_lt.mp hle)
      omega
    have := Finset.card_le_card this
    rw [Fin.card_Iio] at this
    omega
  · intro h
    have : Finset.Iic k ⊆ (Finset.univ.filter fun t : Fin n => s t < v) := by
      intro t ht
      rw [Finset.mem_Iic] at ht
      rw [Finset.mem_filter]
      exact ⟨Finset.mem_univ _, lt_of_le_of_lt (hs t k ht) h⟩
    have := Finset.card_le_card this
    rw [Fin.card_Iic] at this
    omega

/-- How many ids are below block `n`'s first row. -/
def cnt (ids : S6144.Idx → BitVec 32) (n : ℕ) : ℕ := (Finset.univ.filter fun t : Fin 6144 => (ids (ix1 t)).toInt < 384 * (n : ℤ)).card

theorem cnt_le (ids : S6144.Idx → BitVec 32) (n : ℕ) : cnt ids n ≤ 6144 :=
  (Finset.card_le_univ _).trans (le_of_eq (Fintype.card_fin _))

theorem cnt_mono (ids : S6144.Idx → BitVec 32) {n n' : ℕ} (h : n ≤ n') : cnt ids n ≤ cnt ids n' := by
  refine Finset.card_le_card fun t ht => ?_
  rw [Finset.mem_filter] at ht ⊢
  exact ⟨ht.1, by omega⟩

/-- A sorted position is before block `n`'s bound exactly if its id is below the block's first row. -/
theorem lt_cnt_iff (ids : S6144.Idx → BitVec 32) (n : ℕ) (k : Fin 6144) : k.val < cnt ids n ↔ (ids (ix1 (perm ids k))).toInt < 384 * (n : ℤ) := by
  rw [← lt_card_iff (fun k => (ids (ix1 (perm ids k))).toInt) (fun k k' h => perm_mono ids h) (384 * (n : ℤ)) k]
  refine iff_of_eq (congrArg (k.val < ·) ?_)
  symm
  refine Finset.card_bijective (perm ids) (perm_bijective ids) fun t => ?_
  simp only [Finset.mem_filter, Finset.mem_univ, true_and]

theorem offT_toNat (ids : S6144.Idx → BitVec 32) (c : Fin 132) : (offT ids (ix1 c)).toNat = cnt ids c.val := by
  show (BitVec.ofNat 32 (cnt ids c.val)).toNat = _
  rw [BitVec.toNat_ofNat, Nat.mod_eq_of_lt (lt_of_le_of_lt (cnt_le ids c.val) (by decide))]

/-- The three tables are what the kernel needs of them. -/
theorem tabOK (ids : S6144.Idx → BitVec 32) : TabOK (ordT ids) (sidT ids) (offT ids) where
  ord j := by
    unfold ordT
    rw [BitVec.toNat_ofNat]
    exact lt_of_le_of_lt (Nat.mod_le _ _) (perm ids (j 0)).isLt
  mono c c' h := by
    rw [offT_toNat, offT_toNat]; exact cnt_mono ids (by omega)
  le c := by rw [offT_toNat]; exact cnt_le ids _
  seg c c' j h h1 h2 := by
    rw [offT_toNat] at h1 h2
    have h3 : ¬ (ids (ix1 (perm ids j))).toInt < 384 * (c.val : ℤ) := fun hh => absurd ((lt_cnt_iff ids c.val j).mpr hh) (by omega)
    have h4 := (lt_cnt_iff ids c'.val j).mp h2
    have hc := c.isLt
    rw [h] at h4
    push_cast at h4
    show 384 * c.val ≤ (ids (ix1 (perm ids j))).toNat ∧ (ids (ix1 (perm ids j))).toNat < 384 * (c.val + 1)
    generalize ids (ix1 (perm ids j)) = x at h3 h4
    have h3' : 384 * (c.val : ℤ) ≤ x.toInt := not_lt.mp h3
    have := x.isLt
    rw [BitVec.toInt_eq_toNat_cond] at h3' h4
    split at h4 <;> omega

/-- The host's sort of the ids, carrying the positions, gives the order. -/
theorem sort_eq (ids : S6144.Idx → BitVec 32) : (Host.sort2 S6144 0 comparator_i32_i32_d0 ids (iotaInDim S6144 32 0)).2 = ordT ids := by
  funext j
  have hd : 0 < S6144.rank := by decide
  have e : ∀ k : Fin 6144, j.along (⟨0, hd⟩ : Fin S6144.rank) k = ix1 k := fun k => (Shape.Idx.along_rank1 j k).trans (Routing.ofFin_eq_ix1 k)
  unfold Host.sort2
  refine (congrArg (fun z : (S6144.Idx → BitVec 32) × (S6144.Idx → BitVec 32) => z.2 j) (dif_pos hd)).trans ?_
  show iotaInDim S6144 32 0 (j.along (⟨0, hd⟩ : Fin S6144.rank) (sortedFrom (fun k k' : Fin 6144 => IntOp.cmpi .slt (ids (j.along (⟨0, hd⟩ : Fin S6144.rank) k)) (ids (j.along (⟨0, hd⟩ : Fin S6144.rank) k')) == 1#1) (j 0))) = _
  have e2 : (fun k k' : Fin 6144 => IntOp.cmpi .slt (ids (j.along (⟨0, hd⟩ : Fin S6144.rank) k)) (ids (j.along (⟨0, hd⟩ : Fin S6144.rank) k')) == 1#1)
      = fun k k' : Fin 6144 => IntOp.cmpi .slt (ids (ix1 k)) (ids (ix1 k')) == 1#1 := by
    funext k k'; rw [e, e]
  rw [e2]
  have h : ∀ p : Fin 6144, iotaInDim S6144 32 0 (j.along (⟨0, hd⟩ : Fin S6144.rank) p) = BitVec.ofNat 32 p.val :=
    fun p => (congrArg (iotaInDim S6144 32 0) (e p)).trans rfl
  unfold ordT perm
  exact h _

/-- A selection at an entry whose condition does not hold. -/
theorem select_neg {s : Shape} {α : Type} (p : IVec s 1) (x y : s.Idx → α) (j : s.Idx) (h : ¬ p j = 1#1) : select p x y j = y j := if_neg h

/-- The ids gathered at the order. -/
theorem gather_eq (ids : S6144.Idx → BitVec 32) :
    Host.gather gather_S6144_S6144x1_S6144_n_0_n_n_0_1_1 ids (broadcastInDim S6144x1 ![0] bcast_S6144_S6144x1_0
      (select (cmpi .slt (ordT ids) (broadcastInDim S6144 ![] bcast_S_S6144 (constantI S_ 32 0#32)))
        (addi (ordT ids) (broadcastInDim S6144 ![] bcast_S_S6144 (constantI S_ 32 6144#32))) (ordT ids))) = sidT ids := by
  have hsel : select (cmpi .slt (ordT ids) (broadcastInDim S6144 ![] bcast_S_S6144 (constantI S_ 32 0#32)))
        (addi (ordT ids) (broadcastInDim S6144 ![] bcast_S_S6144 (constantI S_ 32 6144#32))) (ordT ids) = ordT ids := by
    funext j
    have hz : broadcastInDim S6144 ![] bcast_S_S6144 (constantI S_ 32 0#32) j = 0#32 := (Routing.bc0 (s := S6144) bcast_S_S6144 (constantI S_ 32 0#32) j).trans rfl
    refine select_neg _ _ _ j fun h => ?_
    replace h : IntOp.cmpi .slt (BitVec.ofNat 32 (perm ids (j 0)).val) (broadcastInDim S6144 ![] bcast_S_S6144 (constantI S_ 32 0#32) j) = 1#1 := h
    have hp := (perm ids (j 0)).isLt
    have h' := toInt_lt_of_slt.mp h
    rw [toInt_ofNat (by omega), hz, BitVec.toInt_zero] at h'
    omega
  rw [hsel]
  funext j
  obtain ⟨p, rfl⟩ : ∃ p : Fin 6144, j = ix1 p := ⟨j 0, eq_ix1 j⟩
  have h := StableHlo.Predicate.gather_take gather_S6144_S6144x1_S6144_n_0_n_n_0_1_1 rfl rfl rfl rfl ids
    (broadcastInDim S6144x1 ![0] bcast_S6144_S6144x1_0 (ordT ids)) p (by omega)
  have e : ∀ k : Fin 6144, (Shape.Idx.ofFin k : (⟨1, ![6144]⟩ : Shape).Idx) = ix1 k := fun k => Routing.ofFin_eq_ix1 k
  rw [e, e] at h
  refine h.trans ?_
  show ids _ = ids (ix1 (perm ids p))
  refine congrArg (fun q : Fin 6144 => ids (ix1 q)) (Fin.ext ?_)
  show min _ 6143 = (perm ids p).val
  have hb : broadcastInDim S6144x1 ![0] bcast_S6144_S6144x1_0 (ordT ids) (StableHlo.Predicate.ixP p) = ordT ids (ix1 p) := by
    rw [show (StableHlo.Predicate.ixP p : (⟨2, ![6144, 1]⟩ : Shape).Idx) = ix2 p (0 : Fin 1) from by
      funext b; match b with
      | ⟨0, _⟩ => rfl
      | ⟨1, _⟩ => rfl]
    exact Routing.bcCol _ _ p
  rw [hb]
  show min (BitVec.ofNat 32 (perm ids p).val).toInt.toNat 6143 = _
  have := (perm ids p).isLt
  rw [toInt_ofNat (by omega)]
  omega

/-- The counts of the ids below each block's first row. -/
theorem count_eq (ids : S6144.Idx → BitVec 32) :
    Host.reduce IntOp.addi (extui 32 (cmpi .slt
        (broadcastInDim S132x6144 ![0, 1] bcast_S1x6144_S132x6144_0_1 (broadcastInDim S1x6144 ![1] bcast_S6144_S1x6144_1 ids))
        (broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))))) natLt_1_32)
      (constantI S_ 32 0#32) reducesTo_S132x6144_S132_d1 h_S_ = offT ids := by
  funext j
  apply BitVec.eq_of_toNat_eq
  refine (StableHlo.Predicate.toNat_reduce_count_cols (by decide) _ natLt_1_32 _ h_S_ j).trans ?_
  obtain ⟨p, rfl⟩ : ∃ p : Fin 132, j = ix1 p := ⟨j 0, eq_ix1 j⟩
  rw [offT_toNat]
  unfold cnt
  refine congrArg Finset.card (Finset.filter_congr fun q _ => ?_)
  show cmpi .slt _ _ (StableHlo.Predicate.ij (n := 132) (m := 6144) p q) = 1#1 ↔ _
  rw [show (StableHlo.Predicate.ij (n := 132) (m := 6144) p q : S132x6144.Idx) = ix2 p q from Routing.ij_eq_ix2 p q]
  show IntOp.cmpi .slt (broadcastInDim S132x6144 ![0, 1] bcast_S1x6144_S132x6144_0_1 (broadcastInDim S1x6144 ![1] bcast_S6144_S1x6144_1 ids) (ix2 p q))
    (broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))) (ix2 p q)) = 1#1 ↔ _
  rw [toInt_lt_of_slt]
  rw [show broadcastInDim S132x6144 ![0, 1] bcast_S1x6144_S132x6144_0_1 (broadcastInDim S1x6144 ![1] bcast_S6144_S1x6144_1 ids) (ix2 p q) = ids (ix1 q) from Routing.bcCols _ _ _ p q,
    show broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))) (ix2 p q)
        = (muli (iotaInDim S132 32 0) (broadcastInDim S132 ![] bcast_S_S132 (constantI S_ 32 384#32))) (ix1 p) from Routing.bcRows _ _ _ p q]
  have hv : (muli (iotaInDim S132 32 0) (broadcastInDim S132 ![] bcast_S_S132 (constantI S_ 32 384#32))) (ix1 p) = BitVec.ofNat 32 (384 * p.val) := by
    show IntOp.muli (BitVec.ofNat 32 p.val) (broadcastInDim S132 ![] bcast_S_S132 (constantI S_ 32 384#32) (ix1 p)) = _
    rw [Routing.bc0]
    show BitVec.ofNat 32 p.val * BitVec.ofNat 32 384 = _
    rw [← BitVec.ofNat_mul, Nat.mul_comm]
  have hp := p.isLt
  rw [hv, toInt_ofNat (by omega)]
  push_cast
  rfl

variable (m : (ℓ : Loc nD τ sig) → Buf (Elt F) ℓ) (c : Dev nD)

/-- What the kernel finds in memory: the arguments and the values the host's lines before it leave. -/
def V (c : Dev nD) (b : Ref sig .tc) : Buf (Elt F) ((c : Thread nD τ).loc b) :=
  StableHlo.after (List.flatten [hostOps0, hostOps0_1, hostOps0_2]) (fun b => m (c, b)) (Proc.devRef .tc b)

/-- The token ids as one list. -/
def idsOf : S6144.Idx → BitVec 32 := shapeCast S6144 (m ((c : Thread nD τ).loc main_arg6)) shapeCasts_S6x1024_S6144

theorem V_27 : V m c main_v27 = ordT (idsOf m c) := by
  unfold V
  simp only [List.flatten_cons, List.flatten_nil, List.append_nil, List.cons_append, List.nil_append]
  after_reads_simp
  exact sort_eq (idsOf m c)

theorem V_34 : V m c main_v34 = sidT (idsOf m c) := by
  unfold V
  simp only [List.flatten_cons, List.flatten_nil, List.append_nil, List.cons_append, List.nil_append]
  after_reads_simp
  refine Eq.trans ?_ (gather_eq (idsOf m c))
  rw [← sort_eq (idsOf m c)]
  rfl

theorem V_44 : V m c main_v44 = offT (idsOf m c) := by
  unfold V
  simp only [List.flatten_cons, List.flatten_nil, List.append_nil, List.cons_append, List.nil_append]
  after_reads_simp
  exact count_eq (idsOf m c)

end Cert.Kernel.Hand
-- ==== Proof.Kernel.Run.lean ====
/- The whole run of the program: the pipeline over the grid points, from the tables to the result. -/
module

public import proofs.«01_k».proof.Proof.Kernel.Body
public import proofs.«01_k».proof.Proof.Kernel.Tables
public import Idealize.ShloMosaic.Lib.Pipeline.FrameSuffix
public import Idealize.ShloMosaic.Lib.Pipeline.Value
public import Idealize.ShloMosaic.Lib.Claim

@[expose] public section

set_option pp.maxSteps 300

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The tables as the pipeline finds them. -/
def adm : (pcfg0 (F := F)).Adm := ⟨fun k => V m 0 (pre0.ref k), trivial⟩

/-- Window `w`'s block at point `t`, read off its array as the region finds it. -/
def iblk (c : Dev nD) (w : Fin 5) (t : Fin grid0.N) : (((cfg0 (adm m)).win w).xblock (grid0.coords t)).Idx → Elt F ((cfg0 (adm m)).win w).elt :=
  (((cfg0 (adm m)).win w).blk t).view.read (Elt F) (V m c (Pipeline.arrRef spec0 w))

/-- The blocks the body computes on, at their literal shapes. -/
abbrev iblk0 (c : Dev nD) (t : Fin grid0.N) : Vec F S6144 .f32 := iblk m c 0 t
abbrev iblk1 (c : Dev nD) (t : Fin grid0.N) : Vec F S6144x384 .fp8e5m2 := iblk m c 1 t
abbrev iblk2 (c : Dev nD) (t : Fin grid0.N) : Vec F S1x1x6144 .f32 := iblk m c 2 t
abbrev iblk3 (c : Dev nD) (t : Fin grid0.N) : Vec F S6144x1 .f32 := iblk m c 3 t

/-- The one block of the row scales is the whole of them. -/
theorem iblk3_eq (c : Dev nD) (t : Fin grid0.N) : iblk3 m c t = V m c main_v5 := by
  funext x
  unfold iblk3 iblk
  rw [View.read_apply]
  show V m c main_v5 ((((cfg0 (adm m)).win 3).blk t).view.emb x) = _
  congr 1
  refine idx2_ext ?_ ?_
  · show (cc0_transform_4 (grid0.coords t) 0) * 6144 + 1 * (x 0).val = (x 0).val
    show 0 * 6144 + 1 * (x 0).val = (x 0).val
    omega
  · show 0 * 1 + 1 * (x 1).val = (x 1).val
    omega

/-- The block of the result the point `t` leaves. -/
def oblk (c : Dev nD) (t : Fin grid0.N) : Vec F S384x2560 .f32 :=
  outv (V m c main_v27) (V m c main_v34) (V m c main_v44) (iblk0 m c t) (iblk1 m c t) (iblk2 m c t) (V m c main_v4) (V m c main_v5) (V m c main_v24) t.val

/-- What the body keeps from point to point: the tables and the arrays it copies from itself, its scratch buffers and its semaphores. -/
def inv (c : Dev nD) (first : Prop) : sProp 𝕄 :=
  iprop((((c : Thread nD τ).loc main_v27) ↦{fullShare.right} V m c main_v27) ∗ (((c : Thread nD τ).loc main_v34) ↦{fullShare.right} V m c main_v34)
    ∗ (((c : Thread nD τ).loc main_v44) ↦{fullShare.right} V m c main_v44)
    ∗ (((c : Thread nD τ).loc main_v4) ↦{fullShare} V m c main_v4) ∗ (((c : Thread nD τ).loc main_v24) ↦{fullShare} V m c main_v24)
    ∗ holds c (Memref.whole cc0_scratch0) (fun Y => first ∨ XbUpTo (V m c main_v4) (V m c main_v5) 6144 Y)
    ∗ (∃ f, (Memref.whole cc0_scratch1).view.loc (c : Thread nD τ) ↦[(Memref.whole cc0_scratch1).view.set]{fullShare} f)
    ∗ holds c (Memref.whole cc0_scratch2) (fun _ => True)
    ∗ holds c (Memref.whole cc0_scratch3) (fun Z => first ∨ EmbZero Z)
    ∗ holds c (Memref.whole cc0_scratch4) (fun _ => True)
    ∗ (∃ f, (Memref.whole cc0_scratch5).view.loc (c : Thread nD τ) ↦[(Memref.whole cc0_scratch5).view.set]{fullShare} f)
    ∗ semVal ((c : Thread nD τ), SemLoc.dma cc0_scratch6.sem) 0 ∗ semVal ((c : Thread nD τ), SemLoc.dma cc0_scratch7.sem) 0
    ∗ ∃ r, prngReg c r)

/-- The proof data of the pipeline. -/
def dats (_ : Fin 1) (c : Dev nD) : Dat τ (Elt F) Unit ℕ (Pipeline.UD sig nD τ) ℕ (cfg0 (adm m)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ t := inv m c (t.val = 0)
  q _ := fullShare
  owed _ := 0

theorem A_eq (c : Dev nD) (w : Fin 5) : (dats m 0 c).A w = V m c (Pipeline.arrRef spec0 w) := by
  dsimp only [dats]

theorem after0_0 (c : Dev nD) (t : Fin grid0.N) : (dats m 0 c).after 0 t = iblk m c 0 t := by dsimp only [dats]; rfl
theorem after0_1 (c : Dev nD) (t : Fin grid0.N) : (dats m 0 c).after 1 t = iblk m c 1 t := by dsimp only [dats]; rfl
theorem after0_2 (c : Dev nD) (t : Fin grid0.N) : (dats m 0 c).after 2 t = iblk m c 2 t := by dsimp only [dats]; rfl
theorem after0_3 (c : Dev nD) (t : Fin grid0.N) : (dats m 0 c).after 3 t = iblk m c 3 t := by dsimp only [dats]; rfl
theorem after0_4 (c : Dev nD) (t : Fin grid0.N) : (dats m 0 c).after 4 t = oblk m c t := by dsimp only [dats]; rfl

/-- An input's staging buffer holds its block at every point. -/
theorem before0_0 (c : Dev nD) (t : Fin grid0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin grid0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin grid0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin grid0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The staging buffers of point `t`. -/
abbrev st0 (t : Fin grid0.N) (w : Fin 5) := ((cfg0 (adm m)).win w).stage ((cfg0 (adm m)).slots t w)

/-- The only grid coordinate of point `t` is `t`. -/
theorem coord_val (t : Fin grid0.N) : ((grid0.coords t) 0).val = t.val := by
  rw [Pipeline.Grid.coords_val t 0 (S := 1) (B := 131) (by decide) rfl]
  have h : t.val < 131 := lt_of_lt_of_eq t.isLt N_0
  omega

/-- The first point is the one at coordinate zero. -/
theorem cond1_iff (t : Fin grid0.N) : k0_cond1 (grid0.coords t) = 1#1 ↔ t.val = 0 := by
  have e : k0_cond1 (grid0.coords t) = Scalar.cmpi .ne (Scalar.extui (Scalar.cmpi .eq (BitVec.ofNat 32 ((grid0.coords t) 0).val) 0#32) : BitVec 32) 0#32 := rfl
  rw [e, coord_val]
  have hlt : t.val < 131 := lt_of_lt_of_eq t.isLt N_0
  generalize t.val = n at hlt ⊢
  revert n
  decide +kernel

/-- The tables are the ones the kernel's loops rely on. -/
theorem tabV (c : Dev nD) : TabOK ((Memref.whole main_v27).view.read (Elt F) (V m c main_v27)) ((Memref.whole main_v34).view.read (Elt F) (V m c main_v34))
    ((Memref.whole main_v44).view.read (Elt F) (V m c main_v44)) := by
  have h : TabOK (V m c main_v27) (V m c main_v34) (V m c main_v44) := by
    rw [V_27, V_34, V_44]; exact tabOK _
  exact h

-- from here on the host lines are not to be opened
attribute [local irreducible] V

/-- What the body is called with at point `t`, -/
def bodyPre (c : Dev nD) (t : Fin grid0.N) : sProp 𝕄 :=
  iprop((dats m 0 c).Φ t.castSucc ∗ (dats m 0 c).owesAt () t.castSucc
    ∗ (∃ d, owns (c : Thread nD τ) (st0 m t 0) fullShare ((dats m 0 c).before 0 t d))
    ∗ (∃ d, owns (c : Thread nD τ) (st0 m t 1) fullShare ((dats m 0 c).before 1 t d))
    ∗ (∃ d, owns (c : Thread nD τ) (st0 m t 2) fullShare ((dats m 0 c).before 2 t d))
    ∗ (∃ d, owns (c : Thread nD τ) (st0 m t 3) fullShare ((dats m 0 c).before 3 t d))
    ∗ (∃ d, owns (c : Thread nD τ) (st0 m t 4) fullShare ((dats m 0 c).before 4 t d)))

/-- and what it returns. -/
def bodyPost (c : Dev nD) (t : Fin grid0.N) : sProp 𝕄 :=
  iprop((dats m 0 c).Φ t.succ ∗ (dats m 0 c).owesAt () t.succ
    ∗ owns (c : Thread nD τ) (st0 m t 0) fullShare ((dats m 0 c).after 0 t)
    ∗ owns (c : Thread nD τ) (st0 m t 1) fullShare ((dats m 0 c).after 1 t)
    ∗ owns (c : Thread nD τ) (st0 m t 2) fullShare ((dats m 0 c).after 2 t)
    ∗ owns (c : Thread nD τ) (st0 m t 3) fullShare ((dats m 0 c).after 3 t)
    ∗ owns (c : Thread nD τ) (st0 m t 4) fullShare ((dats m 0 c).after 4 t))

/-- The body's program at point `t`. -/
abbrev bodyAt (t : Fin grid0.N) := (defs₀ (F := F)) .tc (cfg0 (adm m)).body ((cfg0 (adm m)).bodyArgs t ((cfg0 (adm m)).slots t))

set_option maxHeartbeats 1000000 in
/-- The body at any point, from `point_run`. -/
theorem sound_body (c : Dev nD) (t : Fin grid0.N) :
    bodyPre m c t ⊢ wp frame (wpE (defs₀ (F := F)) Variants.none c none) Set.univ (bodyAt m t) (fun _ => bodyPost m c t) := by
  unfold bodyPre bodyPost bodyAt
  simp only [before0_0, before0_1, before0_2, before0_3]
  rw [after0_0, after0_1, after0_2, after0_3, after0_4]
  unfold defs₀
  rw [Defs.onTc_tc]
  dsimp only [dats]
  unfold inv owns Dat.owesAt Pipeline.owesWithin
  iintro ⟨⟨H27, H34, H44, H4, H24, S0, S1, S2, S3, S4, S5, D6, D7, HP⟩, ⟨%W, -, HW⟩, ⟨%d0, %f0, %h0, W0⟩, ⟨%d1, %f1, %h1, W1⟩, ⟨%d2, %f2, %h2, W2⟩, ⟨%d3, %f3, %h3, W3⟩, ⟨%d4, %f4, -, W4⟩⟩
  have h3' : (spec0_3.stage ((cfg0 (adm m)).slots t 3)).view.read (Elt F) f3 = V m c main_v5 := h3.trans (iblk3_eq m c t)
  have h0' : (spec0_0.stage ((cfg0 (adm m)).slots t 0)).view.read (Elt F) f0 = iblk0 m c t := h0
  have h1' : (spec0_1.stage ((cfg0 (adm m)).slots t 1)).view.read (Elt F) f1 = iblk1 m c t := h1
  have h2' : (spec0_2.stage ((cfg0 (adm m)).slots t 2)).view.read (Elt F) f2 = iblk2 m c t := h2
  iapply (wp_wand_r frame _ Set.univ)
  isplitl [H27 H34 H44 H4 H24 S0 S1 S2 S3 S4 S5 D6 D7 HW W0 W1 W2 W3 W4]
  · iapply (point_run (arg1 := Memref.whole main_v27) (harg1 := Memref.isWhole_whole _) (arg2 := Memref.whole main_v34) (harg2 := Memref.isWhole_whole _)
      (arg3 := Memref.whole main_v44) (harg3 := Memref.isWhole_whole _) (arg4 := spec0_0.stage ((cfg0 (adm m)).slots t 0)) (arg5 := spec0_1.stage ((cfg0 (adm m)).slots t 1))
      (arg6 := spec0_2.stage ((cfg0 (adm m)).slots t 2)) (arg7 := Memref.whole main_v4) (harg7 := Memref.isWhole_whole _) (arg8 := spec0_3.stage ((cfg0 (adm m)).slots t 3))
      (arg9 := Memref.whole main_v24) (harg9 := Memref.isWhole_whole _) (arg10 := spec0_4.stage ((cfg0 (adm m)).slots t 4))
      (arg11 := Memref.whole cc0_scratch0) (harg11 := Memref.isWhole_whole _) (arg12 := Memref.whole cc0_scratch1) (harg12 := Memref.isWhole_whole _)
      (arg13 := Memref.whole cc0_scratch2) (harg13 := Memref.isWhole_whole _) (arg14 := Memref.whole cc0_scratch3) (harg14 := Memref.isWhole_whole _)
      (arg15 := Memref.whole cc0_scratch4) (harg15 := Memref.isWhole_whole _) (arg16 := Memref.whole cc0_scratch5) (harg16 := Memref.isWhole_whole _)
      (arg17 := cc0_scratch6) (arg18 := cc0_scratch7)
      Variants.none c none (grid0.coords t) fullShare.right (V m c main_v27) (V m c main_v34) (V m c main_v44) f0 f1 f2 (V m c main_v4) f3 (V m c main_v24) (tabV m c))
    unfold rest ready
    isplitl [H27 H34 H44 W0 W1 W2 H24 S2 S4 D7]
    · isplitl [H27]; · iexact H27
      isplitl [H34]; · iexact H34
      isplitl [H44]; · iexact H44
      isplitl [W0]; · iexact W0
      isplitl [W1]; · iexact W1
      isplitl [W2]; · iexact W2
      isplitl [H24]; · iexact H24
      isplitl [S2]; · iexact S2
      isplitl [S4]; · iexact S4
      iexact D7
    isplitl [H4 W3 S0 S1 S3 S5 D6 HW]
    · isplitl [H4]; · iexact H4
      isplitl [W3]; · iexact W3
      isplitl [S0]
      · unfold holds
        icases S0 with ⟨%g, S0, %hg⟩
        iexists g
        isplitl [S0]; · iexact S0
        ipureintro
        exact hg.imp (cond1_iff t).2 (fun h => by rw [h3']; exact h)
      isplitl [S1]; · iexact S1
      isplitl [S3]
      · unfold holds
        icases S3 with ⟨%g, S3, %hg⟩
        iexists g
        isplitl [S3]; · iexact S3
        ipureintro
        exact hg.imp (cond1_iff t).2 id
      isplitl [S5]; · iexact S5
      isplitl [D6]; · iexact D6
      iexists W
      iexact HW
    · unfold holds
      iexists f4
      isplitl [W4]; · iexact W4
      ipureintro
      trivial
  unfold rest ready
  iintro %u ⟨⟨H27, H34, H44, W0, W1, W2, H24, S2, S4, D7⟩, ⟨H4, W3, S0, S1, S3, S5, D6, ⟨%W', HW⟩⟩, HO⟩
  isplitl [H27 H34 H44 H4 H24 S0 S1 S2 S3 S4 S5 D6 D7 HP]
  · isplitl [H27]; · iexact H27
    isplitl [H34]; · iexact H34
    isplitl [H44]; · iexact H44
    isplitl [H4]; · iexact H4
    isplitl [H24]; · iexact H24
    isplitl [S0]
    · unfold holds
      icases S0 with ⟨%g, S0, %hg⟩
      iexists g
      isplitl [S0]; · iexact S0
      ipureintro
      exact Or.inr (by have h := hg.resolve_left id; rw [h3'] at h; exact h)
    isplitl [S1]; · iexact S1
    isplitl [S2]; · iexact S2
    isplitl [S3]
    · unfold holds
      icases S3 with ⟨%g, S3, %hg⟩
      iexists g
      isplitl [S3]; · iexact S3
      ipureintro
      exact Or.inr (hg.resolve_left id)
    isplitl [S4]; · iexact S4
    isplitl [S5]; · iexact S5
    isplitl [D6]; · iexact D6
    isplitl [D7]; · iexact D7
    iexact HP
  isplitl [HW]
  · iexists W'
    isplitr
    · ipureintro
      exact fun _ _ => Or.inl trivial
    · iexact HW
  isplitl [W0]
  · iexists f0; isplitr; · ipureintro; exact h0
    iexact W0
  isplitl [W1]
  · iexists f1; isplitr; · ipureintro; exact h1
    iexact W1
  isplitl [W2]
  · iexists f2; isplitr; · ipureintro; exact h2
    iexact W2
  isplitl [W3]
  · iexists f3; isplitr; · ipureintro; exact h3
    iexact W3
  unfold holds
  icases HO with ⟨%g, HO, %hg⟩
  iexists g
  isplitr
  · ipureintro
    rw [h0', h1', h2', h3', coord_val] at hg
    exact hg
  iexact HO

end Cert.Kernel.Hand

end
-- ==== Proof.Kernel.Whole.lean ====
/- The launch of the program: every run ends, leaves its arguments alone and its result as the grid points left it. -/
module

public import proofs.«01_k».proof.Proof.Kernel.Run

@[expose] public section

set_option pp.maxSteps 300

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F]

/-- The proof's resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-- The semaphores the kernel waits on for its own copies. -/
abbrev osem0 : Fin 2 → SemLoc sig := fun j => (![.dma cc0_scratch6.sem, .dma cc0_scratch7.sem]) j
theorem ownSemFacts0 : Pipeline.OwnSemFacts spec0 osem0 := by decide

/-- The arrays the kernel copies from itself. -/
abbrev H0 : Finset (Ref sig .tc) := {main_v4, main_v24}
theorem H0_sub : H0 ⊆ Pipeline.restRefsP sig pre0 spec0 := by decide

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program is its host lines, then the pipeline. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host line writes argument 0. -/
theorem V_main_arg0 (c : Dev nD) : V m c main_arg0 = m ((c : Thread nD τ).loc main_arg0) := by
  unfold V
  simp only [List.flatten_cons, List.flatten_nil, List.append_nil, List.cons_append, List.nil_append]
  after_reads_simp
/-- No host line writes argument 1. -/
theorem V_main_arg1 (c : Dev nD) : V m c main_arg1 = m ((c : Thread nD τ).loc main_arg1) := by
  unfold V
  simp only [List.flatten_cons, List.flatten_nil, List.append_nil, List.cons_append, List.nil_append]
  after_reads_simp
/-- No host line writes argument 2. -/
theorem V_main_arg2 (c : Dev nD) : V m c main_arg2 = m ((c : Thread nD τ).loc main_arg2) := by
  unfold V
  simp only [List.flatten_cons, List.flatten_nil, List.append_nil, List.cons_append, List.nil_append]
  after_reads_simp
/-- No host line writes argument 3. -/
theorem V_main_arg3 (c : Dev nD) : V m c main_arg3 = m ((c : Thread nD τ).loc main_arg3) := by
  unfold V
  simp only [List.flatten_cons, List.flatten_nil, List.append_nil, List.cons_append, List.nil_append]
  after_reads_simp
/-- No host line writes argument 4. -/
theorem V_main_arg4 (c : Dev nD) : V m c main_arg4 = m ((c : Thread nD τ).loc main_arg4) := by
  unfold V
  simp only [List.flatten_cons, List.flatten_nil, List.append_nil, List.cons_append, List.nil_append]
  after_reads_simp
/-- No host line writes argument 5. -/
theorem V_main_arg5 (c : Dev nD) : V m c main_arg5 = m ((c : Thread nD τ).loc main_arg5) := by
  unfold V
  simp only [List.flatten_cons, List.flatten_nil, List.append_nil, List.cons_append, List.nil_append]
  after_reads_simp
/-- No host line writes argument 6. -/
theorem V_main_arg6 (c : Dev nD) : V m c main_arg6 = m ((c : Thread nD τ).loc main_arg6) := by
  unfold V
  simp only [List.flatten_cons, List.flatten_nil, List.append_nil, List.cons_append, List.nil_append]
  after_reads_simp

-- from here on the host lines are not to be opened
attribute [local irreducible] V

theorem V_pre (c : Dev nD) : ∀ k, V m c (pre0.ref k) = (adm m).1 k := by
  intro k
  have h : c = 0 := Subsingleton.elim _ _
  subst h; rfl

theorem whole_pts (c : Dev nD) (b : Ref sig .tc) (q : PosShare TreeShare) (f : Buf (Elt F) ((c : Thread nD τ).loc b)) :
    ((((c : Thread nD τ).loc b) ↦{q} f) : sProp 𝕄) = ((Memref.whole b).view.loc (c : Thread nD τ) ↦[(Memref.whole b).view.set]{q} f) := by
  show _ = (((c : Thread nD τ).loc b) ↦[(View.whole b).set]{q} f)
  rw [View.set_whole]

theorem osems_eq (c : Dev nD) : (Pipeline.ownSems0 osem0 c : sProp 𝕄)
    = iprop(semVal ((c : Thread nD τ), SemLoc.dma cc0_scratch6.sem) 0 ∗ semVal ((c : Thread nD τ), SemLoc.dma cc0_scratch7.sem) 0) := by
  rw [Pipeline.ownSems0_eq_of_list c osem0 [0, 1] (by decide) (by decide)]; rfl

theorem hbm_eq (c : Dev nD) : (bigSep H0 (fun b => (((c : Thread nD τ).loc b) ↦{fullShare} V m c b)) : sProp 𝕄)
    = iprop((((c : Thread nD τ).loc main_v4) ↦{fullShare} V m c main_v4) ∗ (((c : Thread nD τ).loc main_v24) ↦{fullShare} V m c main_v24)) := by
  rw [BI.bigSep_eq_bigSepL_of_eq [main_v4, main_v24] (by decide) (by decide)]; rfl

theorem tabs_eq (c : Dev nD) : (Pipeline.ΦT pre0 (adm m).1 c : sProp 𝕄)
    = iprop((((c : Thread nD τ).loc main_v27) ↦{fullShare.right} V m c main_v27) ∗ (((c : Thread nD τ).loc main_v34) ↦{fullShare.right} V m c main_v34)
        ∗ (((c : Thread nD τ).loc main_v44) ↦{fullShare.right} V m c main_v44)) := by
  have h : c = 0 := Subsingleton.elim _ _
  subst h
  unfold Pipeline.ΦT Pipeline.prefHeld
  rw [bigSep_univ_eq_bigSepL [(0 : Fin 3), (1 : Fin 3), (2 : Fin 3)] (by decide) (by decide)]
  rfl

theorem hin (c : Dev nD) : iprop(Pipeline.ΦD osem0 spec0 H0 (V m) c ∗ Pipeline.ΦT pre0 (adm m).1 c) ⊢ (dats m 0 c).Φ 0 := by
  unfold Pipeline.ΦD
  rw [scopedRest0_eq, osems_eq, hbm_eq, tabs_eq]
  dsimp only [dats]
  unfold inv holds
  iintro ⟨⟨⟨⟨%g0, S0⟩, ⟨%g1, S1⟩, ⟨%g2, S2⟩, ⟨%g3, S3⟩, ⟨%g4, S4⟩, ⟨%g5, S5⟩⟩, HP, ⟨D6, D7⟩, ⟨H4, H24⟩⟩, ⟨H27, H34, H44⟩⟩
  isplitl [H27]; · iexact H27
  isplitl [H34]; · iexact H34
  isplitl [H44]; · iexact H44
  isplitl [H4]; · iexact H4
  isplitl [H24]; · iexact H24
  isplitl [S0]
  · iexists g0
    rw [← whole_pts]
    isplitl [S0]; · iexact S0
    ipureintro; exact Or.inl rfl
  isplitl [S1]
  · iexists g1; rw [← whole_pts]; iexact S1
  isplitl [S2]
  · iexists g2
    rw [← whole_pts]
    isplitl [S2]; · iexact S2
    ipureintro; trivial
  isplitl [S3]
  · iexists g3
    rw [← whole_pts]
    isplitl [S3]; · iexact S3
    ipureintro; exact Or.inl rfl
  isplitl [S4]
  · iexists g4
    rw [← whole_pts]
    isplitl [S4]; · iexact S4
    ipureintro; trivial
  isplitl [S5]
  · iexists g5; rw [← whole_pts]; iexact S5
  isplitl [D6]; · iexact D6
  isplitl [D7]; · iexact D7
  iexact HP

theorem hout (c : Dev nD) : (dats m 0 c).Φ (Fin.last (cfg0 (adm m)).N) ⊢ Pipeline.ΦD osem0 spec0 H0 (V m) c := by
  unfold Pipeline.ΦD
  rw [scopedRest0_eq, osems_eq, hbm_eq]
  dsimp only [dats]
  unfold inv holds
  iintro ⟨H27, H34, H44, H4, H24, ⟨%g0, S0, -⟩, ⟨%g1, S1⟩, ⟨%g2, S2, -⟩, ⟨%g3, S3, -⟩, ⟨%g4, S4, -⟩, ⟨%g5, S5⟩, D6, D7, HP⟩
  isplitl [S0 S1 S2 S3 S4 S5]
  · isplitl [S0]; · iexists g0; rw [whole_pts c cc0_scratch0]; iexact S0
    isplitl [S1]; · iexists g1; rw [whole_pts c cc0_scratch1]; iexact S1
    isplitl [S2]; · iexists g2; rw [whole_pts c cc0_scratch2]; iexact S2
    isplitl [S3]; · iexists g3; rw [whole_pts c cc0_scratch3]; iexact S3
    isplitl [S4]; · iexists g4; rw [whole_pts c cc0_scratch4]; iexact S4
    iexists g5; rw [whole_pts c cc0_scratch5]; iexact S5
  isplitl [HP]; · iexact HP
  isplitl [D6 D7]
  · isplitl [D6]; · iexact D6
    iexact D7
  isplitl [H4]; · iexact H4
  iexact H24

set_option backward.isDefEq.respectTransparency.types false in
set_option maxHeartbeats 1600000 in
/-- The run: it ends, with the arrays as the pipeline left them, every other buffer as the host lines left it, and every semaphore at zero. -/
theorem run_main : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c).loose) (hshare := fun c => (dats m 0 c).share_full fun _ => rfl) (howed := fun _ _ => rfl)
    (V := V m) (hmain := hmain m Variants.none) (hA := A_eq m) (hpf := V_pre m) (hin := hin m) (hout := hout m)

theorem mem_arg0 : main_arg0 ∈ Pipeline.restRefs sig spec0 := Pipeline.mem_restRefs_of main_arg0 (by decide) (by decide)
theorem mem_arg1 : main_arg1 ∈ Pipeline.restRefs sig spec0 := Pipeline.mem_restRefs_of main_arg1 (by decide) (by decide)
theorem mem_arg2 : main_arg2 ∈ Pipeline.restRefs sig spec0 := Pipeline.mem_restRefs_of main_arg2 (by decide) (by decide)
theorem mem_arg3 : main_arg3 ∈ Pipeline.restRefs sig spec0 := Pipeline.mem_restRefs_of main_arg3 (by decide) (by decide)
theorem mem_arg4 : main_arg4 ∈ Pipeline.restRefs sig spec0 := Pipeline.mem_restRefs_of main_arg4 (by decide) (by decide)
theorem mem_arg5 : main_arg5 ∈ Pipeline.restRefs sig spec0 := Pipeline.mem_restRefs_of main_arg5 (by decide) (by decide)
theorem mem_arg6 : main_arg6 ∈ Pipeline.restRefs sig spec0 := Pipeline.mem_restRefs_of main_arg6 (by decide) (by decide)

/-- The argument arrays end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 mem_arg0).trans (V_main_arg0 m c),
      ((h.1 c).2 main_arg1 mem_arg1).trans (V_main_arg1 m c),
      ((h.1 c).2 main_arg2 mem_arg2).trans (V_main_arg2 m c),
      ((h.1 c).2 main_arg3 mem_arg3).trans (V_main_arg3 m c),
      ((h.1 c).2 main_arg4 mem_arg4).trans (V_main_arg4 m c),
      ((h.1 c).2 main_arg5 mem_arg5).trans (V_main_arg5 m c),
      ((h.1 c).2 main_arg6 mem_arg6).trans (V_main_arg6 m c)⟩, h.2⟩) (run_main m ρ)

end Cert.Kernel.Hand

end
-- ==== Proof.KernelIdeal.Ops.lean ====
/- What the modules of the kernel's run share: how a buffer's contents are stated, and how a load or a list of stores reads. -/
module

public import proofs.«01_k».proof.Proof.Gen.KernelIdeal.Launch
public import proofs.«01_k».proof.Proof.Gen.KernelIdeal.Skeleton
public import Idealize.ShloMosaic.Lib.Tactic
public import Idealize.ShloMosaic.Lib.Exec
public import Idealize.ShloMosaic.Lib.WritesUnit
public import Idealize.ShloMosaic.Lib.Pipeline.Kit
public import Idealize.ShloMosaic.Lib.Pipeline.Value
public import Idealize.ShloMosaic.Lib.Pipeline.FrameBody
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-- A memref's buffer held whole at contents that read as a function satisfying `P`. -/
abbrev holds (c : Dev nD) {sp : Space} {s : Shape} {e : EltTy} (M : Memref sig .tc sp s e) (P : (s.Idx → Elt F e) → Prop) : sProp 𝕄 :=
  iprop(∃ f, (M.view.loc (c : Thread nD τ) ↦[M.view.set]{fullShare} f) ∗ ⌜P (M.view.read (Elt F) f)⌝)

/-- A load reads the buffer at the load's index. -/
theorem readAt_eq {κ : Kind} {sp : Space} {s : Shape} {e : EltTy} {Val : EltTy → Type} (v : View sig κ sp s e) (f : v.ty.Contents Val)
    (B : LoadRect s) (x : B.shape.Idx) (y : s.Idx) (h : ∀ a, (B.idx x a).val = (y a).val) :
    View.readAt Val v B f x = v.read Val f y :=
  congrArg (v.read Val f) (funext fun a => Fin.ext (h a))

/-- A load of a unit-stride rectangle reads the buffer at the offsets plus the load's index. -/
theorem readAt_unit_eq {κ : Kind} {sp : Space} {s : Shape} {e : EltTy} {Val : EltTy → Type} (v : View sig κ sp s e) (f : v.ty.Contents Val)
    {off off' size : Fin s.rank → ℕ} (inb : ∀ a, off a + size a ≤ s.size a) (hoff : off = off')
    (x : (Rect.unit off size inb).toLoadRect.shape.Idx) (y : s.Idx) (h : ∀ a, off' a + (x a).val = (y a).val) :
    View.readAt Val v (Rect.unit off size inb).toLoadRect f x = v.read Val f y := by
  subst hoff
  refine readAt_eq v f _ x y fun a => ?_
  show off a + 1 * (x a).val = (y a).val
  rw [Nat.one_mul]; exact h a

/-- After a store of the whole buffer, the buffer reads what was stored. -/
theorem read_writes_whole {κ : Kind} {sp : Space} {s : Shape} {e : EltTy} {Val : EltTy → Type} (v : View sig κ sp s e) (f : v.ty.Contents Val)
    (w : (Rect.whole s).shape.Idx → Val e) (L : List (View.Piece Val s e)) (y : s.Idx) :
    v.read Val (v.writes Val f (⟨Rect.whole s, w⟩ :: L)) y = w y :=
  View.read_writes_cons_unit_of_mem v f _ w L y y rfl fun a => by simp

/-- A unit-stride slice of a memref reads the memref at the offsets plus the index. -/
theorem read_slice_unit {κ : Kind} {sp : Space} {s : Shape} {e : EltTy} {Val : EltTy → Type} (M : Memref sig κ sp s e) (f : M.view.ty.Contents Val)
    {off off' size : Fin s.rank → ℕ} (inb : ∀ a, off a + size a ≤ s.size a) (hs : ∀ a, (Rect.unit off size inb).stride a = 1) (hoff : off = off')
    (x : (Rect.unit off size inb).shape.Idx) (y : s.Idx) (h : ∀ a, off' a + (x a).val = (y a).val) :
    (M.slice (Rect.unit off size inb) hs).view.read Val f x = M.view.read Val f y := by
  subst hoff
  refine congrArg (M.view.read Val f) (funext fun a => Fin.ext ?_)
  show off a + 1 * (x a).val = (y a).val
  rw [Nat.one_mul]; exact h a

/-- Two rank-2 indices with the same coordinates are equal. -/
theorem idx2_ext {d : Fin 2 → ℕ} {x y : (⟨2, d⟩ : Shape).Idx} (h0 : (x 0).val = (y 0).val) (h1 : (x 1).val = (y 1).val) : x = y :=
  funext (Fin.forall_fin_two.mpr ⟨Fin.ext h0, Fin.ext h1⟩)

/-- An index lies in a unit-stride rectangle of a rank-2 buffer if each coordinate does. -/
theorem mem_unit2 {n0 n1 : ℕ} {off : Fin 2 → ℕ} {o0 o1 s0 s1 : ℕ} {inb : ∀ a, off a + (![s0, s1] : Fin 2 → ℕ) a ≤ (⟨2, ![n0, n1]⟩ : Shape).size a}
    {r : Fin n0} {d : Fin n1} (hoff : off = ![o0, o1]) (h0 : o0 ≤ r.val) (h1 : r.val < o0 + s0) (h2 : o1 ≤ d.val)
    (h3 : d.val < o1 + s1) : ix2 r d ∈ (Rect.unit (s := ⟨2, ![n0, n1]⟩) off ![s0, s1] inb).set := by
  subst hoff
  exact Rect.mem_set_unit.mpr (Fin.forall_fin_two.mpr ⟨⟨h0, h1⟩, ⟨h2, h3⟩⟩)

/-- An index whose row is outside a unit-stride rectangle's rows is outside the rectangle. -/
theorem not_mem_unit2_row {n0 n1 : ℕ} {off : Fin 2 → ℕ} {o0 o1 s0 s1 : ℕ} {inb : ∀ a, off a + (![s0, s1] : Fin 2 → ℕ) a ≤ (⟨2, ![n0, n1]⟩ : Shape).size a}
    {r : Fin n0} {d : Fin n1} (hoff : off = ![o0, o1]) (h : ¬ (o0 ≤ r.val ∧ r.val < o0 + s0)) :
    ix2 r d ∉ (Rect.unit (s := ⟨2, ![n0, n1]⟩) off ![s0, s1] inb).set := by
  subst hoff
  exact fun hm => h (Rect.mem_set_unit.mp hm 0)

/-- A load of a unit-stride rectangle of a rank-2 buffer, coordinate by coordinate. -/
theorem readAt_unit2 {κ : Kind} {sp : Space} {n0 n1 : ℕ} {e : EltTy} {Val : EltTy → Type} (v : View sig κ sp ⟨2, ![n0, n1]⟩ e) (f : v.ty.Contents Val)
    {off : Fin 2 → ℕ} {o0 o1 s0 s1 : ℕ} (inb : ∀ a, off a + (![s0, s1] : Fin 2 → ℕ) a ≤ (⟨2, ![n0, n1]⟩ : Shape).size a) (hoff : off = ![o0, o1])
    (a : Fin s0) (b : Fin s1) (r : Fin n0) (d : Fin n1) (h0 : o0 + a.val = r.val) (h1 : o1 + b.val = d.val) :
    View.readAt Val v (Rect.unit (s := ⟨2, ![n0, n1]⟩) off ![s0, s1] inb).toLoadRect f (ix2 a b) = v.read Val f (ix2 r d) :=
  readAt_unit_eq v f inb hoff (ix2 a b) (ix2 r d) (Fin.forall_fin_two.mpr ⟨h0, h1⟩)

/-- A list whose first element satisfies `P` has an element that does. -/
theorem ex_head {α : Type*} {P : α → Prop} {a : α} {l : List α} (h : P a) : ∃ x ∈ a :: l, P x := ⟨a, List.mem_cons_self, h⟩

/-- A list whose tail has an element satisfying `P` has one. -/
theorem ex_tail {α : Type*} {P : α → Prop} {a : α} {l : List α} (h : ∃ x ∈ l, P x) : ∃ x ∈ a :: l, P x :=
  let ⟨x, hx, hP⟩ := h; ⟨x, List.mem_cons_of_mem _ hx, hP⟩

end Cert.KernelIdeal.Hand
-- ==== Proof.KernelIdeal.LoopT1.lean ====
/- The loop of the first grid point that brings the activations in and dequantizes them once for all. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- One dequantized entry of the activations. -/
def xbVal (a : Elt F .fp8e4m3) (b : Elt F .f32) : Elt F .bf16 :=
  FloatOps.mulf (FloatOps.extf .bf16 bitsLt_fp8e4m3_bf16 a) (FloatOps.truncf .bf16 bitsLt_bf16_f32 b)

/-- `Y` holds the dequantized activations of the tokens below `n`. -/
def XbUpTo (X7 : S6144x2560.Idx → Elt F .fp8e4m3) (X8 : S6144x1.Idx → Elt F .f32) (n : ℕ) (Y : S6144x2560.Idx → Elt F .bf16) : Prop :=
  ∀ (t : Fin 6144) (d : Fin 2560), t.val < n → Y (ix2 t d) = xbVal (X7 (ix2 t d)) (X8 (ix2 t 0))

/-- The invariant of the loop: the tokens of the chunks before `k` are done. -/
def invT1 (c : Dev nD) (arg7 : Memref sig .tc .hbm S6144x2560 .fp8e4m3) (arg8 : Memref sig .tc .vmem S6144x1 .f32)
    (arg11 : Memref sig .tc .vmem S6144x2560 .bf16) (arg12 : Memref sig .tc .vmem S512x2560 .fp8e4m3) (arg17 : DmaSems sig S_)
    (X7 : BufTy.Contents (Elt F) arg7.view.ty) (X8 : BufTy.Contents (Elt F) arg8.view.ty) (k : ℕ) (_ : Unit) : sProp 𝕄 :=
  iprop((arg7.view.loc (c : Thread nD τ) ↦{fullShare} X7) ∗ (arg8.view.loc (c : Thread nD τ) ↦[arg8.view.set]{fullShare} X8)
    ∗ holds c arg11 (XbUpTo (arg7.view.read (Elt F) X7) (arg8.view.read (Elt F) X8) (512 * k))
    ∗ (∃ f, arg12.view.loc (c : Thread nD τ) ↦[arg12.view.set]{fullShare} f) ∗ semVal ((c : Thread nD τ), SemLoc.dma arg17.sem) 0
    ∗ (∃ W, owes (c : Thread nD τ) 0 W))

/-- One trip extends the invariant by one chunk of 512 tokens. -/
theorem stepT1 (𝒱 : Variants) (c : Dev nD) (bd : Option 𝒱.V) (i : grid0.Coords) (k0_h1 : k0_cond1 i = 1#1)
    (X7 : BufTy.Contents (Elt F) arg7.view.ty) (X8 : BufTy.Contents (Elt F) arg8.view.ty) (k : Fin k0_t1_loop.trips) (u : Unit) :
    invT1 c arg7 arg8 arg11 arg12 arg17 X7 X8 k.val u
      ⊢ wp frame (wpE (defs₀ (F := F)) 𝒱 (c : Thread nD τ) bd) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k0_h1 k u)
          (fun u' => (invT1 c arg7 arg8 arg11 arg12 arg17 X7 X8 (k.val + 1) u' : sProp 𝕄)) := by
  have hk : k.val < 12 := Nat.lt_of_lt_of_le k.isLt k0_t1_abs.2.1
  unfold invT1 holds k0_t1_body
  iintro ⟨H7, H8, ⟨%f, H11, %hf⟩, ⟨%f12, H12⟩, HC, ⟨%W, HO⟩⟩
  sl_exec
  sl_step
  isplitl [H7]; · iexact H7
  isplitl [H8]; · iexact H8
  isplitl [H11]
  · iexists _
    isplitl [H11]; · iexact H11
    ipureintro
    intro t d ht
    by_cases hlt : t.val < 512 * k.val
    · rw [View.read_writes_cons_unit_of_not_mem _ _ _ _ _ _ (k0_off3_eq k) 0 (.inl (by simpa using hlt)), View.writes_nil]
      exact hf t d hlt
    · have hx1 : t.val - 512 * k.val < 512 := by omega
      rw [View.read_writes_cons_unit_of_mem _ _ _ _ _ _ (ix2 ⟨t.val - 512 * k.val, hx1⟩ d) (k0_off3_eq k)
        (Fin.forall_fin_two.mpr ⟨by simp; omega, by simp⟩)]
      pointwise [k0_pay193, xbVal]
      rw [readAt_unit_eq _ _ _ (k0_off2_eq k) _ (ix2 t 0) (Fin.forall_fin_two.mpr ⟨by simp; omega, by simp⟩)]
      unfold stepT1.sl.v52 View.readCov
      rw [readAt_unit_eq _ _ _ rfl _ (ix2 ⟨t.val - 512 * k.val, hx1⟩ d) (Fin.forall_fin_two.mpr ⟨by simp, by simp⟩), read_writes_whole]
      unfold stepT1.sl.dma0
      rw [ReadAs.apply_same,
        read_slice_unit arg7 X7 _ _ (k0_off1_eq k) _ (ix2 t d) (Fin.forall_fin_two.mpr ⟨by simp; omega, by simp⟩)]
  isplitl [H12]; · iexists _; iexact H12
  isplitl [HC]; · iexact HC
  iexists _; iexact HO

end Cert.KernelIdeal.Hand
-- ==== Proof.KernelIdeal.LoopT2.lean ====
/- The loop that dequantizes one block of the upstream gradient, transposed, into its scratch. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- One dequantized entry of the upstream gradient. -/
def gtVal (a : Elt F .fp8e5m2) (b : Elt F .f32) : Elt F .bf16 :=
  FloatOps.mulf (FloatOps.extf .bf16 bitsLt_fp8e5m2_bf16 a) (FloatOps.truncf .bf16 bitsLt_bf16_f32 b)

/-- The transposed block `Y` holds the dequantized entries of the tokens below `n`. -/
def GtUpTo (X5 : S6144x384.Idx → Elt F .fp8e5m2) (X6 : S1x1x6144.Idx → Elt F .f32) (n : ℕ) (Y : S384x6144.Idx → Elt F .bf16) : Prop :=
  ∀ (r : Fin 384) (t : Fin 6144), t.val < n → Y (ix2 r t) = gtVal (X5 (ix2 t r)) (X6 (ix3 0 0 t))

/-- The invariant of the loop: the tokens of the chunks before `k` are done. -/
def invT2 (c : Dev nD) (arg5 : Memref sig .tc .vmem S6144x384 .fp8e5m2) (arg6 : Memref sig .tc .vmem S1x1x6144 .f32) (arg13 : Memref sig .tc .vmem S384x6144 .bf16)
    (X5 : BufTy.Contents (Elt F) arg5.view.ty) (X6 : BufTy.Contents (Elt F) arg6.view.ty) (k : ℕ) (_ : Unit) : sProp 𝕄 :=
  iprop((arg5.view.loc (c : Thread nD τ) ↦[arg5.view.set]{fullShare} X5) ∗ (arg6.view.loc (c : Thread nD τ) ↦[arg6.view.set]{fullShare} X6)
    ∗ holds c arg13 (GtUpTo (arg5.view.read (Elt F) X5) (arg6.view.read (Elt F) X6) (512 * k)))

/-- One trip extends the invariant by one chunk of 512 tokens. -/
theorem stepT2 (𝒱 : Variants) (c : Dev nD) (bd : Option 𝒱.V) (i : grid0.Coords)
    (X5 : BufTy.Contents (Elt F) arg5.view.ty) (X6 : BufTy.Contents (Elt F) arg6.view.ty) (k : Fin k0_t2_loop.trips) (u : Unit) :
    invT2 c arg5 arg6 arg13 X5 X6 k.val u
      ⊢ wp frame (wpE (defs₀ (F := F)) 𝒱 (c : Thread nD τ) bd) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k u)
          (fun u' => (invT2 c arg5 arg6 arg13 X5 X6 (k.val + 1) u' : sProp 𝕄)) := by
  have hk : k.val < 12 := Nat.lt_of_lt_of_le k.isLt k0_t2_abs.2.1
  unfold invT2 holds k0_t2_body
  iintro ⟨H5, H6, ⟨%f, H13, %hf⟩⟩
  sl_exec
  sl_step
  isplitl [H5]; · iexact H5
  isplitl [H6]; · iexact H6
  iexists _
  isplitl [H13]; · iexact H13
  ipureintro
  intro r t ht
  by_cases hlt : t.val < 512 * k.val
  · rw [View.read_writes_cons_unit_of_not_mem _ _ _ _ _ _ (k0_off6_eq k) 1 (.inl (by simpa using hlt)), View.writes_nil]
    exact hf r t hlt
  · have hx1 : t.val - 512 * k.val < 512 := by omega
    rw [View.read_writes_cons_unit_of_mem _ _ _ _ _ _ (ix2 r ⟨t.val - 512 * k.val, hx1⟩) (k0_off6_eq k)
      (Fin.forall_fin_two.mpr ⟨by simp, by simp; omega⟩)]
    pointwise [k0_pay194, gtVal]
    rw [readAt_unit_eq _ _ _ (k0_off4_eq k) _ (ix2 t r) (Fin.forall_fin_two.mpr ⟨by simp; omega, by simp⟩),
      readAt_unit_eq _ _ _ (k0_off5_eq k) _ (ix3 0 0 t) (Fin.forall_fin_succ.mpr ⟨by simp, Fin.forall_fin_two.mpr ⟨by simp, by simp; omega⟩⟩)]

end Cert.KernelIdeal.Hand
-- ==== Proof.KernelIdeal.Words.lean ====
/- The closed forms of the word arithmetic the kernel does on its prefetched tables: how many batches a block has, which
   sorted position each slot of a batch reads, and which rows of the accumulator it adds into. -/
module

public import proofs.«01_k».proof.Proof.KernelIdeal.Ops
public import Idealize.ShloMosaic.Lib.Affine

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

/-- A word below 2^31 reads the same signed and unsigned. -/
theorem isI {x : BitVec 32} (h : x.toNat < 2 ^ 31) : Affine.IsInt x (x.toNat : ℤ) := by
  unfold Affine.IsInt
  rw [BitVec.toInt_eq_toNat_cond]
  split <;> omega

/-- A word whose signed reading is a natural number reads as that number. -/
theorem natOf {x : BitVec 32} {n : ℕ} (h : Affine.IsInt x (n : ℤ)) : x.toNat = n := by
  have := Affine.toNat_of h (by omega)
  omega

section Block
variable {v5 v8 : BitVec 32} (hle : v5.toNat ≤ v8.toNat) (hb : v8.toNat ≤ 6144)
include hle hb

/-- The batches of a block: its tokens in groups of 32, rounded up. -/
theorem isInt_batches : Affine.IsInt (k0_t3_loop v5 v8).ub (((v8.toNat - v5.toNat + 31) / 32 : ℕ) : ℤ) := by
  have h5 := isI (x := v5) (by omega)
  have h8 := isI (x := v8) (by omega)
  have a0 : Affine.IsInt 0#32 0 := Affine.ofNat _ (by omega)
  have a1 : Affine.IsInt 1#32 1 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 : Affine.IsInt (Scalar.addi (Scalar.subi v8 v5) 31#32) ((v8.toNat : ℤ) - v5.toNat + 31) := Affine.addi b1 a31 (by omega)
  have b3 : Affine.IsInt (Scalar.divsi (Scalar.addi (Scalar.subi v8 v5) 31#32) 32#32) (((v8.toNat : ℤ) - v5.toNat + 31) / 32) :=
    Affine.divsi b2 a32 (by omega)
  have b4 := Affine.subi b3 a0 (e := ((v8.toNat : ℤ) - v5.toNat + 31) / 32) (by omega)
  have b5 := Affine.divsi_one b4 a1 (e := ((v8.toNat : ℤ) - v5.toNat + 31) / 32) (by omega)
  have b6 := Affine.muli b5 a1 (e := ((v8.toNat : ℤ) - v5.toNat + 31) / 32) (by omega)
  have b7 := Affine.addi a0 b6 (e := (((v8.toNat - v5.toNat + 31) / 32 : ℕ) : ℤ)) (by omega)
  exact b7

/-- The number of trips of the loop over batches. -/
theorem t3_trips : (k0_t3_loop v5 v8).trips = (v8.toNat - v5.toNat + 31) / 32 :=
  Affine.trips_eq (el := 0) (k := 1) (Affine.ofNat _ (by omega)) (isInt_batches hle hb) (Affine.ofNat _ (by omega)) _ (by omega)

/-- The loop over batches is well formed. -/
theorem t3_ok : (k0_t3_loop v5 v8).OK :=
  Affine.ok (el := 0) (k := 1) (Affine.ofNat _ (by omega)) (isInt_batches hle hb) (Affine.ofNat _ (by omega)) (by omega)

/-- The remainder loop makes no trip. -/
theorem t7_trips : (k0_t7_loop v5 v8).trips = 0 := by
  have h5 := isI (x := v5) (by omega)
  have h8 := isI (x := v8) (by omega)
  have a0 : Affine.IsInt 0#32 0 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 := Affine.addi b1 a31 (e := (v8.toNat : ℤ) - v5.toNat + 31) (by omega)
  have b3 := Affine.divsi b2 a32 (e := ((v8.toNat : ℤ) - v5.toNat + 31) / 32) (by omega)
  have b4 := Affine.subi b3 a0 (e := ((v8.toNat : ℤ) - v5.toNat + 31) / 32) (by omega)
  have b5 := Affine.addi a0 b4 (e := (((v8.toNat - v5.toNat + 31) / 32 : ℕ) : ℤ)) (by omega)
  exact Affine.trips_eq (isInt_batches hle hb) b5 (k := 1) (Affine.ofNat _ (by omega)) 0 (by omega)

/-- The remainder loop is well formed. -/
theorem t7_ok : (k0_t7_loop v5 v8).OK := by
  have h5 := isI (x := v5) (by omega)
  have h8 := isI (x := v8) (by omega)
  have a0 : Affine.IsInt 0#32 0 := Affine.ofNat _ (by omega)
  have a31 : Affine.IsInt 31#32 31 := Affine.ofNat _ (by omega)
  have a32 : Affine.IsInt 32#32 32 := Affine.ofNat _ (by omega)
  have b1 : Affine.IsInt (Scalar.subi v8 v5) ((v8.toNat : ℤ) - v5.toNat) := Affine.subi h8 h5 (by omega)
  have b2 := Affine.addi b1 a31 (e := (v8.toNat : ℤ) - v5.toNat + 31) (by omega)
  have b3 := Affine.divsi b2 a32 (e := ((v8.toNat : ℤ) - v5.toNat + 31) / 32) (by omega)
  have b4 := Affine.subi b3 a0 (e := ((v8.toNat : ℤ) - v5.toNat + 31) / 32) (by omega)
  have b5 := Affine.addi a0 b4 (e := (((v8.toNat - v5.toNat + 31) / 32 : ℕ) : ℤ)) (by omega)
  exact Affine.ok (isInt_batches hle hb) b5 (k := 1) (Affine.ofNat _ (by omega)) (by omega)

/-- The sorted position before clamping: first position of the block, plus 32 per batch, plus the slot. -/
theorem isInt_pos {k i : ℕ} (hk : k < (v8.toNat - v5.toNat + 31) / 32) (hi : i < 32) :
    Affine.IsInt (Scalar.addi (Scalar.addi v5 (Scalar.muli (Scf.iv 0#32 1#32 k) 32#32)) (Scf.iv 0#32 1#32 i))
      ((v5.toNat + 32 * k + i : ℕ) : ℤ) := by
  have h5 := isI (x := v5) (by omega)
  have a0 : Affine.IsInt 0#32 0 := Affine.ofNat _ (by omega)
  have a1 : Affine.IsInt 1#32 1 := Affine.ofNat _ (by omega)
  have a32 : Affine.IsInt 32#32 32 := Affine.ofNat _ (by omega)
  have c1 := Affine.iv a0 a1 k (e := (k : ℤ)) (by omega)
  have c2 := Affine.iv a0 a1 i (e := (i : ℤ)) (by omega)
  have c3 := Affine.muli c1 a32 (e := (k : ℤ) * 32) (by omega)
  have c4 := Affine.addi h5 c3 (e := (v5.toNat : ℤ) + k * 32) (by omega)
  exact Affine.addi c4 c2 (by omega)

/-- The clamped sorted position. -/
theorem toNat_pos {k i : ℕ} (hk : k < (v8.toNat - v5.toNat + 31) / 32) (hi : i < 32) :
    (Scalar.minsi (Scalar.addi (Scalar.addi v5 (Scalar.muli (Scf.iv 0#32 1#32 k) 32#32)) (Scf.iv 0#32 1#32 i))
      (Scalar.subi v8 1#32)).toNat = min (v5.toNat + 32 * k + i) (v8.toNat - 1) := by
  have h8 := isI (x := v8) (by omega)
  have c := isInt_pos hle hb hk hi
  have a1 : Affine.IsInt 1#32 1 := Affine.ofNat _ (by omega)
  have d := Affine.subi h8 a1 (e := (v8.toNat : ℤ) - 1) (by omega)
  exact natOf (Affine.minsi c d (by omega))

/-- The loop counters of the three inner loops are below 32. -/
theorem t4_lt (k : Fin k0_t4_loop.trips) : k.val < 32 := lt_of_lt_of_le k.isLt k0_t4_abs.2.1
theorem t5_lt (k : Fin k0_t5_loop.trips) : k.val < 32 := lt_of_lt_of_le k.isLt k0_t5_abs.2.1
theorem t6_lt (k : Fin k0_t6_loop.trips) : k.val < 32 := lt_of_lt_of_le k.isLt k0_t6_abs.2.1

/-- The three loads of a sorted position's token. -/
theorem off9_eq (k : Fin (k0_t3_loop v5 v8).trips) (i : Fin k0_t4_loop.trips) :
    k0_off9 v5 v8 k i = ![min (v5.toNat + 32 * k.val + i.val) (v8.toNat - 1)] :=
  congrArg (fun n => ![n]) (toNat_pos hle hb (lt_of_lt_of_eq k.isLt (t3_trips hle hb)) (t4_lt hle hb i))
theorem off12_eq (k : Fin (k0_t3_loop v5 v8).trips) (i : Fin k0_t5_loop.trips) :
    k0_off12 v5 v8 k i = ![min (v5.toNat + 32 * k.val + i.val) (v8.toNat - 1)] :=
  congrArg (fun n => ![n]) (toNat_pos hle hb (lt_of_lt_of_eq k.isLt (t3_trips hle hb)) (t5_lt hle hb i))
theorem off15_eq (k : Fin (k0_t3_loop v5 v8).trips) (i : Fin k0_t6_loop.trips) :
    k0_off15 v5 v8 k i = ![min (v5.toNat + 32 * k.val + i.val) (v8.toNat - 1)] :=
  congrArg (fun n => ![n]) (toNat_pos hle hb (lt_of_lt_of_eq k.isLt (t3_trips hle hb)) (t6_lt hle hb i))

/-- What the kernel assumes of a block's first and last position holds. -/
theorem chk1_of : k0_chk1 v5 v8 := by
  have e : ∀ k : Fin (k0_t3_loop v5 v8).trips, v8.toNat ≠ 0 := fun k h0 => by
    have := lt_of_lt_of_eq k.isLt (t3_trips hle hb); omega
  have z : ∀ {P : Prop} (k : Fin (k0_t7_loop v5 v8).trips), P := fun k => absurd (lt_of_lt_of_eq k.isLt (t7_trips hle hb)) (by omega)
  refine ⟨t3_ok hle hb, fun k i => ?_, fun k i => ?_, fun k i => ?_, t7_ok hle hb, fun k _ => z k, fun k _ => z k, fun k _ => z k⟩
  · rw [off9_eq hle hb]
    have := e k
    intro a; fin_cases a; show min _ _ + 1 ≤ 6144; omega
  · rw [off12_eq hle hb]
    have := e k
    intro a; fin_cases a; show min _ _ + 1 ≤ 6144; omega
  · rw [off15_eq hle hb]
    have := e k
    intro a; fin_cases a; show min _ _ + 1 ≤ 6144; omega

/-- The row of the accumulator block a slot adds into: the token's id within the block, or the spare row 384 when the slot
    lies beyond the block's tokens. -/
def slotRow (v5 v8 : BitVec 32) (c k i : ℕ) (s : BitVec 32) : ℕ :=
  if v5.toNat + 32 * k + i < v8.toNat then s.toNat - 384 * c else 384

theorem slotRow_le {c k i : ℕ} {s : BitVec 32}
    (hs : v5.toNat + 32 * k + i < v8.toNat → 384 * c ≤ s.toNat ∧ s.toNat < 384 * (c + 1)) : slotRow v5 v8 c k i s ≤ 384 := by
  unfold slotRow; split
  · have := hs ‹_›; omega
  · omega

theorem mult3_eq (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    (k0_mult3 i v5 v8 k q s).toNat = 24 * slotRow v5 v8 (i 0).val k.val q.val s := by
  have hk := lt_of_lt_of_eq k.isLt (t3_trips hle hb)
  have hq := t6_lt hle hb q
  have hi : (i 0).val < 131 := (i 0).isLt
  have c := isInt_pos hle hb hk hq
  have h8 := isI (x := v8) (by omega)
  have a384 : Affine.IsInt 384#32 384 := Affine.ofNat _ (by omega)
  have a24 : Affine.IsInt 24#32 24 := Affine.ofNat _ (by omega)
  have ai : Affine.IsInt (BitVec.ofNat 32 (i 0).val) ((i 0).val : ℤ) := Affine.ofNat _ (by omega)
  have am := Affine.muli ai a384 (e := (i 0).val * 384) (by omega)
  unfold slotRow
  split
  · rename_i h
    have := hs h
    have asI := isI (x := s) (by omega)
    have ad := Affine.subi asI am (e := s.toNat - (i 0).val * 384) (by omega)
    have ae := Affine.select_holds (Affine.slt_holds c h8 (by omega)) ad a384 (e := s.toNat - (i 0).val * 384) rfl
    exact natOf (Affine.muli ae a24 (by omega))
  · rename_i h
    have ae := Affine.select_fails (Affine.slt_fails c h8 (by omega)) (Affine.word (Scalar.subi s (Scalar.muli (BitVec.ofNat 32 (i 0).val) 384#32))) a384 rfl
    exact natOf (Affine.muli ae a24 (by omega))

theorem off18_eq (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    k0_off18 i v5 v8 k q s = ![24 * slotRow v5 v8 (i 0).val k.val q.val s, 0] :=
  congrArg (fun n => ![n, 0]) (mult3_eq hle hb i k q s hs)

/-- What the kernel assumes of a token's row holds. -/
theorem chk5_of (i : grid0.Coords) (k : Fin (k0_t3_loop v5 v8).trips) (q : Fin k0_t6_loop.trips) (s : BitVec 32)
    (hs : v5.toNat + 32 * k.val + q.val < v8.toNat → 384 * (i 0).val ≤ s.toNat ∧ s.toNat < 384 * ((i 0).val + 1)) :
    k0_chk5 i v5 v8 k q s := by
  have := slotRow_le hle hb hs
  refine ⟨?_, ?_⟩
  · rw [mult3_eq hle hb i k q s hs]; omega
  · rw [off18_eq hle hb i k q s hs]
    intro a; fin_cases a
    · show 24 * _ + 24 ≤ 9240; omega
    · show 0 + 128 ≤ 128; omega

end Block

/-- A token below 6144 has its word row at a quarter of it. -/
theorem off11_eq {v : BitVec 32} (hv : v.toNat < 6144) : k0_off11 v = ![v.toNat / 4, 0] :=
  congrArg (fun n => ![n, 0]) (natOf (Affine.shrsi (isI (x := v) (by omega)) (Affine.ofNat 2 (by omega) : Affine.IsInt 2#32 2) 2 4 (by norm_num) (by omega)))
theorem off14_eq {v : BitVec 32} (hv : v.toNat < 6144) : k0_off14 v = ![v.toNat / 4, 0] := off11_eq hv
theorem off17_eq (v : BitVec 32) : k0_off17 v = ![v.toNat] := rfl

theorem chk2_of {v : BitVec 32} (hv : v.toNat < 6144) : k0_chk2 v := by
  unfold k0_chk2; rw [off11_eq hv]; intro a; fin_cases a
  · show v.toNat / 4 + 1 ≤ 1536; omega
  · show 0 + 2560 ≤ 2560; omega
theorem chk3_of {v : BitVec 32} (hv : v.toNat < 6144) : k0_chk3 v := chk2_of hv
theorem chk4_of {v : BitVec 32} (hv : v.toNat < 6144) : k0_chk4 v := by
  unfold k0_chk4; rw [off17_eq]; intro a; fin_cases a; show v.toNat + 1 ≤ 6144; omega

/-- What the kernel needs of its three prefetched tables: `O` lists tokens, `S` lists row ids, and `B` cuts the positions into
    blocks: position `j` of block `c` has its id in the block's 384 rows. -/
structure TabOK (O S : S6144.Idx → BitVec 32) (B : S132.Idx → BitVec 32) : Prop where
  ord : ∀ j, (O j).toNat < 6144
  mono : ∀ c c' : Fin 132, c'.val = c.val + 1 → (B (ix1 c)).toNat ≤ (B (ix1 c')).toNat
  le : ∀ c : Fin 132, (B (ix1 c)).toNat ≤ 6144
  seg : ∀ (c c' : Fin 132) (j : Fin 6144), c'.val = c.val + 1 → (B (ix1 c)).toNat ≤ j.val → j.val < (B (ix1 c')).toNat →
    384 * c.val ≤ (S (ix1 j)).toNat ∧ (S (ix1 j)).toNat < 384 * (c.val + 1)

end Cert.KernelIdeal.Hand
-- ==== Proof.KernelIdeal.LoopT11.lean ====
/- The last loop of a grid point: it adds the rows gathered by token id to the block of the result and clears them. -/
module

public import proofs.«01_k».proof.Proof.KernelIdeal.Ops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- The word zero as an `f32`. -/
def fzero : Elt F .f32 := FloatOps.ofBits .f32 0x00000000#32

/-- The entry of the row buffer that is added at row `r`, column `d` of the block. -/
def embAt (E : S9240x128.Idx → Elt F .f32) (r : Fin 384) (d : Fin 2560) : Elt F .f32 :=
  E (ix2 ⟨24 * r.val + d.val / 128, by omega⟩ ⟨d.val % 128, Nat.mod_lt _ (by decide)⟩)

/-- The block after `k` trips: the rows below `8 * k` have their gathered rows added. -/
def OutAt (D : S384x2560.Idx → Elt F .f32) (E : S9240x128.Idx → Elt F .f32) (k : ℕ) (Y : S384x2560.Idx → Elt F .f32) : Prop :=
  ∀ (r : Fin 384) (d : Fin 2560), Y (ix2 r d) = if r.val < 8 * k then FloatOps.addf (D (ix2 r d)) (embAt E r d) else D (ix2 r d)

/-- The row buffer after `k` trips: its rows below `192 * k` are zero, the others as at the start. -/
def EmbAt (E : S9240x128.Idx → Elt F .f32) (k : ℕ) (Z : S9240x128.Idx → Elt F .f32) : Prop :=
  ∀ (R : Fin 9240) (l : Fin 128), Z (ix2 R l) = if R.val < 192 * k then fzero else E (ix2 R l)

/-- The invariant of the loop. -/
def invT11 (c : Dev nD) (arg10 : Memref sig .tc .vmem S384x2560 .f32) (arg14 : Memref sig .tc .vmem S9240x128 .f32)
    (D : S384x2560.Idx → Elt F .f32) (E : S9240x128.Idx → Elt F .f32) (k : ℕ) (_ : Unit) : sProp 𝕄 :=
  iprop(holds c arg10 (OutAt D E k) ∗ holds c arg14 (EmbAt E k))

/-- What one piece of a trip stores: the block's entries plus the row buffer's, at the piece's own place. -/
theorem pieceT11 (f : BufTy.Contents (Elt F) arg10.view.ty) (g : BufTy.Contents (Elt F) arg14.view.ty) (k : Fin k0_t11_loop.trips) (b : Fin 20)
    (hk : k.val < 48) {off : Fin 2 → ℕ} (hoff : off = ![8 * k.val, 128 * b.val]) (inb : ∀ a, off a + S8x128.size a ≤ S384x2560.size a)
    (inb' : ∀ (a : Fin S9240x128.rank), S8x128.size a = 0 ∨ k0_off30 k (BitVec.ofNat 32 b.val) a + (![24, 1] : Fin 2 → ℕ) a * (S8x128.size a - 1) < S9240x128.size a)
    (x : S8x128.Idx) :
    FloatOps.addf (View.readAt (Elt F) arg10.view (Rect.unit (s := S384x2560) off S8x128.size inb).toLoadRect f x)
        (View.readAt (Elt F) arg14.view (⟨k0_off30 k (BitVec.ofNat 32 b.val), S8x128.size, ![24, 1], inb'⟩ : LoadRect S9240x128) g x)
      = (fun y : S384x2560.Idx => FloatOps.addf (arg10.view.read (Elt F) f y) (embAt (arg14.view.read (Elt F) g) (y 0) (y 1)))
          ((Rect.unit (s := S384x2560) off S8x128.size inb).emb x) := by
  have h0 : (x 0).val < 8 := (x 0).isLt
  have h1 : (x 1).val < 128 := (x 1).isLt
  subst hoff
  refine congrArg₂ FloatOps.addf rfl (readAt_eq _ _ _ _ _ (Fin.forall_fin_two.mpr ⟨?_, ?_⟩))
  · show k0_off30 k (BitVec.ofNat 32 b.val) 0 + 24 * (x 0).val = 24 * (8 * k.val + 1 * (x 0).val) + (128 * b.val + 1 * (x 1).val) / 128
    rw [k0_off30_eq]; show 192 * k.val + b.val + 24 * (x 0).val = _; omega
  · show k0_off30 k (BitVec.ofNat 32 b.val) 1 + 1 * (x 1).val = (128 * b.val + 1 * (x 1).val) % 128
    rw [k0_off30_eq]; show 0 + 1 * (x 1).val = _; omega

/-- One trip adds and clears eight rows. -/
theorem stepT11 (𝒱 : Variants) (c : Dev nD) (bd : Option 𝒱.V) (i : grid0.Coords)
    (D : S384x2560.Idx → Elt F .f32) (E : S9240x128.Idx → Elt F .f32) (k : Fin k0_t11_loop.trips) (u : Unit) :
    invT11 c arg10 arg14 D E k.val u
      ⊢ wp frame (wpE (defs₀ (F := F)) 𝒱 (c : Thread nD τ) bd) Set.univ (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 k u)
          (fun u' => (invT11 c arg10 arg14 D E (k.val + 1) u' : sProp 𝕄)) := by
  have hk : k.val < 48 := Nat.lt_of_lt_of_le k.isLt k0_t11_abs.2.1
  unfold invT11 holds k0_t11_body
  iintro ⟨⟨%f, H10, %hf⟩, ⟨%g, H14, %hg⟩⟩
  sl_exec
  sl_step
  isplitl [H10]
  · iexists _
    isplitl [H10]; · iexact H10
    ipureintro
    intro r d
    by_cases hin : 8 * k.val ≤ r.val ∧ r.val < 8 * k.val + 8
    · rw [View.read_writes_apply_of_pieces _ _ (fun y : S384x2560.Idx => FloatOps.addf (arg10.view.read (Elt F) f y) (embAt (arg14.view.read (Elt F) g) (y 0) (y 1)))]
      · rw [if_pos (by omega)]
        show FloatOps.addf (arg10.view.read (Elt F) f (ix2 r d)) (embAt (arg14.view.read (Elt F) g) r d) = _
        rw [hf r d, if_neg (by omega)]
        unfold embAt
        rw [hg, if_neg (by simp; omega)]
      · simp only [List.forall_mem_cons]
        refine ⟨?_, ?_, ?_, ?_, ?_, ?_, ?_, ?_, ?_, ?_, ?_, ?_, ?_, ?_, ?_, ?_, ?_, ?_, ?_, ?_, fun p hp => absurd hp List.not_mem_nil⟩ <;> intro x
        all_goals sl_unfold_words
        all_goals simp only [k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, shapeCast_self]
        · exact pieceT11 f g k 19 hk (k0_off49_eq k) _ _ x
        · exact pieceT11 f g k 18 hk (k0_off48_eq k) _ _ x
        · exact pieceT11 f g k 17 hk (k0_off47_eq k) _ _ x
        · exact pieceT11 f g k 16 hk (k0_off46_eq k) _ _ x
        · exact pieceT11 f g k 15 hk (k0_off45_eq k) _ _ x
        · exact pieceT11 f g k 14 hk (k0_off44_eq k) _ _ x
        · exact pieceT11 f g k 13 hk (k0_off43_eq k) _ _ x
        · exact pieceT11 f g k 12 hk (k0_off42_eq k) _ _ x
        · exact pieceT11 f g k 11 hk (k0_off41_eq k) _ _ x
        · exact pieceT11 f g k 10 hk (k0_off40_eq k) _ _ x
        · exact pieceT11 f g k 9 hk (k0_off39_eq k) _ _ x
        · exact pieceT11 f g k 8 hk (k0_off38_eq k) _ _ x
        · exact pieceT11 f g k 7 hk (k0_off37_eq k) _ _ x
        · exact pieceT11 f g k 6 hk (k0_off36_eq k) _ _ x
        · exact pieceT11 f g k 5 hk (k0_off35_eq k) _ _ x
        · exact pieceT11 f g k 4 hk (k0_off34_eq k) _ _ x
        · exact pieceT11 f g k 3 hk (k0_off33_eq k) _ _ x
        · exact pieceT11 f g k 2 hk (k0_off32_eq k) _ _ x
        · exact pieceT11 f g k 1 hk (k0_off31_eq k) _ _ x
        · exact pieceT11 f g k 0 hk (k0_off29_eq k) _ _ x
      · obtain ⟨q, hq⟩ : ∃ q : Fin 20, d.val / 128 = q.val := ⟨⟨d.val / 128, by omega⟩, rfl⟩
        fin_cases q <;> simp at hq
        · exact ex_tail (ex_tail (ex_tail (ex_tail (ex_tail (ex_tail (ex_tail (ex_tail (ex_tail (ex_tail (ex_tail (ex_tail (ex_tail (ex_tail (ex_tail (ex_tail (ex_tail (ex_tail (ex_tail (ex_head (mem_unit2 (inb := k0_off29_inb k) (k0_off29_eq k) (by omega) (by omega) (by omega) (by omega)))))))))))))))))))))
        · exact ex_tail (ex_tail (ex_tail (ex_tail (ex_tail (ex_tail (ex_tail (ex_tail (ex_tail (ex_tail (ex_tail (ex_tail (ex_tail (ex_tail (ex_tail (ex_tail (ex_tail (ex_tail (ex_head (mem_unit2 (inb := k0_off31_inb k) (k0_off31_eq k) (by omega) (by omega) (by omega) (by omega))))))))))))))))))))
        · exact ex_tail (ex_tail (ex_tail (ex_tail (ex_tail (ex_tail (ex_tail (ex_tail (ex_tail (ex_tail (ex_tail (ex_tail (ex_tail (ex_tail (ex_tail (ex_tail (ex_tail (ex_head (mem_unit2 (inb := k0_off32_inb k) (k0_off32_eq k) (by omega) (by omega) (by omega) (by omega)))))))))))))))))))
        · exact ex_tail (ex_tail (ex_tail (ex_tail (ex_tail (ex_tail (ex_tail (ex_tail (ex_tail (ex_tail (ex_tail (ex_tail (ex_tail (ex_tail (ex_tail (ex_tail (ex_head (mem_unit2 (inb := k0_off33_inb k) (k0_off33_eq k) (by omega) (by omega) (by omega) (by omega))))))))))))))))))
        · exact ex_tail (ex_tail (ex_tail (ex_tail (ex_tail (ex_tail (ex_tail (ex_tail (ex_tail (ex_tail (ex_tail (ex_tail (ex_tail (ex_tail (ex_tail (ex_head (mem_unit2 (inb := k0_off34_inb k) (k0_off34_eq k) (by omega) (by omega) (by omega) (by omega)))))))))))))))))
        · exact ex_tail (ex_tail (ex_tail (ex_tail (ex_tail (ex_tail (ex_tail (ex_tail (ex_tail (ex_tail (ex_tail (ex_tail (ex_tail (ex_tail (ex_head (mem_unit2 (inb := k0_off35_inb k) (k0_off35_eq k) (by omega) (by omega) (by omega) (by omega))))))))))))))))
        · exact ex_tail (ex_tail (ex_tail (ex_tail (ex_tail (ex_tail (ex_tail (ex_tail (ex_tail (ex_tail (ex_tail (ex_tail (ex_tail (ex_head (mem_unit2 (inb := k0_off36_inb k) (k0_off36_eq k) (by omega) (by omega) (by omega) (by omega)))))))))))))))
        · exact ex_tail (ex_tail (ex_tail (ex_tail (ex_tail (ex_tail (ex_tail (ex_tail (ex_tail (ex_tail (ex_tail (ex_tail (ex_head (mem_unit2 (inb := k0_off37_inb k) (k0_off37_eq k) (by omega) (by omega) (by omega) (by omega))))))))))))))
        · exact ex_tail (ex_tail (ex_tail (ex_tail (ex_tail (ex_tail (ex_tail (ex_tail (ex_tail (ex_tail (ex_tail (ex_head (mem_unit2 (inb := k0_off38_inb k) (k0_off38_eq k) (by omega) (by omega) (by omega) (by omega)))))))))))))
        · exact ex_tail (ex_tail (ex_tail (ex_tail (ex_tail (ex_tail (ex_tail (ex_tail (ex_tail (ex_tail (ex_head (mem_unit2 (inb := k0_off39_inb k) (k0_off39_eq k) (by omega) (by omega) (by omega) (by omega))))))))))))
        · exact ex_tail (ex_tail (ex_tail (ex_tail (ex_tail (ex_tail (ex_tail (ex_tail (ex_tail (ex_head (mem_unit2 (inb := k0_off40_inb k) (k0_off40_eq k) (by omega) (by omega) (by omega) (by omega)))))))))))
        · exact ex_tail (ex_tail (ex_tail (ex_tail (ex_tail (ex_tail (ex_tail (ex_tail (ex_head (mem_unit2 (inb := k0_off41_inb k) (k0_off41_eq k) (by omega) (by omega) (by omega) (by omega))))))))))
        · exact ex_tail (ex_tail (ex_tail (ex_tail (ex_tail (ex_tail (ex_tail (ex_head (mem_unit2 (inb := k0_off42_inb k) (k0_off42_eq k) (by omega) (by omega) (by omega) (by omega)))))))))
        · exact ex_tail (ex_tail (ex_tail (ex_tail (ex_tail (ex_tail (ex_head (mem_unit2 (inb := k0_off43_inb k) (k0_off43_eq k) (by omega) (by omega) (by omega) (by omega))))))))
        · exact ex_tail (ex_tail (ex_tail (ex_tail (ex_tail (ex_head (mem_unit2 (inb := k0_off44_inb k) (k0_off44_eq k) (by omega) (by omega) (by omega) (by omega)))))))
        · exact ex_tail (ex_tail (ex_tail (ex_tail (ex_head (mem_unit2 (inb := k0_off45_inb k) (k0_off45_eq k) (by omega) (by omega) (by omega) (by omega))))))
        · exact ex_tail (ex_tail (ex_tail (ex_head (mem_unit2 (inb := k0_off46_inb k) (k0_off46_eq k) (by omega) (by omega) (by omega) (by omega)))))
        · exact ex_tail (ex_tail (ex_head (mem_unit2 (inb := k0_off47_inb k) (k0_off47_eq k) (by omega) (by omega) (by omega) (by omega))))
        · exact ex_tail (ex_head (mem_unit2 (inb := k0_off48_inb k) (k0_off48_eq k) (by omega) (by omega) (by omega) (by omega)))
        · exact ex_head (mem_unit2 (inb := k0_off49_inb k) (k0_off49_eq k) (by omega) (by omega) (by omega) (by omega))
    · rw [View.read_writes_apply_of_forall_not_mem]
      · rw [hf r d]
        by_cases h : r.val < 8 * k.val
        · rw [if_pos h, if_pos (by omega)]
        · rw [if_neg h, if_neg (by omega)]
      · simp only [List.forall_mem_cons]
        exact ⟨not_mem_unit2_row (k0_off49_eq k) (by omega),
          not_mem_unit2_row (k0_off48_eq k) (by omega),
          not_mem_unit2_row (k0_off47_eq k) (by omega),
          not_mem_unit2_row (k0_off46_eq k) (by omega),
          not_mem_unit2_row (k0_off45_eq k) (by omega),
          not_mem_unit2_row (k0_off44_eq k) (by omega),
          not_mem_unit2_row (k0_off43_eq k) (by omega),
          not_mem_unit2_row (k0_off42_eq k) (by omega),
          not_mem_unit2_row (k0_off41_eq k) (by omega),
          not_mem_unit2_row (k0_off40_eq k) (by omega),
          not_mem_unit2_row (k0_off39_eq k) (by omega),
          not_mem_unit2_row (k0_off38_eq k) (by omega),
          not_mem_unit2_row (k0_off37_eq k) (by omega),
          not_mem_unit2_row (k0_off36_eq k) (by omega),
          not_mem_unit2_row (k0_off35_eq k) (by omega),
          not_mem_unit2_row (k0_off34_eq k) (by omega),
          not_mem_unit2_row (k0_off33_eq k) (by omega),
          not_mem_unit2_row (k0_off32_eq k) (by omega),
          not_mem_unit2_row (k0_off31_eq k) (by omega),
          not_mem_unit2_row (k0_off29_eq k) (by omega), fun p hp => absurd hp List.not_mem_nil⟩
  · iexists _
    isplitl [H14]; · iexact H14
    ipureintro
    intro R l
    by_cases hlt : 192 * k.val ≤ R.val ∧ R.val < 192 * k.val + 192
    · rw [View.read_writes_cons_unit_of_mem _ _ _ _ _ _ (ix2 ⟨R.val - 192 * k.val, by omega⟩ l) (k0_off50_eq k)
        (Fin.forall_fin_two.mpr ⟨by simp; omega, by simp⟩), if_pos (by omega)]
      pointwise [k0_pay4, fzero]
    · rw [View.read_writes_cons_unit_of_not_mem _ _ _ _ _ _ (k0_off50_eq k) 0 (by simp; omega), View.writes_nil, hg R l]
      by_cases h : R.val < 192 * k.val
      · rw [if_pos h, if_pos (by omega)]
      · rw [if_neg h, if_neg (by omega)]

end Cert.KernelIdeal.Hand
-- ==== Proof.KernelIdeal.LoopT6.lean ====
/- The loop that adds a batch's 32 decoded rows into the row buffer, one token a trip. -/
module

public import proofs.«01_k».proof.Proof.KernelIdeal.Words
public import proofs.«01_k».proof.Proof.KernelIdeal.LoopT11

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- Byte `t % 4` of a word. -/
def byteOf (w : BitVec 32) (t : BitVec 32) : BitVec 32 :=
  IntOp.andi (IntOp.shrui .vector w (Scalar.muli (Scalar.andi t 3#32) 8#32)) 255#32

/-- The decoding of an 8-bit float code by integer arithmetic. -/
def decByte (b : BitVec 32) : Elt F .f32 :=
  Scalar.select (IntOp.cmpi .slt (IntOp.andi b 127#32) 4#32)
    (Scalar.select (IntOp.cmpi .ne (IntOp.andi b 128#32) 0#32)
      (FloatOps.subf (FloatOps.ofBits .f32 0x00000000#32) (FloatOps.mulf (FloatOps.sitofp .f32 (IntOp.andi b 127#32)) (FloatOps.ofBits .f32 0x37800000#32)))
      (FloatOps.mulf (FloatOps.sitofp .f32 (IntOp.andi b 127#32)) (FloatOps.ofBits .f32 0x37800000#32)))
    (FloatOps.ofBits .f32 (IntOp.ori (IntOp.addi (IntOp.shli .vector (IntOp.andi b 127#32) 21#32) (Scalar.select (IntOp.cmpi .sge (IntOp.andi b 127#32) 124#32) 1879048192#32 939524096#32)) (IntOp.shli .vector (IntOp.andi b 128#32) 24#32)))

theorem pay197_apply (v373 : BitVec 32) (v382 : Vec F S24x128 .i32) (v419 : Elt F .f32) (v425 : Vec F S24x128 .f32) (r : Fin 24) (l : Fin 128) :
    k0_pay197 (F := F) (k0_pay5 (F := F) v373 v382) (k0_pay6 (F := F) v373 v382) (k0_pay7 v373 v382) (k0_pay8 v373 v382) 4#32 v419 v425 (ix2 r l)
      = FloatOps.addf (v425 (ix2 r l)) (FloatOps.mulf (decByte (byteOf (v382 (ix2 r l)) v373)) v419) := by
  unfold k0_pay197 k0_pay7 k0_pay8 k0_pay6 k0_pay5
  pointwise []
  rfl

/-- Entry `j` of a table of 6144 words. -/
def at1 {e : EltTy} (X : S6144.Idx → Elt F e) (j : ℕ) : Elt F e := X (ix1 ⟨min j 6143, by omega⟩)

/-- The word of token `t`, column `d`: tokens are packed four to a row. -/
def ewAt (EW : S1536x2560.Idx → BitVec 32) (t : ℕ) (d : Fin 2560) : BitVec 32 := EW (ix2 ⟨min (t / 4) 1535, by omega⟩ d)

/-- What sorted position `j` contributes at column `d`: its token's decoded code times its token's scale. -/
def termv (O : S6144.Idx → Elt F .i32) (ESC : S6144.Idx → Elt F .f32) (EW : S1536x2560.Idx → BitVec 32) (j : ℕ) (d : Fin 2560) : Elt F .f32 :=
  FloatOps.mulf (decByte (F := F) (byteOf (ewAt EW (BitVec.toNat (at1 (F := F) O j)) d) (at1 (F := F) O j))) (at1 ESC (BitVec.toNat (at1 (F := F) O j)))

/-- Row `r`, column `d` of a block after its first `n` positions, from position `A` on. -/
def accv (O S : S6144.Idx → Elt F .i32) (ESC : S6144.Idx → Elt F .f32) (EW : S1536x2560.Idx → BitVec 32) (A cb : ℕ) (r : Fin 384) (d : Fin 2560) :
    ℕ → Elt F .f32
  | 0 => fzero
  | n + 1 => if BitVec.toNat (at1 (F := F) S (A + n)) - 384 * cb = r.val then FloatOps.addf (accv O S ESC EW A cb r d n) (termv O ESC EW (A + n) d)
      else accv O S ESC EW A cb r d n

/-- The row buffer holds the sums of the first `n` positions. -/
def AccAt (O S : S6144.Idx → Elt F .i32) (ESC : S6144.Idx → Elt F .f32) (EW : S1536x2560.Idx → BitVec 32) (A cb n : ℕ) (Z : S9240x128.Idx → Elt F .f32) : Prop :=
  ∀ (r : Fin 384) (d : Fin 2560), embAt Z r d = accv O S ESC EW A cb r d n

/-- The repacked ring holds the words of batch `k`'s 32 tokens, 24 buffer rows to a token. -/
def RingAt (O : S6144.Idx → Elt F .i32) (EW : S1536x2560.Idx → BitVec 32) (A B k : ℕ) (Z : S768x128.Idx → Elt F .i32) : Prop :=
  ∀ (i : Fin 32) (d : Fin 2560), Z (ix2 ⟨24 * i.val + d.val / 128, by omega⟩ ⟨d.val % 128, Nat.mod_lt _ (by decide)⟩)
    = ewAt EW (BitVec.toNat (at1 (F := F) O (min (A + 32 * k + i.val) (B - 1)))) d

/-- Positions `A` to `B` belong to block `cb`. -/
def Seg (S : S6144.Idx → Elt F .i32) (A B cb : ℕ) : Prop :=
  ∀ j, A ≤ j → j < B → 384 * cb ≤ BitVec.toNat (at1 (F := F) S j) ∧ BitVec.toNat (at1 (F := F) S j) < 384 * (cb + 1)

/-- A one-word load of a table reads the table's entry at the load's offset. -/
theorem smemVal {e : EltTy} (v : View sig .tc .smem S6144 e) (f : v.ty.Contents (Elt F)) {off : Fin 1 → ℕ} {n : ℕ} (hoff : off = ![n]) (hn : n < 6144)
    (inb : ∀ a, off a + S1.size a ≤ S6144.size a) (x : (Rect.unit (s := S6144) off S1.size inb).toLoadRect.shape.Idx) :
    View.readAt (Elt F) v (Rect.unit (s := S6144) off S1.size inb).toLoadRect f x = at1 (v.read (Elt F) f) n := by
  refine readAt_unit_eq v f inb hoff x _ fun a => ?_
  have hx : (x 0).val < 1 := (x 0).isLt
  fin_cases a
  show n + (x 0).val = min n 6143
  omega

/-- The invariant of the loop. -/
def invT6 (c : Dev nD) (arg1 arg2 : Memref sig .tc .smem S6144 .i32) (arg4 : Memref sig .tc .smem S6144 .f32) (arg14 : Memref sig .tc .vmem S9240x128 .f32)
    (arg16 : Memref sig .tc .vmem S768x128 .i32) (sh : PosShare TreeShare) (X1 : BufTy.Contents (Elt F) arg1.view.ty) (X2 : BufTy.Contents (Elt F) arg2.view.ty)
    (X4 : BufTy.Contents (Elt F) arg4.view.ty) (EW : S1536x2560.Idx → BitVec 32) (A B cb k3 k : ℕ) (_ : BitVec 32) : sProp 𝕄 :=
  iprop((arg1.view.loc (c : Thread nD τ) ↦{sh} X1) ∗ (arg2.view.loc (c : Thread nD τ) ↦{sh} X2) ∗ (arg4.view.loc (c : Thread nD τ) ↦[arg4.view.set]{fullShare} X4)
    ∗ holds c arg14 (AccAt (arg1.view.read (Elt F) X1) (arg2.view.read (Elt F) X2) (arg4.view.read (Elt F) X4) EW A cb (min (32 * k3 + k) (B - A)))
    ∗ holds c arg16 (RingAt (arg1.view.read (Elt F) X1) EW A B k3))

/-- One trip adds one token's row. -/
theorem stepT6 (𝒱 : Variants) (c : Dev nD) (bd : Option 𝒱.V) (i : grid0.Coords) (sh : PosShare TreeShare) (X1 : BufTy.Contents (Elt F) arg1.view.ty)
    (X2 : BufTy.Contents (Elt F) arg2.view.ty) (X4 : BufTy.Contents (Elt F) arg4.view.ty) (EW : S1536x2560.Idx → BitVec 32) (v5 v8 : Elt F .i32) (hw1 : k0_chk1 v5 v8)
    (hle : v5.toNat ≤ v8.toNat) (hb : v8.toNat ≤ 6144) (hO : ∀ j, BitVec.toNat (arg1.view.read (Elt F) X1 j) < 6144)
    (hS : Seg (F := F) (arg2.view.read (Elt F) X2) v5.toNat v8.toNat (i 0).val) (k3 : Fin (k0_t3_loop v5 v8).trips)
    (v41 : BitVec 32) (hv41 : v41 = Scalar.addi v5 (Scalar.muli (Scf.iv 0#32 1#32 k3.val) 32#32)) (k : Fin k0_t6_loop.trips) (u : BitVec 32) :
    invT6 c arg1 arg2 arg4 arg14 arg16 sh X1 X2 X4 EW v5.toNat v8.toNat (i 0).val k3.val k.val u
      ⊢ wp frame (wpE (defs₀ (F := F)) 𝒱 (c : Thread nD τ) bd) Set.univ
          (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (BitVec.ofNat 32 (i 0).val) v5 v8 hw1 k3 v41 k u)
          (fun u' => (invT6 c arg1 arg2 arg4 arg14 arg16 sh X1 X2 X4 EW v5.toNat v8.toNat (i 0).val k3.val (k.val + 1) u' : sProp 𝕄)) := by
  have hk : k.val < 32 := t6_lt hle hb k
  unfold invT6 holds k0_t6_body
  iintro ⟨H1, H2, H4, ⟨%f, H14, %hf⟩, ⟨%g, H16, %hg⟩⟩
  sl_exec
  have hk3 := lt_of_lt_of_eq k3.isLt (t3_trips hle hb)
  generalize hp : min (v5.toNat + 32 * k3.val + k.val) (v8.toNat - 1) = p
  have hp' : p < 6144 := by omega
  have e1 : stepT6.sl.r X1 v5 v8 hw1 k3 k = at1 (arg1.view.read (Elt F) X1) p := by
    unfold stepT6.sl.r
    exact smemVal _ _ ((off15_eq hle hb k3 k).trans (congrArg (fun n => ![n]) hp)) hp' _ _
  have hw4 : k0_chk4 (stepT6.sl.r X1 v5 v8 hw1 k3 k) := by rw [e1]; exact chk4_of (hO _)
  sl_exec
  have hseg : v5.toNat + 32 * k3.val + k.val < v8.toNat → 384 * (i 0).val ≤ (stepT6.sl.r_1 X2 v5 v8 hw1 k3 k).toNat
      ∧ (stepT6.sl.r_1 X2 v5 v8 hw1 k3 k).toNat < 384 * ((i 0).val + 1) := by
    intro h
    have e2 : stepT6.sl.r_1 X2 v5 v8 hw1 k3 k = at1 (arg2.view.read (Elt F) X2) p := by
      unfold stepT6.sl.r_1
      exact smemVal _ _ ((off15_eq hle hb k3 k).trans (congrArg (fun n => ![n]) hp)) hp' _ _
    rw [e2]
    exact hS p (by omega) (by omega)
  have hw5 : k0_chk5 i v5 v8 k3 k (stepT6.sl.r_1 X2 v5 v8 hw1 k3 k) := chk5_of hle hb i k3 k _ hseg
  sl_exec
  sl_step
  isplitl [H1]; · iexact H1
  isplitl [H2]; · iexact H2
  isplitl [H4]; · iexact H4
  isplitr [H16]
  · iexists _
    isplitl [H14]; · iexact H14
    ipureintro
    intro r d
    have hr := r.isLt
    have hd := d.isLt
    unfold embAt
    by_cases hj : v5.toNat + 32 * k3.val + k.val < v8.toNat
    · have hpj : v5.toNat + (32 * k3.val + k.val) = p := by omega
      have e2 : stepT6.sl.r_1 X2 v5 v8 hw1 k3 k = at1 (arg2.view.read (Elt F) X2) p := by
        unfold stepT6.sl.r_1
        exact smemVal _ _ ((off15_eq hle hb k3 k).trans (congrArg (fun n => ![n]) hp)) hp' _ _
      have hs := hseg hj
      rw [show min (32 * k3.val + (k.val + 1)) (v8.toNat - v5.toNat) = (32 * k3.val + k.val) + 1 by omega]
      rw [show min (32 * k3.val + k.val) (v8.toNat - v5.toNat) = 32 * k3.val + k.val by omega] at hf
      have e18 := off18_eq hle hb i k3 k _ hseg
      unfold slotRow at e18
      rw [if_pos hj] at e18
      unfold accv
      rw [hpj, ← e2]
      by_cases hit : (stepT6.sl.r_1 X2 v5 v8 hw1 k3 k).toNat - 384 * (i 0).val = r.val
      · rw [if_pos hit, View.read_writes_cons_unit_of_mem _ _ _ _ _ _ (ix2 ⟨d.val / 128, by omega⟩ ⟨d.val % 128, by omega⟩) e18
          (Fin.forall_fin_two.mpr ⟨by simp [hit], by simp⟩)]
        have e6 : stepT6.sl.r_6 X1 X4 v5 v8 hw1 k3 k hw4 = at1 (arg4.view.read (Elt F) X4) (BitVec.toNat (at1 (F := F) (arg1.view.read (Elt F) X1) p)) := by
          unfold stepT6.sl.r_6
          exact smemVal _ _ ((off17_eq _).trans (congrArg (fun w : BitVec 32 => ![w.toNat]) e1)) (hO _) _ _
        rw [e6]
        unfold stepT6.sl.r_2 stepT6.sl.r_3 stepT6.sl.r_4 stepT6.sl.r_5
        rw [e1]
        refine (pay197_apply _ _ _ _ _ _).trans (congrArg₂ FloatOps.addf ?_ (congrArg (fun b => FloatOps.mulf (decByte (byteOf b _)) _) ?_))
        · refine (readAt_unit2 arg14.view f _ e18 _ _ ⟨24 * r.val + d.val / 128, by omega⟩ ⟨d.val % 128, by omega⟩ ?_ ?_).trans (hf r d)
          · show 24 * _ + d.val / 128 = 24 * r.val + d.val / 128
            rw [hit]
          · show 0 + d.val % 128 = d.val % 128
            omega
        · refine (readAt_unit2 arg16.view g _ (k0_off16_eq k) _ _ ⟨24 * k.val + d.val / 128, by omega⟩ ⟨d.val % 128, by omega⟩ ?_ ?_).trans
            ((hg ⟨k.val, hk⟩ d).trans ?_)
          · rfl
          · show 0 + d.val % 128 = d.val % 128
            omega
          rw [show min (v5.toNat + 32 * k3.val + (⟨k.val, hk⟩ : Fin 32).val) (v8.toNat - 1) = p from hp]
      · rw [if_neg hit, View.read_writes_cons_unit_of_not_mem _ _ _ _ _ _ e18 0 (by simp; omega)]
        exact hf r d
    · have e18 := off18_eq hle hb i k3 k _ hseg
      unfold slotRow at e18
      rw [if_neg hj] at e18
      rw [View.read_writes_cons_unit_of_not_mem _ _ _ _ _ _ e18 0 (by simp; omega)]
      rw [show min (32 * k3.val + (k.val + 1)) (v8.toNat - v5.toNat) = min (32 * k3.val + k.val) (v8.toNat - v5.toNat) by omega]
      exact hf r d
  · iexists _
    isplitl [H16]; · iexact H16
    ipureintro
    exact hg

end Cert.KernelIdeal.Hand
-- ==== Proof.KernelIdeal.LoopT45.lean ====
/- The two loops that fetch a batch's 32 word rows: one issues the transfers, the other waits for them. -/
module

public import proofs.«01_k».proof.Proof.KernelIdeal.LoopT6
public import Idealize.ShloMosaic.Lib.Batch
public import Idealize.ShloMosaic.Lib.ShareLeaves
public import Idealize.ShloMosaic.Lib.SparseCore.Stream

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero)
open ShareLeaves (leaf pointsTo_leaves)

/-- Row `n` of the words' buffer. -/
abbrev srcRow (arg9 : Memref sig .tc .hbm S1536x2560 .i32) (n : Fin 1536) : Memref sig .tc .hbm S1x2560 .i32 :=
  arg9.slice (Rect.unit (s := S1536x2560) ![n.val, 0] S1x2560.size (Fin.forall_fin_two.mpr ⟨n.isLt, Nat.le_refl _⟩)) (fun _ => rfl)

/-- Row `t` of the ring. -/
abbrev dstRow (arg15 : Memref sig .tc .vmem S32x2560 .i32) (t : Fin 32) : Memref sig .tc .vmem S1x2560 .i32 :=
  arg15.slice (Rect.unit (s := S32x2560) ![t.val, 0] S1x2560.size (Fin.forall_fin_two.mpr ⟨t.isLt, Nat.le_refl _⟩)) (fun _ => rfl)

/-- What transfer `t` delivers: the ring's row holding the words' row, and the share of the words' row back. -/
def delivT (c : Dev nD) (arg9 : Memref sig .tc .hbm S1536x2560 .i32) (arg15 : Memref sig .tc .vmem S32x2560 .i32)
    (XE : BufTy.Contents (Elt F) arg9.view.ty) (f : BufTy.Contents (Elt F) arg15.view.ty) (w : Fin 32 → Fin 1536) (t : Fin 32) : sProp 𝕄 :=
  iprop((arg15.view.loc (c : Thread nD τ) ↦[(dstRow arg15 t).view.set]{fullShare} ((dstRow arg15 t).view.write (Elt F) f ((srcRow arg9 (w t)).view.read (Elt F) XE) Finset.univ))
    ∗ (arg9.view.loc (c : Thread nD τ) ↦[(srcRow arg9 (w t)).view.set]{leaf 5 fullShare t} XE))

instance delivT_storable (c : Dev nD) (arg9 : Memref sig .tc .hbm S1536x2560 .i32) (arg15 : Memref sig .tc .vmem S32x2560 .i32)
    (XE : BufTy.Contents (Elt F) arg9.view.ty) (f : BufTy.Contents (Elt F) arg15.view.ty) (w : Fin 32 → Fin 1536) (t : Fin 32) :
    Storable (upEmb : UEmb _ 𝕄) (delivT c arg9 arg15 XE f w t) := by
  unfold delivT; infer_instance

/-- The units one row's transfer credits. -/
def rowN (arg15 : Memref sig .tc .vmem S32x2560 .i32) : ℕ := (dstRow arg15 0).view.dmaCredit

theorem rowN_pos : 0 < rowN arg15 := (dstRow arg15 0).view.dmaCredit_pos (by decide)

/-- The batch: 32 transfers on the kernel's own semaphore. -/
abbrev batchT (c : Dev nD) (arg9 : Memref sig .tc .hbm S1536x2560 .i32) (arg15 : Memref sig .tc .vmem S32x2560 .i32) (arg18 : DmaSems sig S_)
    (XE : BufTy.Contents (Elt F) arg9.view.ty) (f : BufTy.Contents (Elt F) arg15.view.ty) (w : Fin 32 → Fin 1536) (j u : ℕ) : sProp 𝕄 :=
  Batch (countersEmb (U := Pipeline.UD sig nD τ)) (c : Thread nD τ) (.dma arg18.sem) () (rowN arg15) (delivT c arg9 arg15 XE f w) j u

/-- The invariant of the issuing loop. -/
def invT4 (c : Dev nD) (arg1 : Memref sig .tc .smem S6144 .i32) (arg9 : Memref sig .tc .hbm S1536x2560 .i32) (arg15 : Memref sig .tc .vmem S32x2560 .i32)
    (arg18 : DmaSems sig S_) (sh : PosShare TreeShare) (X1 : BufTy.Contents (Elt F) arg1.view.ty)
    (XE : BufTy.Contents (Elt F) arg9.view.ty) (f : BufTy.Contents (Elt F) arg15.view.ty) (w : Fin 32 → Fin 1536) (j : ℕ) (_ : BitVec 32) : sProp 𝕄 :=
  iprop((arg1.view.loc (c : Thread nD τ) ↦{sh} X1)
    ∗ bigSep (pending (n := 32) j) (fun t => (arg9.view.loc (c : Thread nD τ) ↦[(srcRow arg9 (w t)).view.set]{leaf 5 fullShare t} XE : sProp 𝕄))
    ∗ bigSep (pending (n := 32) j) (fun t => (arg15.view.loc (c : Thread nD τ) ↦[(dstRow arg15 t).view.set]{fullShare} f : sProp 𝕄))
    ∗ batchT c arg9 arg15 arg18 XE f w j 0)

/-- The invariant of the waiting loop. -/
def invT5 (c : Dev nD) (arg1 : Memref sig .tc .smem S6144 .i32) (arg9 : Memref sig .tc .hbm S1536x2560 .i32) (arg15 : Memref sig .tc .vmem S32x2560 .i32)
    (arg18 : DmaSems sig S_) (sh : PosShare TreeShare) (X1 : BufTy.Contents (Elt F) arg1.view.ty)
    (XE : BufTy.Contents (Elt F) arg9.view.ty) (f : BufTy.Contents (Elt F) arg15.view.ty) (w : Fin 32 → Fin 1536) (j : ℕ) (_ : BitVec 32) : sProp 𝕄 :=
  iprop((arg1.view.loc (c : Thread nD τ) ↦{sh} X1) ∗ batchT c arg9 arg15 arg18 XE f w 32 (rowN arg15 * j) ∗ ∃ W, owes (c : Thread nD τ) 0 W)

/-- Issuing the transfer of one row. -/
theorem wp_row (𝒱 : Variants) (c : Dev nD) (bd : Option 𝒱.V) {α : Type} {Q : α → sProp 𝕄} (XE : BufTy.Contents (Elt F) arg9.view.ty) (f : BufTy.Contents (Elt F) arg15.view.ty)
    (w : Fin 32 → Fin 1536) (t : Fin 32) {off1 off2 : Fin 2 → ℕ} (inb1 : ∀ a, off1 a + S1x2560.size a ≤ S32x2560.size a)
    (inb2 : ∀ a, off2 a + S1x2560.size a ≤ S1536x2560.size a) (h1 : off1 = ![t.val, 0]) (h2 : off2 = ![(w t).val, 0])
    {hsrc hdst hsem} {k : PUnit → Prog (TpuEff nD τ sig (Elt F) Λ₀ .tc) α} :
    iprop((arg9.view.loc (c : Thread nD τ) ↦[(srcRow arg9 (w t)).view.set]{leaf 5 fullShare t} XE)
        ∗ (arg15.view.loc (c : Thread nD τ) ↦[(dstRow arg15 t).view.set]{fullShare} f) ∗ batchT c arg9 arg15 arg18 XE f w t.val 0)
      ⊢ iprop((batchT c arg9 arg15 arg18 XE f w (t.val + 1) 0 -∗ wp frame (wpE (defs₀ (F := F)) 𝒱 (c : Thread nD τ) bd) Set.univ (k ⟨⟩) Q)
          -∗ wp frame (wpE (defs₀ (F := F)) 𝒱 (c : Thread nD τ) bd) Set.univ
            (.op (.enqueueDma (arg9.slice (Rect.unit (s := S1536x2560) off2 S1x2560.size inb2) (fun _ => rfl))
              (.here (arg15.slice (Rect.unit (s := S32x2560) off1 S1x2560.size inb1) (fun _ => rfl))) (.dma arg18.sem) hsrc hdst hsem) k) Q) := by
  subst h1 h2
  exact Transfers.wp_dmaBatch (countersEmb (U := Pipeline.UD sig nD τ)) 𝒱 (c : Thread nD τ) bd (src := srcRow arg9 (w t)) (dst := dstRow arg15 t)
    (via := .same) () (rowN arg15) rfl (Finset.Subset.refl _) t.isLt (Nat.zero_le _) (by unfold delivT; exact BIBase.Entails.rfl)

/-- Waiting for one row's transfer. -/
theorem wp_rowWait (𝒱 : Variants) (c : Dev nD) (bd : Option 𝒱.V) {α : Type} {Q : α → sProp 𝕄} (XE : BufTy.Contents (Elt F) arg9.view.ty) (f : BufTy.Contents (Elt F) arg15.view.ty)
    (w : Fin 32 → Fin 1536) {j : ℕ} (hj : j < 32) (W : Waits sig Unit) {off1 off2 : Fin 2 → ℕ} (inb1 : ∀ a, off1 a + S1x2560.size a ≤ S32x2560.size a)
    (inb2 : ∀ a, off2 a + S1x2560.size a ≤ S1536x2560.size a) {hsrc hdst} {k : PUnit → Prog (TpuEff nD τ sig (Elt F) Λ₀ .tc) α} :
    iprop(batchT c arg9 arg15 arg18 XE f w 32 (rowN arg15 * j) ∗ owes (c : Thread nD τ) 0 W)
      ⊢ iprop((iprop(batchT c arg9 arg15 arg18 XE f w 32 (rowN arg15 * (j + 1)) ∗ ∃ W, owes (c : Thread nD τ) 0 W) -∗ wp frame (wpE (defs₀ (F := F)) 𝒱 (c : Thread nD τ) bd) Set.univ (k ⟨⟩) Q)
          -∗ wp frame (wpE (defs₀ (F := F)) 𝒱 (c : Thread nD τ) bd) Set.univ
            (.op (.waitDma2 arg18.sem (arg9.slice (Rect.unit (s := S1536x2560) off2 S1x2560.size inb2) (fun _ => rfl))
              (arg15.slice (Rect.unit (s := S32x2560) off1 S1x2560.size inb1) (fun _ => rfl)) hsrc hdst) k) Q) := by
  have h := Transfers.wp_waitBatchMul (countersEmb (U := Pipeline.UD sig nD τ)) 𝒱 (c : Thread nD τ) bd (defs := defs₀ (F := F)) (Q := Q) (k := k)
    (sem := arg18.sem) (srcw := arg9.slice (Rect.unit (s := S1536x2560) off2 S1x2560.size inb2) (fun _ => rfl))
    (dstw := arg15.slice (Rect.unit (s := S32x2560) off1 S1x2560.size inb1) (fun _ => rfl)) (hsrc := hsrc) (hdst := hdst) () (N := rowN arg15) 1 (Nat.one_mul _).symm
    (D := delivT c arg9 arg15 XE f w) (j := 32) (u := rowN arg15 * j) (by nlinarith [rowN_pos (arg15 := arg15)]) (W := W)
  iintro H Hk
  iapply h $$ H
  iintro ⟨HB, HW⟩
  iapply Hk
  isplitl [HB]
  · rw [show rowN arg15 * (j + 1) = rowN arg15 * j + 1 * rowN arg15 by ring]; iexact HB
  · iexists _; iexact HW

/-- The words' row that slot `t` of batch `k3` reads. -/
def rowIdx (O : S6144.Idx → BitVec 32) (hO : ∀ j, BitVec.toNat (O j) < 6144) (A B k3 : ℕ) (t : Fin 32) : Fin 1536 :=
  ⟨BitVec.toNat (at1 (F := F) (e := .i32) O (min (A + 32 * k3 + t.val) (B - 1))) / 4, by
    have := hO (ix1 ⟨min (min (A + 32 * k3 + t.val) (B - 1)) 6143, by omega⟩)
    unfold at1; omega⟩

theorem stepT4 (𝒱 : Variants) (c : Dev nD) (bd : Option 𝒱.V) (i : grid0.Coords) (sh : PosShare TreeShare) (X1 : BufTy.Contents (Elt F) arg1.view.ty)
    (XE : BufTy.Contents (Elt F) arg9.view.ty) (f : BufTy.Contents (Elt F) arg15.view.ty) (v5 v8 : Elt F .i32) (hw1 : k0_chk1 v5 v8)
    (hle : v5.toNat ≤ v8.toNat) (hb : v8.toNat ≤ 6144) (hO : ∀ j, BitVec.toNat (arg1.view.read (Elt F) X1 j) < 6144)
    (k3 : Fin (k0_t3_loop v5 v8).trips) (k : Fin k0_t4_loop.trips) (u : BitVec 32) :
    invT4 c arg1 arg9 arg15 arg18 sh X1 XE f (rowIdx (F := F) (arg1.view.read (Elt F) X1) hO v5.toNat v8.toNat k3.val) k.val u
      ⊢ wp frame (wpE (defs₀ (F := F)) 𝒱 (c : Thread nD τ) bd) Set.univ
          (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v5 v8 hw1 0#32 1#32 k3 k u)
          (fun u' => (invT4 c arg1 arg9 arg15 arg18 sh X1 XE f (rowIdx (F := F) (arg1.view.read (Elt F) X1) hO v5.toNat v8.toNat k3.val) (k.val + 1) u' : sProp 𝕄)) := by
  have hk : k.val < 32 := t4_lt hle hb k
  unfold invT4 k0_t4_body
  rw [bigSep_pending_step _ k.val hk, bigSep_pending_step _ k.val hk]
  iintro ⟨H1, ⟨HS, HSr⟩, ⟨HD, HDr⟩, HB⟩
  sl_exec
  have hk3 := lt_of_lt_of_eq k3.isLt (t3_trips hle hb)
  have hp' : min (v5.toNat + 32 * k3.val + k.val) (v8.toNat - 1) < 6144 := by omega
  have e1 : stepT4.sl.r X1 v5 v8 hw1 k3 k = at1 (arg1.view.read (Elt F) X1) (min (v5.toNat + 32 * k3.val + k.val) (v8.toNat - 1)) := by
    unfold stepT4.sl.r
    exact smemVal _ _ (off9_eq hle hb k3 k) hp' _ _
  have hw2 : k0_chk2 (stepT4.sl.r X1 v5 v8 hw1 k3 k) := by rw [e1]; exact chk2_of (hO _)
  iapply (wp_assume 𝒱 (c : Thread nD τ) bd Set.univ hw2)
  iapply (wp_row 𝒱 c bd XE f (rowIdx (F := F) (arg1.view.read (Elt F) X1) hO v5.toNat v8.toNat k3.val) ⟨k.val, hk⟩ _ _ (k0_off10_eq k)
    ((off11_eq (by rw [e1]; exact hO _)).trans (by rw [e1]; rfl))) $$ [HS HD HB]
  · isplitl [HS]; · iexact HS
    isplitl [HD]; · iexact HD
    iexact HB
  iintro HB
  rw [show ((Prog.ret PUnit.unit : Prog (TpuEff nD τ sig (Elt F) Λ₀ .tc) PUnit).bind fun _ => (pure 0#32 : Prog (TpuEff nD τ sig (Elt F) Λ₀ .tc) (BitVec 32))) = Prog.ret 0#32 from rfl, wp_ret]; imodintro
  isplitl [H1]; · iexact H1
  isplitl [HSr]; · iexact HSr
  isplitl [HDr]; · iexact HDr
  iexact HB

theorem stepT5 (𝒱 : Variants) (c : Dev nD) (bd : Option 𝒱.V) (i : grid0.Coords) (sh : PosShare TreeShare) (X1 : BufTy.Contents (Elt F) arg1.view.ty)
    (XE : BufTy.Contents (Elt F) arg9.view.ty) (f : BufTy.Contents (Elt F) arg15.view.ty) (v5 v8 : Elt F .i32) (hw1 : k0_chk1 v5 v8)
    (hle : v5.toNat ≤ v8.toNat) (hb : v8.toNat ≤ 6144) (hO : ∀ j, BitVec.toNat (arg1.view.read (Elt F) X1 j) < 6144)
    (w : Fin 32 → Fin 1536) (k3 : Fin (k0_t3_loop v5 v8).trips) (k : Fin k0_t5_loop.trips) (u : BitVec 32) :
    invT5 c arg1 arg9 arg15 arg18 sh X1 XE f w k.val u
      ⊢ wp frame (wpE (defs₀ (F := F)) 𝒱 (c : Thread nD τ) bd) Set.univ
          (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 v5 v8 hw1 0#32 1#32 k3 k u)
          (fun u' => (invT5 c arg1 arg9 arg15 arg18 sh X1 XE f w (k.val + 1) u' : sProp 𝕄)) := by
  have hk : k.val < 32 := t5_lt hle hb k
  unfold invT5 k0_t5_body
  iintro ⟨H1, HB, ⟨%W, HW⟩⟩
  sl_exec
  have hk3 := lt_of_lt_of_eq k3.isLt (t3_trips hle hb)
  have hp' : min (v5.toNat + 32 * k3.val + k.val) (v8.toNat - 1) < 6144 := by omega
  have e1 : stepT5.sl.r X1 v5 v8 hw1 k3 k = at1 (arg1.view.read (Elt F) X1) (min (v5.toNat + 32 * k3.val + k.val) (v8.toNat - 1)) := by
    unfold stepT5.sl.r
    exact smemVal _ _ (off12_eq hle hb k3 k) hp' _ _
  have hw3 : k0_chk3 (stepT5.sl.r X1 v5 v8 hw1 k3 k) := by rw [e1]; exact chk3_of (hO _)
  iapply (wp_assume 𝒱 (c : Thread nD τ) bd Set.univ hw3)
  iapply (wp_rowWait 𝒱 c bd XE f w hk W (k0_off13_inb k) (k0_off14_inb _ hw3)) $$ [HB HW]
  · isplitl [HB]; · iexact HB
    iexact HW
  iintro ⟨HB, HW⟩
  rw [show ((Prog.ret PUnit.unit : Prog (TpuEff nD τ sig (Elt F) Λ₀ .tc) PUnit).bind fun _ => (pure 0#32 : Prog (TpuEff nD τ sig (Elt F) Λ₀ .tc) (BitVec 32))) = Prog.ret 0#32 from rfl, wp_ret]; imodintro
  isplitl [H1]; · iexact H1
  isplitl [HB]; · iexact HB
  iexact HW

end Cert.KernelIdeal.Hand
-- ==== Proof.KernelIdeal.Fetch.lean ====
/- Before a batch's transfers the two buffers are split into rows; after it they are put together again, the ring holding the words' rows. -/
module

public import proofs.«01_k».proof.Proof.KernelIdeal.LoopT45

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero)
open ShareLeaves (leaf pointsTo_leaves)

theorem rect_unit_congr {s : Shape} {o o' z z' : Fin s.rank → ℕ} {inb : ∀ a, o a + z a ≤ s.size a} {inb' : ∀ a, o' a + z' a ≤ s.size a} (h : o = o') (h' : z = z') :
    Rect.unit o z inb = Rect.unit o' z' inb' := by subst h h'; rfl

/-- The ring's rows as the row slices the library speaks of. -/
theorem dstRow_set (t : Fin 32) : (dstRow arg15 t).view.set = (arg15.view.slice (S32x2560.rowRect 0 t)).set := by
  have h : ∀ r r' : Rect S32x2560, r = r' → (arg15.view.slice r).set = (arg15.view.slice r').set := fun r r' h => by subst h; rfl
  refine h _ _ (rect_unit_congr ?_ ?_)
  · funext a; revert a; exact Fin.forall_fin_two.mpr ⟨rfl, rfl⟩
  · funext a; revert a; exact Fin.forall_fin_two.mpr ⟨rfl, rfl⟩

/-- The ring split into its rows. -/
theorem ring_rows (c : Dev nD) (f : BufTy.Contents (Elt F) arg15.view.ty) :
    (arg15.view.loc (c : Thread nD τ) ↦[arg15.view.set]{fullShare} f : sProp 𝕄)
      = bigSep Finset.univ fun t : Fin 32 => arg15.view.loc (c : Thread nD τ) ↦[(dstRow arg15 t).view.set]{fullShare} f := by
  rw [Idealize.ShloMosaic.pointsTo_rows (c : Thread nD τ) arg15.view 0 fullShare f]
  exact BI.bigSep_congr fun t _ => by rw [dstRow_set (arg15 := arg15) t]

/-- The words' buffer split into 32 shares, each into the row it lends and the rest. -/
theorem words_rows (c : Dev nD) (XE : BufTy.Contents (Elt F) arg9.view.ty) (w : Fin 32 → Fin 1536) :
    (arg9.view.loc (c : Thread nD τ) ↦{fullShare} XE : sProp 𝕄)
      = iprop(bigSep Finset.univ (fun t : Fin 32 => (arg9.view.loc (c : Thread nD τ) ↦[(srcRow arg9 (w t)).view.set]{leaf 5 fullShare t} XE : sProp 𝕄))
        ∗ bigSep Finset.univ (fun t : Fin 32 => (arg9.view.loc (c : Thread nD τ) ↦[Finset.univ \ (srcRow arg9 (w t)).view.set]{leaf 5 fullShare t} XE : sProp 𝕄))) := by
  refine Eq.trans ?_ (BI.bigSep_sep Finset.univ _ _)
  refine (pointsTo_leaves (Ix := Unit) (Name := ℕ) (U := Pipeline.UD sig nD τ) (Lvl := ℕ) (ℓ := arg9.view.loc (c : Thread nD τ)) Finset.univ XE 5 fullShare).trans ?_
  exact BI.bigSep_congr fun t _ => BI.Entails.antisymm (pointsTo_split_subset (Finset.subset_univ _)).1 (pointsTo_split_subset (Finset.subset_univ _)).2

/-- The rows written, put together: row `t` of the ring reads row `w t` of the words. -/
theorem ring_join (c : Dev nD) (XE : BufTy.Contents (Elt F) arg9.view.ty) (f : BufTy.Contents (Elt F) arg15.view.ty) (w : Fin 32 → Fin 1536) :
    (bigSep Finset.univ fun t : Fin 32 => arg15.view.loc (c : Thread nD τ) ↦[(dstRow arg15 t).view.set]{fullShare}
        ((dstRow arg15 t).view.write (Elt F) f ((srcRow arg9 (w t)).view.read (Elt F) XE) Finset.univ))
      ⊢ holds (F := F) c arg15 (fun g => ∀ (t : Fin 32) (d : Fin 2560), g (ix2 t d) = arg9.view.read (Elt F) XE (ix2 (w t) d)) := by
  have hj := pointsTo_biUnion_join (Ix := Unit) (Name := ℕ) (U := Pipeline.UD sig nD τ) (Lvl := ℕ) (ℓ := arg15.view.loc (c : Thread nD τ)) (q := fullShare) Finset.univ
    (fun t : Fin 32 => (dstRow arg15 t).view.set)
    (fun t => (dstRow arg15 t).view.write (Elt F) f ((srcRow arg9 (w t)).view.read (Elt F) XE) Finset.univ) f
    (fun t _ t' _ h => by rw [dstRow_set, dstRow_set]; exact arg15.view.disjoint_rows 0 h)
  refine hj.trans ?_
  have hs : (Finset.univ.biUnion fun t : Fin 32 => (dstRow arg15 t).view.set) = arg15.view.set := by
    rw [arg15.view.set_eq_biUnion_rows 0]
    exact Finset.biUnion_congr rfl fun t _ => dstRow_set t
  rw [hs]
  iintro ⟨%g, %hg, H⟩
  iexists g
  isplitl [H]
  · iexact H
  · ipureintro
    intro t d
    have hx : arg15.view.emb (ix2 t d) = (dstRow arg15 t).view.emb (ix2 (0 : Fin 1) d) :=
      congrArg arg15.view.emb (idx2_ext (by show t.val = t.val + 1 * 0; omega) (by show d.val = 0 + 1 * d.val; omega))
    rw [View.read_apply, hx, hg t (Finset.mem_univ t) _ (View.emb_mem_set _ _), View.write_emb_of_mem _ _ (Finset.mem_univ _), cast_cast, cast_eq]
    exact read_slice_unit arg9 XE _ _ rfl _ _ (Fin.forall_fin_two.mpr ⟨by show (w t).val + 0 = _; rfl, by show 0 + d.val = d.val; omega⟩)

end Cert.KernelIdeal.Hand
-- ==== Proof.KernelIdeal.LoopT3.lean ====
/- One batch of 32 tokens: fetch their words' rows, repack them, and add each token's row into its slot. -/
module

public import proofs.«01_k».proof.Proof.KernelIdeal.Fetch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

open Transfers (Batch pending bigSep_pending_step pending_zero bigSep_pending_zero)
open ShareLeaves (leaf)

/-- The invariant over the batches: before batch `k3` the slots hold the sums of the first `32 * k3` tokens of the part. -/
def invT3 (c : Dev nD) (arg1 arg2 : Memref sig .tc .smem S6144 .i32) (arg4 : Memref sig .tc .smem S6144 .f32)
    (arg9 : Memref sig .tc .hbm S1536x2560 .i32) (arg14 : Memref sig .tc .vmem S9240x128 .f32) (arg15 : Memref sig .tc .vmem S32x2560 .i32)
    (arg16 : Memref sig .tc .vmem S768x128 .i32) (arg18 : DmaSems sig S_) (sh : PosShare TreeShare) (X1 : BufTy.Contents (Elt F) arg1.view.ty)
    (X2 : BufTy.Contents (Elt F) arg2.view.ty) (X4 : BufTy.Contents (Elt F) arg4.view.ty) (XE : BufTy.Contents (Elt F) arg9.view.ty)
    (A B cb : ℕ) (k3 : ℕ) (_ : BitVec 32) : sProp 𝕄 :=
  iprop((arg1.view.loc (c : Thread nD τ) ↦{sh} X1) ∗ (arg2.view.loc (c : Thread nD τ) ↦{sh} X2)
    ∗ (arg4.view.loc (c : Thread nD τ) ↦[arg4.view.set]{fullShare} X4) ∗ (arg9.view.loc (c : Thread nD τ) ↦{fullShare} XE)
    ∗ holds (F := F) c arg14 (AccAt (arg1.view.read (Elt F) X1) (arg2.view.read (Elt F) X2) (arg4.view.read (Elt F) X4) (arg9.view.read (Elt F) XE) A cb (min (32 * k3) (B - A)))
    ∗ holds (F := F) c arg15 (fun _ => True) ∗ holds (F := F) c arg16 (fun _ => True)
    ∗ semVal ((c : Thread nD τ), .dma arg18.sem) 0 ∗ ∃ W, owes (c : Thread nD τ) 0 W)

/-- What the transfers deliver, the ring's rows and the words' rows apart. -/
theorem deliv_split (c : Dev nD) (XE : BufTy.Contents (Elt F) arg9.view.ty) (f : BufTy.Contents (Elt F) arg15.view.ty) (w : Fin 32 → Fin 1536) :
    bigSep Finset.univ (delivT (F := F) c arg9 arg15 XE f w)
      ⊢ iprop(bigSep Finset.univ (fun t : Fin 32 => (arg15.view.loc (c : Thread nD τ) ↦[(dstRow arg15 t).view.set]{fullShare}
          ((dstRow arg15 t).view.write (Elt F) f ((srcRow arg9 (w t)).view.read (Elt F) XE) Finset.univ) : sProp 𝕄))
        ∗ bigSep Finset.univ (fun t : Fin 32 => (arg9.view.loc (c : Thread nD τ) ↦[(srcRow arg9 (w t)).view.set]{leaf 5 fullShare t} XE : sProp 𝕄))) := by
  unfold delivT
  exact Entails.of_eq (BI.bigSep_sep Finset.univ _ _)

/-- Row `y / 24` of the ring as the repacked ring holds it, 128 words to a row. -/
def ringG (R : S32x2560.Idx → Elt F .i32) (y : S768x128.Idx) : Elt F .i32 :=
  R (ix2 ⟨min ((y 0).val / 24) 31, by omega⟩ ⟨min (128 * ((y 0).val % 24) + (y 1).val) 2559, by omega⟩)

/-- What one store of the repacking writes is the ring's words at their places. -/
theorem piece_ok (g : BufTy.Contents (Elt F) arg15.view.ty) {o0 o1 r0 : ℕ} (inb : ∀ a, (![o0, o1] : Fin 2 → ℕ) a + S8x128.size a ≤ S32x2560.size a) {inb'} {hst}
    (h1 : o1 % 128 = 0) (h2 : r0 = 24 * o0 + o1 / 128) (x : S8x128.Idx) :
    shapeCast S8x128 (View.readAt (Elt F) arg15.view (Rect.unit (s := S32x2560) ![o0, o1] S8x128.size inb).toLoadRect g) shapeCasts_S8x128_S8x128 x
      = ringG (F := F) (arg15.view.read (Elt F) g) ((⟨⟨![r0, 0], S8x128.size, ![24, 1], inb'⟩, hst⟩ : Rect S768x128).emb x) := by
  have hi0 : o0 + 8 ≤ 32 := inb 0
  have hi1 : o1 + 128 ≤ 2560 := inb 1
  have hx0 : (x 0).val < 8 := (x 0).isLt
  have hx1 : (x 1).val < 128 := (x 1).isLt
  refine (congrFun (shapeCast_self (s := S8x128) _ shapeCasts_S8x128_S8x128) x).trans ?_
  refine readAt_unit_eq arg15.view g inb rfl x (ix2 ⟨min ((r0 + 24 * (x 0).val) / 24) 31, by omega⟩ ⟨min (128 * ((r0 + 24 * (x 0).val) % 24) + (0 + 1 * (x 1).val)) 2559, by omega⟩) (Fin.forall_fin_two.mpr ⟨?_, ?_⟩)
  · show o0 + (x 0).val = min ((r0 + 24 * (x 0).val) / 24) 31
    omega
  · show o1 + (x 1).val = min (128 * ((r0 + 24 * (x 0).val) % 24) + (0 + 1 * (x 1).val)) 2559
    omega

/-- What identifies a stored rectangle: its offsets, sizes and strides. -/
def rectKey (r : Rect S768x128) : ℕ × ℕ × ℕ × ℕ × ℕ × ℕ := (r.off 0, r.off 1, r.size 0, r.size 1, r.stride 0, r.stride 1)

/-- The 80 stores' rectangles, last first: store `q` goes to rows `192 * (q / 20) + q % 20`, every 24th. -/
def keys : List (ℕ × ℕ × ℕ × ℕ × ℕ × ℕ) := (List.range 80).reverse.map fun q => (192 * (q / 20) + q % 20, 0, 8, 128, 24, 1)

theorem mem_keys (a : ℕ) (ha : a < 4) (b : ℕ) (hb : b < 20) : (192 * a + b, 0, 8, 128, 24, 1) ∈ keys := by
  refine List.mem_map.mpr ⟨20 * a + b, List.mem_reverse.mpr (List.mem_range.mpr (by omega)), ?_⟩
  rw [show (20 * a + b) / 20 = a by omega, show (20 * a + b) % 20 = b by omega]

/-- After the 80 stores the repacked ring holds the ring's words. -/
theorem ring_of_pieces (f : BufTy.Contents (Elt F) arg16.view.ty) (R : S32x2560.Idx → Elt F .i32) (L : List (View.Piece (Elt F) S768x128 .i32))
    (hL : (L.map fun p => rectKey p.1) = keys)
    (hG : ∀ p ∈ L, ∀ x : p.1.shape.Idx, p.2 x = ringG R (p.1.emb x)) (i : Fin 32) (d : Fin 2560) :
    arg16.view.read (Elt F) (arg16.view.writes (Elt F) f L) (ix2 ⟨24 * i.val + d.val / 128, by omega⟩ ⟨d.val % 128, Nat.mod_lt _ (by decide)⟩) = R (ix2 i d) := by
  obtain ⟨p, hp, he⟩ := List.mem_map.mp (hL ▸ mem_keys (i.val / 8) (by omega) (d.val / 128) (by omega))
  simp only [rectKey, Prod.mk.injEq] at he
  obtain ⟨e0, e1, e2, e3, e4, e5⟩ := he
  refine (View.read_writes_apply_of_pieces arg16.view f (ringG R) L hG _ ⟨p, hp, ?_⟩).trans ?_
  · refine (LoadRect.mem_set _).mpr (Fin.forall_fin_two.mpr ⟨⟨i.val % 8, ?_, ?_⟩, ⟨d.val % 128, ?_, ?_⟩⟩)
    · rw [e2]; omega
    · rw [e0, e4]; show 24 * i.val + d.val / 128 = _; omega
    · rw [e3]; omega
    · rw [e1, e5]; show d.val % 128 = _; omega
  · refine congrArg R (idx2_ext ?_ ?_)
    · show min ((24 * i.val + d.val / 128) / 24) 31 = i.val; omega
    · show min (128 * ((24 * i.val + d.val / 128) % 24) + d.val % 128) 2559 = d.val; omega

theorem t6_trips : Scf.trips k0_t6_loop.lb k0_t6_loop.ub k0_t6_loop.st = 32 := by decide +kernel

theorem t5_trips : Scf.trips k0_t5_loop.lb k0_t5_loop.ub k0_t5_loop.st = 32 := by decide +kernel

set_option maxHeartbeats 4000000 in
theorem stepT3 (𝒱 : Variants) (c : Dev nD) (bd : Option 𝒱.V) (i : grid0.Coords) (sh : PosShare TreeShare) (X1 : BufTy.Contents (Elt F) arg1.view.ty)
    (X2 : BufTy.Contents (Elt F) arg2.view.ty) (X4 : BufTy.Contents (Elt F) arg4.view.ty) (XE : BufTy.Contents (Elt F) arg9.view.ty)
    (v5 v8 : Elt F .i32) (hw1 : k0_chk1 v5 v8)
    (hle : v5.toNat ≤ v8.toNat) (hb : v8.toNat ≤ 6144) (hO : ∀ j, BitVec.toNat (arg1.view.read (Elt F) X1 j) < 6144)
    (hS : Seg (F := F) (arg2.view.read (Elt F) X2) v5.toNat v8.toNat (i 0).val) (k3 : Fin (k0_t3_loop v5 v8).trips) (u : BitVec 32) :
    invT3 c arg1 arg2 arg4 arg9 arg14 arg15 arg16 arg18 sh X1 X2 X4 XE v5.toNat v8.toNat (i 0).val k3.val u
      ⊢ wp frame (wpE (defs₀ (F := F)) 𝒱 (c : Thread nD τ) bd) Set.univ
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 (BitVec.ofNat 32 (i 0).val) v5 v8 hw1 k3 u)
          (fun u' => (invT3 c arg1 arg2 arg4 arg9 arg14 arg15 arg16 arg18 sh X1 X2 X4 XE v5.toNat v8.toNat (i 0).val (k3.val + 1) u' : sProp 𝕄)) := by
  have hk3 := lt_of_lt_of_eq k3.isLt (t3_trips hle hb)
  unfold invT3 k0_t3_body
  iintro ⟨H1, H2, H4, H9, H14, ⟨%f15, H15, -⟩, ⟨%f16, H16, -⟩, Hs, HW⟩
  ihave H9 := (Entails.of_eq (words_rows (F := F) (arg9 := arg9) c XE (rowIdx (F := F) (arg1.view.read (Elt F) X1) hO v5.toNat v8.toNat k3.val))) $$ H9
  icases H9 with ⟨H9, H9r⟩
  ihave H15 := (Entails.of_eq (ring_rows (F := F) (arg15 := arg15) c f15)) $$ H15
  imod (Transfers.batch_alloc' (Lvl := ℕ) (countersEmb (U := Pipeline.UD sig nD τ)) (c : Thread nD τ) () (rowN arg15)
    (delivT (F := F) c arg9 arg15 XE f15 (rowIdx (F := F) (arg1.view.read (Elt F) X1) hO v5.toNat v8.toNat k3.val)) (sm := .dma arg18.sem) (E := Set.univ)) $$ Hs with HB
  sl_exec
  sl_for (invT4 (F := F) c arg1 arg9 arg15 arg18 sh X1 XE f15 (rowIdx (F := F) (arg1.view.read (Elt F) X1) hO v5.toNat v8.toNat k3.val)) $$ [H1 H9 H15 HB]
  · intro k u
    exact stepT4 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 XE f15 v5 v8 hw1 hle hb hO k3 k u
  · unfold invT4
    isplitl [H1]; · iexact H1
    rw [pending_zero]
    isplitl [H9]; · iexact H9
    isplitl [H15]; · iexact H15
    iexact HB
  iintro %u4 HI
  unfold invT4
  icases HI with ⟨H1, -, -, HB⟩
  sl_exec
  sl_for (invT5 (F := F) c arg1 arg9 arg15 arg18 sh X1 XE f15 (rowIdx (F := F) (arg1.view.read (Elt F) X1) hO v5.toNat v8.toNat k3.val)) $$ [H1 HB HW]
  · intro k u
    exact stepT5 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 XE f15 v5 v8 hw1 hle hb hO _ k3 k u
  · unfold invT5
    isplitl [H1]; · iexact H1
    isplitl [HB]; · iexact HB
    iexact HW
  iintro %u5 HI
  unfold invT5
  icases HI with ⟨H1, HB, HW⟩
  rw [t5_trips]
  imod (Transfers.batch_collect' (countersEmb (U := Pipeline.UD sig nD τ)) (c : Thread nD τ) (ι := ()) (n := 32) (sm := .dma arg18.sem)
    (D := delivT (F := F) c arg9 arg15 XE f15 (rowIdx (F := F) (arg1.view.read (Elt F) X1) hO v5.toNat v8.toNat k3.val)) (rowN_pos (arg15 := arg15))) $$ HB with ⟨HD, Hs⟩
  ihave HD := deliv_split (F := F) c XE f15 _ $$ HD
  icases HD with ⟨H15, H9⟩
  ihave H9 := (Entails.of_eq (words_rows (F := F) (arg9 := arg9) c XE (rowIdx (F := F) (arg1.view.read (Elt F) X1) hO v5.toNat v8.toNat k3.val)).symm) $$ [H9 H9r]
  · isplitl [H9]; · iexact H9
    iexact H9r
  ihave H15 := ring_join c XE f15 (rowIdx (F := F) (arg1.view.read (Elt F) X1) hO v5.toNat v8.toNat k3.val) $$ H15
  icases H15 with ⟨%g15, H15, %hg15⟩
  sl_exec
  sl_for (invT6 (F := F) c arg1 arg2 arg4 arg14 arg16 sh X1 X2 X4 (arg9.view.read (Elt F) XE) v5.toNat v8.toNat (i 0).val k3.val) $$ [H1 H2 H4 H14 H16]
  · intro k u
    exact stepT6 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 X2 X4 (arg9.view.read (Elt F) XE) v5 v8 hw1 hle hb hO hS k3 _ rfl k u
  · unfold invT6
    isplitl [H1]; · iexact H1
    isplitl [H2]; · iexact H2
    isplitl [H4]; · iexact H4
    isplitl [H14]; · iexact H14
    iexists _
    isplitl [H16]; · iexact H16
    ipureintro
    intro t d
    refine (ring_of_pieces f16 (arg15.view.read (Elt F) g15) _ ?_ ?_ t d).trans ?_
    · sl_kernel_rfl
    · repeat' (refine List.forall_mem_cons.mpr ⟨fun x => ?_, ?_⟩)
      all_goals first
        | exact piece_ok (arg15 := arg15) g15 _ rfl rfl _
        | (intro p hp; exact absurd hp List.not_mem_nil)
    · refine (hg15 t d).trans ?_
      refine congrArg (arg9.view.read (Elt F) XE) (idx2_ext (Nat.min_eq_left ?_).symm rfl)
      exact Nat.le_of_lt_succ (rowIdx (F := F) (arg1.view.read (Elt F) X1) hO v5.toNat v8.toNat k3.val t).isLt
  iintro %u6 HI
  unfold invT6
  icases HI with ⟨H1, H2, H4, H14, ⟨%g16, H16, -⟩⟩
  rw [t6_trips]
  sl_exec
  rw [wp_ret]; imodintro
  isplitl [H1]; · iexact H1
  isplitl [H2]; · iexact H2
  isplitl [H4]; · iexact H4
  isplitl [H9]; · iexact H9
  isplitl [H14]
  · rw [show 32 * (k3.val + 1) = 32 * k3.val + 32 by ring]; iexact H14
  isplitl [H15]
  · iexists _
    isplitl [H15]; · iexact H15
    ipureintro; trivial
  isplitl [H16]
  · iexists _
    isplitl [H16]; · iexact H16
    ipureintro; trivial
  isplitl [Hs]; · iexact Hs
  iexact HW

end Cert.KernelIdeal.Hand
-- ==== Proof.KernelIdeal.Body.lean ====
/- One grid point's run of the kernel body. -/
module

public import proofs.«01_k».proof.Proof.KernelIdeal.LoopT1
public import proofs.«01_k».proof.Proof.KernelIdeal.LoopT2
public import proofs.«01_k».proof.Proof.KernelIdeal.LoopT3
public import proofs.«01_k».proof.Proof.KernelIdeal.LoopT11

@[expose] public section

set_option pp.maxSteps 150

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable {arg1 : Memref sig .tc .smem S6144 .i32} {harg1 : arg1.IsWhole}
  {arg2 : Memref sig .tc .smem S6144 .i32} {harg2 : arg2.IsWhole}
  {arg3 : Memref sig .tc .smem S132 .i32} {harg3 : arg3.IsWhole}
  {arg4 : Memref sig .tc .smem S6144 .f32} {harg4 : arg4.IsWhole}
  {arg5 : Memref sig .tc .vmem S6144x384 .fp8e5m2} {harg5 : arg5.IsWhole}
  {arg6 : Memref sig .tc .vmem S1x1x6144 .f32} {harg6 : arg6.IsWhole}
  {arg7 : Memref sig .tc .hbm S6144x2560 .fp8e4m3} {harg7 : arg7.IsWhole}
  {arg8 : Memref sig .tc .vmem S6144x1 .f32} {harg8 : arg8.IsWhole}
  {arg9 : Memref sig .tc .hbm S1536x2560 .i32} {harg9 : arg9.IsWhole}
  {arg10 : Memref sig .tc .vmem S384x2560 .f32} {harg10 : arg10.IsWhole}
  {arg11 : Memref sig .tc .vmem S6144x2560 .bf16} {harg11 : arg11.IsWhole}
  {arg12 : Memref sig .tc .vmem S512x2560 .fp8e4m3} {harg12 : arg12.IsWhole}
  {arg13 : Memref sig .tc .vmem S384x6144 .bf16} {harg13 : arg13.IsWhole}
  {arg14 : Memref sig .tc .vmem S9240x128 .f32} {harg14 : arg14.IsWhole}
  {arg15 : Memref sig .tc .vmem S32x2560 .i32} {harg15 : arg15.IsWhole}
  {arg16 : Memref sig .tc .vmem S768x128 .i32} {harg16 : arg16.IsWhole}
  {arg17 : DmaSems sig S_} {arg18 : DmaSems sig S_}

/-- The rows gathered for a block are all zero. -/
def EmbZero (Z : S9240x128.Idx → Elt F .f32) : Prop := ∀ (r : Fin 384) (d : Fin 2560), embAt Z r d = fzero

/-- The dequantized block of the upstream gradient, transposed. -/
def gtOf (X5 : S6144x384.Idx → Elt F .fp8e5m2) (X6 : S1x1x6144.Idx → Elt F .f32) : FVec F S384x6144 .bf16 :=
  fun y => gtVal (X5 (ix2 (y 1) (y 0))) (X6 (ix3 0 0 (y 1)))

/-- 512 columns of the dequantized activations, from column `512 * n` on. -/
def xbOf (X7 : S6144x2560.Idx → Elt F .fp8e4m3) (X8 : S6144x1.Idx → Elt F .f32) (n : Fin 5) : FVec F S6144x512 .bf16 :=
  fun y => xbVal (X7 (ix2 (y 0) ⟨512 * n.val + (y 1).val, by have : (y 1).val < 512 := (y 1).isLt; show _ < 2560; omega⟩)) (X8 (ix2 (y 0) 0))

/-- The contraction's entry at row `r`, column `d` of a block. -/
def dotv (X5 : S6144x384.Idx → Elt F .fp8e5m2) (X6 : S1x1x6144.Idx → Elt F .f32)
    (X7 : S6144x2560.Idx → Elt F .fp8e4m3) (X8 : S6144x1.Idx → Elt F .f32) (r : Fin 384) (d : Fin 2560) : Elt F .f32 :=
  k0_pay201 (gtOf X5 X6) (xbOf X7 X8 ⟨d.val / 512, by omega⟩) (ix2 r ⟨d.val % 512, Nat.mod_lt _ (by decide)⟩)

/-- The first position of block `n`'s tokens in the sorted order. -/
def bnd (B : S132.Idx → BitVec 32) (n : ℕ) : ℕ := (B (ix1 ⟨min n 131, by omega⟩)).toNat

/-- The block the kernel leaves at grid point `cb`. -/
def outv (O S : S6144.Idx → BitVec 32) (B : S132.Idx → BitVec 32) (ESC : S6144.Idx → Elt F .f32) (X5 : S6144x384.Idx → Elt F .fp8e5m2) (X6 : S1x1x6144.Idx → Elt F .f32)
    (X7 : S6144x2560.Idx → Elt F .fp8e4m3) (X8 : S6144x1.Idx → Elt F .f32) (EW : S1536x2560.Idx → BitVec 32) (cb : ℕ) : S384x2560.Idx → Elt F .f32 :=
  fun y => FloatOps.addf (dotv X5 X6 X7 X8 (y 0) (y 1)) (accv (F := F) O S ESC EW (bnd B cb) cb (y 0) (y 1) (bnd B (cb + 1) - bnd B cb))

theorem off7_eq : ∀ i : grid0.Coords, k0_off7 i = ![(i 0).val] := by decide +kernel
theorem off8_eq : ∀ i : grid0.Coords, k0_off8 i = ![(i 0).val + 1] := by decide +kernel

/-- A one-word load of the table of bounds reads the table's entry at the load's offset. -/
theorem bndVal (v : View sig .tc .smem S132 .i32) (f : v.ty.Contents (Elt F)) {off : Fin 1 → ℕ} {n : ℕ} (hoff : off = ![n]) (hn : n < 132)
    (inb : ∀ a, off a + S1.size a ≤ S132.size a) (x : (Rect.unit (s := S132) off S1.size inb).toLoadRect.shape.Idx) :
    View.readAt (Elt F) v (Rect.unit (s := S132) off S1.size inb).toLoadRect f x = v.read (Elt F) f (ix1 ⟨n, hn⟩) := by
  refine readAt_unit_eq v f inb hoff x _ fun a => ?_
  have hx : (x 0).val < 1 := (x 0).isLt
  fin_cases a
  show n + (x 0).val = n
  omega

theorem bnd_eq (B : S132.Idx → BitVec 32) {n : ℕ} (hn : n < 132) : bnd B n = (B (ix1 ⟨n, hn⟩)).toNat := by
  unfold bnd
  refine congrArg (fun m : Fin 132 => (B (ix1 m)).toNat) (Fin.ext ?_)
  show min n 131 = n
  omega

/-- What one store of the contraction puts: the block's entries at the store's place. -/
theorem pieceDot (X5 : S6144x384.Idx → Elt F .fp8e5m2) (X6 : S1x1x6144.Idx → Elt F .f32)
    (X7 : S6144x2560.Idx → Elt F .fp8e4m3) (X8 : S6144x1.Idx → Elt F .f32)
    (fg : BufTy.Contents (Elt F) arg13.view.ty) (fx : BufTy.Contents (Elt F) arg11.view.ty)
    (hfg : GtUpTo X5 X6 6144 (arg13.view.read (Elt F) fg)) (hfx : XbUpTo X7 X8 6144 (arg11.view.read (Elt F) fx)) (n : Fin 5) {o : ℕ} (ho : o = 512 * n.val)
    (inb1 : ∀ a, (![0, 0] : Fin 2 → ℕ) a + S384x6144.size a ≤ S384x6144.size a) (inb2 : ∀ a, (![0, o] : Fin 2 → ℕ) a + S6144x512.size a ≤ S6144x2560.size a)
    (inb3 : ∀ a, (![0, o] : Fin 2 → ℕ) a + S384x512.size a ≤ S384x2560.size a) (x : S384x512.Idx) :
    k0_pay201 (F := F) (View.readAt (Elt F) arg13.view (Rect.unit (s := S384x6144) ![0, 0] S384x6144.size inb1).toLoadRect fg)
        (View.readAt (Elt F) arg11.view (Rect.unit (s := S6144x2560) ![0, o] S6144x512.size inb2).toLoadRect fx) x
      = (fun y : S384x2560.Idx => dotv X5 X6 X7 X8 (y 0) (y 1)) ((Rect.unit (s := S384x2560) ![0, o] S384x512.size inb3).emb x) := by
  have e1 : View.readAt (Elt F) arg13.view (Rect.unit (s := S384x6144) ![0, 0] S384x6144.size inb1).toLoadRect fg = gtOf X5 X6 := by
    funext y
    refine (readAt_unit_eq arg13.view fg inb1 rfl y (ix2 (y 0) (y 1)) (Fin.forall_fin_two.mpr ⟨by simp, by simp⟩)).trans ?_
    exact hfg _ _ (y 1).isLt
  have e2 : View.readAt (Elt F) arg11.view (Rect.unit (s := S6144x2560) ![0, o] S6144x512.size inb2).toLoadRect fx = xbOf X7 X8 n := by
    funext y
    have h1 : (y 1).val < 512 := (y 1).isLt
    refine (readAt_unit_eq arg11.view fx inb2 rfl y (ix2 (y 0) ⟨512 * n.val + (y 1).val, by omega⟩) (Fin.forall_fin_two.mpr ⟨?_, ?_⟩)).trans ?_
    · show 0 + (y 0).val = (y 0).val; omega
    · show o + (y 1).val = 512 * n.val + (y 1).val; omega
    · exact hfx _ _ (y 0).isLt
  have h1 : (x 1).val < 512 := (x 1).isLt
  rw [e1, e2]
  show _ = dotv X5 X6 X7 X8 _ _
  unfold dotv
  have a0 : (((Rect.unit (s := S384x2560) ![0, o] S384x512.size inb3).emb x) 1).val = o + 1 * (x 1).val := rfl
  have a1 : (((Rect.unit (s := S384x2560) ![0, o] S384x512.size inb3).emb x) 0).val = 0 + 1 * (x 0).val := rfl
  refine congrArg₂ (fun (m : Fin 5) (z : S384x512.Idx) => k0_pay201 (F := F) (gtOf X5 X6) (xbOf X7 X8 m) z) (Fin.ext ?_) (idx2_ext ?_ ?_)
  · show n.val = (((Rect.unit (s := S384x2560) ![0, o] S384x512.size inb3).emb x) 1).val / 512
    omega
  · show (x 0).val = (((Rect.unit (s := S384x2560) ![0, o] S384x512.size inb3).emb x) 0).val
    omega
  · show (x 1).val = (((Rect.unit (s := S384x2560) ![0, o] S384x512.size inb3).emb x) 1).val % 512
    omega

/-- What the first grid point sets up, and every later one finds. -/
def ready (c : Dev nD) (arg7 : Memref sig .tc .hbm S6144x2560 .fp8e4m3) (arg8 : Memref sig .tc .vmem S6144x1 .f32)
    (arg11 : Memref sig .tc .vmem S6144x2560 .bf16) (arg12 : Memref sig .tc .vmem S512x2560 .fp8e4m3) (arg14 : Memref sig .tc .vmem S9240x128 .f32)
    (arg16 : Memref sig .tc .vmem S768x128 .i32) (arg17 : DmaSems sig S_)
    (X7 : BufTy.Contents (Elt F) arg7.view.ty) (X8 : BufTy.Contents (Elt F) arg8.view.ty) (first : Prop) : sProp 𝕄 :=
  iprop((arg7.view.loc (c : Thread nD τ) ↦{fullShare} X7) ∗ (arg8.view.loc (c : Thread nD τ) ↦[arg8.view.set]{fullShare} X8)
    ∗ holds c arg11 (fun Y => first ∨ XbUpTo (arg7.view.read (Elt F) X7) (arg8.view.read (Elt F) X8) 6144 Y)
    ∗ (∃ f, arg12.view.loc (c : Thread nD τ) ↦[arg12.view.set]{fullShare} f)
    ∗ holds c arg14 (fun Z => first ∨ EmbZero Z)
    ∗ (∃ f, arg16.view.loc (c : Thread nD τ) ↦[arg16.view.set]{fullShare} f)
    ∗ semVal ((c : Thread nD τ), SemLoc.dma arg17.sem) 0
    ∗ (∃ W, owes (c : Thread nD τ) 0 W))

/-- What every grid point finds and leaves besides. -/
def rest (c : Dev nD) (arg1 : Memref sig .tc .smem S6144 .i32) (arg2 : Memref sig .tc .smem S6144 .i32) (arg3 : Memref sig .tc .smem S132 .i32)
    (arg4 : Memref sig .tc .smem S6144 .f32) (arg5 : Memref sig .tc .vmem S6144x384 .fp8e5m2) (arg6 : Memref sig .tc .vmem S1x1x6144 .f32)
    (arg9 : Memref sig .tc .hbm S1536x2560 .i32) (arg13 : Memref sig .tc .vmem S384x6144 .bf16) (arg15 : Memref sig .tc .vmem S32x2560 .i32) (arg18 : DmaSems sig S_)
    (sh : PosShare TreeShare) (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X9 : BufTy.Contents (Elt F) arg9.view.ty) : sProp 𝕄 :=
  iprop((arg1.view.loc (c : Thread nD τ) ↦{sh} X1) ∗ (arg2.view.loc (c : Thread nD τ) ↦{sh} X2) ∗ (arg3.view.loc (c : Thread nD τ) ↦{sh} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg9.view.loc (c : Thread nD τ) ↦{fullShare} X9)
    ∗ holds c arg13 (fun _ => True) ∗ holds c arg15 (fun _ => True) ∗ semVal ((c : Thread nD τ), SemLoc.dma arg18.sem) 0)

set_option maxHeartbeats 4000000 in
/-- One grid point: it leaves its block of the result, and what the next point finds. -/
theorem point_run (𝒱 : Variants) (c : Dev nD) (bd : Option 𝒱.V) (i : grid0.Coords) (sh : PosShare TreeShare)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (X8 : BufTy.Contents (Elt F) arg8.view.ty) (X9 : BufTy.Contents (Elt F) arg9.view.ty)
    (hT : TabOK (arg1.view.read (Elt F) X1) (arg2.view.read (Elt F) X2) (arg3.view.read (Elt F) X3)) :
    iprop(rest c arg1 arg2 arg3 arg4 arg5 arg6 arg9 arg13 arg15 arg18 sh X1 X2 X3 X4 X5 X6 X9
        ∗ ready c arg7 arg8 arg11 arg12 arg14 arg16 arg17 X7 X8 (k0_cond1 i = 1#1) ∗ holds c arg10 (fun _ => True))
      ⊢ wp frame (wpE (defs₀ (F := F)) 𝒱 (c : Thread nD τ) bd) Set.univ (cc0_tied_dw (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
        (fun _ => iprop(rest c arg1 arg2 arg3 arg4 arg5 arg6 arg9 arg13 arg15 arg18 sh X1 X2 X3 X4 X5 X6 X9
        ∗ ready c arg7 arg8 arg11 arg12 arg14 arg16 arg17 X7 X8 False
        ∗ holds c arg10 (fun Y => Y = outv (arg1.view.read (Elt F) X1) (arg2.view.read (Elt F) X2) (arg3.view.read (Elt F) X3) (arg4.view.read (Elt F) X4)
            (arg5.view.read (Elt F) X5) (arg6.view.read (Elt F) X6) (arg7.view.read (Elt F) X7) (arg8.view.read (Elt F) X8) (arg9.view.read (Elt F) X9) (i 0).val))) := by
  unfold ready rest holds
  iintro ⟨⟨H1, H2, H3, H4, H5, H6, H9, ⟨%f13, H13, -⟩, ⟨%f15, H15, -⟩, HE⟩, ⟨H7, H8, ⟨%f, H11, %hf⟩, ⟨%f12, H12⟩, ⟨%f14, H14, %hf14⟩, ⟨%f16, H16⟩, HC, HW⟩, ⟨%f10, H10, -⟩⟩
  have hi : (i 0).val < 131 := (i 0).isLt
  by_cases h1 : k0_cond1 i = 1#1
  swap
  focus
    replace hf := hf.resolve_left h1
    replace hf14 := hf14.resolve_left h1
    sl_exec
    rename' f => fx, f12 => fy, f14 => fz, f16 => fv, hf => hfx, hf14 => hfz
  swap
  focus
    sl_exec
    sl_for (invT1 (F := F) c arg7 arg8 arg11 arg12 arg17 X7 X8) $$ [H7 H8 H11 H12 HC HW]
    · intro k u
      exact stepT1 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i h1 X7 X8 k u
    · unfold invT1 holds
      isplitl [H7]; · iexact H7
      isplitl [H8]; · iexact H8
      isplitl [H11]
      · iexists _
        isplitl [H11]; · iexact H11
        ipureintro; intro t d ht; omega
      isplitl [H12]; · iexists _; iexact H12
      isplitl [HC]; · iexact HC
      iexact HW
    iintro %u1 HI
    unfold invT1 holds
    icases HI with ⟨H7, H8, ⟨%fx, H11, %hfx⟩, ⟨%fy, H12⟩, HC, HW⟩
    ihave HZ : iprop(∃ fz, (arg14.view.loc (c : Thread nD τ) ↦[arg14.view.set]{fullShare} fz) ∗ ⌜EmbZero (arg14.view.read (Elt F) fz)⌝) $$ [H14]
    · iexists _
      isplitl [H14]; · iexact H14
      ipureintro
      intro r d
      unfold embAt point_run.sl.H14_1
      refine View.read_writes_apply_of_pieces _ _ (fun _ => fzero) _ ?_ _ ?_
      · exact List.forall_mem_cons.mpr ⟨fun x => rfl, fun p hp => absurd hp List.not_mem_nil⟩
      · exact ex_head (mem_unit2 (inb := inb_S9240x128_S9240x128_0_0) rfl (by omega) (by omega) (by omega) (by omega))
    icases HZ with ⟨%fz, H14, %hfz⟩
    replace hfx : XbUpTo (arg7.view.read (Elt F) X7) (arg8.view.read (Elt F) X8) 6144 (arg11.view.read (Elt F) fx) := hfx
    ihave HV : iprop(∃ fv, (arg16.view.loc (c : Thread nD τ) ↦[arg16.view.set]{fullShare} fv)) $$ [H16]
    · iexists _; iexact H16
    icases HV with ⟨%fv, H16⟩
    clear hf hf14 f f12 f14 f16
    sl_exec
  all_goals
    sl_for (invT2 (F := F) c arg5 arg6 arg13 X5 X6) $$ [H5 H6 H13]
    · intro k u
      exact stepT2 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i X5 X6 k u
    · unfold invT2 holds
      isplitl [H5]; · iexact H5
      isplitl [H6]; · iexact H6
      iexists _
      isplitl [H13]; · iexact H13
      ipureintro; intro r t ht; omega
    iintro %u2 HI
    unfold invT2 holds
    icases HI with ⟨H5, H6, ⟨%fg, H13, %hfg⟩⟩
    replace hfg : GtUpTo (arg5.view.read (Elt F) X5) (arg6.view.read (Elt F) X6) 6144 (arg13.view.read (Elt F) fg) := hfg
    sl_exec
    have b5 : (i 0).val < 132 := by omega
    have b8 : (i 0).val + 1 < 132 := by omega
    obtain ⟨v5, hv5⟩ : ∃ v : BitVec 32, v = arg3.view.read (Elt F) X3 (ix1 ⟨(i 0).val, b5⟩) := ⟨_, rfl⟩
    obtain ⟨v8, hv8⟩ : ∃ v : BitVec 32, v = arg3.view.read (Elt F) X3 (ix1 ⟨(i 0).val + 1, b8⟩) := ⟨_, rfl⟩
    first
      | rw [show point_run.sl.r_3 i X3 = v5 from (by unfold point_run.sl.r_3; rw [hv5]; exact bndVal _ _ (off7_eq i) b5 _ _)]
        rw [show point_run.sl.r_4 i X3 = v8 from (by unfold point_run.sl.r_4; rw [hv8]; exact bndVal _ _ (off8_eq i) b8 _ _)]
      | rw [show point_run.sl.r i X3 = v5 from (by unfold point_run.sl.r; rw [hv5]; exact bndVal _ _ (off7_eq i) b5 _ _)]
        rw [show point_run.sl.r_1 i X3 = v8 from (by unfold point_run.sl.r_1; rw [hv8]; exact bndVal _ _ (off8_eq i) b8 _ _)]
    have hA : bnd (arg3.view.read (Elt F) X3) (i 0).val = v5.toNat := by rw [hv5]; exact bnd_eq _ b5
    have hB : bnd (arg3.view.read (Elt F) X3) ((i 0).val + 1) = v8.toNat := by rw [hv8]; exact bnd_eq _ b8
    have hle : v5.toNat ≤ v8.toNat := by rw [hv5, hv8]; exact hT.mono _ _ rfl
    have hb : v8.toNat ≤ 6144 := by rw [hv8]; exact hT.le _
    have hS : Seg (F := F) (arg2.view.read (Elt F) X2) v5.toNat v8.toNat (i 0).val := by
      intro j hj1 hj2
      have h := hT.seg ⟨(i 0).val, b5⟩ ⟨(i 0).val + 1, b8⟩ ⟨j, by omega⟩ rfl (by rw [← hv5]; exact hj1) (by rw [← hv8]; exact hj2)
      have e : at1 (F := F) (e := .i32) (arg2.view.read (Elt F) X2) j = arg2.view.read (Elt F) X2 (ix1 ⟨j, by omega⟩) :=
        congrArg (fun m : Fin 6144 => arg2.view.read (Elt F) X2 (ix1 m)) (Fin.ext (show min j 6143 = j by omega))
      rw [e]; exact h
    have hw1 : k0_chk1 v5 v8 := chk1_of hle hb
    iapply (wp_assume 𝒱 (c : Thread nD τ) bd Set.univ hw1)
    sl_exec
    sl_for (invT3 (F := F) c arg1 arg2 arg4 arg9 arg14 arg15 arg16 arg18 sh X1 X2 X4 X9 v5.toNat v8.toNat (i 0).val) $$ [H1 H2 H4 H9 H14 H15 H16 HE HW]
    · intro k u
      exact stepT3 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i sh X1 X2 X4 X9 v5 v8 hw1 hle hb hT.ord hS k u
    · unfold invT3 holds
      isplitl [H1]; · iexact H1
      isplitl [H2]; · iexact H2
      isplitl [H4]; · iexact H4
      isplitl [H9]; · iexact H9
      isplitl [H14]
      · iexists _
        isplitl [H14]; · iexact H14
        ipureintro
        intro r d
        rw [Nat.mul_zero, Nat.zero_min]
        exact hfz r d
      isplitl [H15]
      · iexists _
        isplitl [H15]; · iexact H15
        ipureintro; trivial
      isplitl [H16]
      · iexists _
        isplitl [H16]; · iexact H16
        ipureintro; trivial
      isplitl [HE]; · iexact HE
      iexact HW
    iintro %u3 HI
    unfold invT3 holds
    icases HI with ⟨H1, H2, H4, H9, ⟨%gz, H14, %hgz⟩, ⟨%g15, H15, -⟩, ⟨%g16, H16, -⟩, HE, HW⟩
    replace hgz : AccAt (F := F) (arg1.view.read (Elt F) X1) (arg2.view.read (Elt F) X2) (arg4.view.read (Elt F) X4) (arg9.view.read (Elt F) X9) v5.toNat (i 0).val
        (v8.toNat - v5.toNat) (arg14.view.read (Elt F) gz) := by
      have e := t3_trips hle hb
      rw [show Scf.trips (k0_t3_loop v5 v8).lb (k0_t3_loop v5 v8).ub (k0_t3_loop v5 v8).st = (v8.toNat - v5.toNat + 31) / 32 from e,
        Nat.min_eq_right (by omega)] at hgz
      exact hgz
    sl_exec
    sl_for (fun (_ : ℕ) (_ : BitVec 32) => (iprop(emp) : sProp 𝕄)) $$ []
    · intro k u
      exact absurd (lt_of_lt_of_eq k.isLt (t7_trips hle hb)) (by omega)
    · itrivial
    iintro %u7 -
    sl_exec
    ihave HD : iprop(∃ fd, (arg10.view.loc (c : Thread nD τ) ↦[arg10.view.set]{fullShare} fd)
        ∗ ⌜∀ (r : Fin 384) (d : Fin 2560), arg10.view.read (Elt F) fd (ix2 r d) = dotv (arg5.view.read (Elt F) X5) (arg6.view.read (Elt F) X6) (arg7.view.read (Elt F) X7) (arg8.view.read (Elt F) X8) r d⌝) $$ [H10]
    · iexists _
      isplitl [H10]; · iexact H10
      ipureintro
      intro r d
      refine (View.read_writes_apply_of_pieces _ _ (fun y : S384x2560.Idx => dotv (arg5.view.read (Elt F) X5) (arg6.view.read (Elt F) X6) (arg7.view.read (Elt F) X7) (arg8.view.read (Elt F) X8) (y 0) (y 1)) _ ?_ (ix2 r d) ?_).trans rfl
      · refine List.forall_mem_cons.mpr ⟨?_, List.forall_mem_cons.mpr ⟨?_, List.forall_mem_cons.mpr ⟨?_, List.forall_mem_cons.mpr ⟨?_,
          List.forall_mem_cons.mpr ⟨?_, fun p hp => absurd hp List.not_mem_nil⟩⟩⟩⟩⟩ <;> intro x
        · sl_unfold_words; exact pieceDot _ _ _ _ fg fx hfg hfx 4 (o := 2048) rfl inb_S384x6144_S384x6144_0_0 inb_S6144x2560_S6144x512_0_2048 inb_S384x2560_S384x512_0_2048 x
        · sl_unfold_words; exact pieceDot _ _ _ _ fg fx hfg hfx 3 (o := 1536) rfl inb_S384x6144_S384x6144_0_0 inb_S6144x2560_S6144x512_0_1536 inb_S384x2560_S384x512_0_1536 x
        · sl_unfold_words; exact pieceDot _ _ _ _ fg fx hfg hfx 2 (o := 1024) rfl inb_S384x6144_S384x6144_0_0 inb_S6144x2560_S6144x512_0_1024 inb_S384x2560_S384x512_0_1024 x
        · sl_unfold_words; exact pieceDot _ _ _ _ fg fx hfg hfx 1 (o := 512) rfl inb_S384x6144_S384x6144_0_0 inb_S6144x2560_S6144x512_0_512 inb_S384x2560_S384x512_0_512 x
        · sl_unfold_words; exact pieceDot _ _ _ _ fg fx hfg hfx 0 (o := 0) rfl inb_S384x6144_S384x6144_0_0 inb_S6144x2560_S6144x512_0_0 inb_S384x2560_S384x512_0_0 x
      · obtain ⟨q, hq⟩ : ∃ q : Fin 5, d.val / 512 = q.val := ⟨⟨d.val / 512, by omega⟩, rfl⟩
        fin_cases q <;> simp at hq
        · exact ex_tail (ex_tail (ex_tail (ex_tail (ex_head (mem_unit2 (inb := inb_S384x2560_S384x512_0_0) rfl (by omega) (by omega) (by omega) (by omega))))))
        · exact ex_tail (ex_tail (ex_tail (ex_head (mem_unit2 (inb := inb_S384x2560_S384x512_0_512) rfl (by omega) (by omega) (by omega) (by omega)))))
        · exact ex_tail (ex_tail (ex_head (mem_unit2 (inb := inb_S384x2560_S384x512_0_1024) rfl (by omega) (by omega) (by omega) (by omega))))
        · exact ex_tail (ex_head (mem_unit2 (inb := inb_S384x2560_S384x512_0_1536) rfl (by omega) (by omega) (by omega) (by omega)))
        · exact ex_head (mem_unit2 (inb := inb_S384x2560_S384x512_0_2048) rfl (by omega) (by omega) (by omega) (by omega))
    icases HD with ⟨%fd, H10, %hfd⟩
    sl_for (invT11 (F := F) c arg10 arg14 (arg10.view.read (Elt F) fd) (arg14.view.read (Elt F) gz)) $$ [H10 H14]
    · intro k u
      exact stepT11 (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (arg18 := arg18) 𝒱 c bd i _ _ k u
    · unfold invT11 holds
      isplitl [H10]
      · iexists _
        isplitl [H10]; · iexact H10
        ipureintro
        intro r d
        rw [if_neg (by omega)]
      · iexists _
        isplitl [H14]; · iexact H14
        ipureintro
        intro R l
        rw [if_neg (by omega)]
    iintro %u11 HI
    unfold invT11 holds
    icases HI with ⟨⟨%go, H10, %hgo⟩, ⟨%ge, H14, %hge⟩⟩
    replace hgo : OutAt (arg10.view.read (Elt F) fd) (arg14.view.read (Elt F) gz) 48 (arg10.view.read (Elt F) go) := hgo
    replace hge : EmbAt (arg14.view.read (Elt F) gz) 48 (arg14.view.read (Elt F) ge) := hge
    sl_exec
    rw [wp_ret]; imodintro
    isplitl [H1 H2 H3 H4 H5 H6 H9 H13 H15 HE]
    · isplitl [H1]; · iexact H1
      isplitl [H2]; · iexact H2
      isplitl [H3]; · iexact H3
      isplitl [H4]; · iexact H4
      isplitl [H5]; · iexact H5
      isplitl [H6]; · iexact H6
      isplitl [H9]; · iexact H9
      isplitl [H13]
      · iexists _
        isplitl [H13]; · iexact H13
        ipureintro; trivial
      isplitl [H15]
      · iexists _
        isplitl [H15]; · iexact H15
        ipureintro; trivial
      iexact HE
    isplitl [H7 H8 H11 H12 H14 H16 HC HW]
    · isplitl [H7]; · iexact H7
      isplitl [H8]; · iexact H8
      isplitl [H11]
      · iexists _
        isplitl [H11]; · iexact H11
        ipureintro; exact Or.inr hfx
      isplitl [H12]; · iexists _; iexact H12
      isplitl [H14]
      · iexists _
        isplitl [H14]; · iexact H14
        ipureintro
        refine Or.inr fun r d => ?_
        unfold embAt
        rw [hge, if_pos (by show 24 * r.val + d.val / 128 < _; omega)]
      isplitl [H16]; · iexists _; iexact H16
      isplitl [HC]; · iexact HC
      iexact HW
    iexists _
    isplitl [H10]; · iexact H10
    ipureintro
    funext y
    have hy : y = ix2 (y 0) (y 1) := idx2_ext rfl rfl
    rw [hy]
    refine (hgo (y 0) (y 1)).trans ?_
    rw [if_pos (by have : (y 0).val < 384 := (y 0).isLt; omega)]
    refine (congrArg₂ FloatOps.addf (hfd (y 0) (y 1)) (hgz (y 0) (y 1))).trans ?_
    unfold outv
    rw [hA, hB]
    rfl

end Cert.KernelIdeal.Hand
-- ==== Proof.KernelIdeal.Tables.lean ====
/- The tables the program prepares before its kernel: the order of the tokens by id, the sorted ids, and the bounds of each block's tokens. -/
module

public import proofs.«01_k».proof.Proof.Gen.KernelIdeal.Launch
public import proofs.«01_k».proof.Proof.KernelIdeal.Words
public import Idealize.ShloMosaic.Lib.SortFacts
public import Idealize.ShloMosaic.Lib.Routing.Ops
public import Idealize.ShloMosaic.Lib.StableHlo.ReadAt

@[expose] public section

set_option pp.maxSteps 300

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The position whose id the sort puts at `k`. -/
def perm (ids : S6144.Idx → BitVec 32) : Fin 6144 → Fin 6144 :=
  sortedFrom (fun k k' => IntOp.cmpi .slt (ids (ix1 k)) (ids (ix1 k')) == 1#1)

/-- The order of the tokens, as words. -/
def ordT (ids : S6144.Idx → BitVec 32) : S6144.Idx → BitVec 32 := fun j => BitVec.ofNat 32 (perm ids (j 0)).val

/-- The ids in that order. -/
def sidT (ids : S6144.Idx → BitVec 32) : S6144.Idx → BitVec 32 := fun j => ids (ix1 (perm ids (j 0)))

/-- How many ids are below the first row of each block. -/
def offT (ids : S6144.Idx → BitVec 32) : S132.Idx → BitVec 32 :=
  fun c => BitVec.ofNat 32 (Finset.univ.filter fun t : Fin 6144 => (ids (ix1 t)).toInt < 384 * (c 0).val).card

theorem toInt_lt_of_slt {x y : BitVec 32} : IntOp.cmpi .slt x y = 1#1 ↔ x.toInt < y.toInt := by
  show BitVec.ofBool (decide (x.toInt < y.toInt)) = 1#1 ↔ _
  by_cases h : x.toInt < y.toInt <;> simp [h]

/-- A word holding a small number reads as it, signed. -/
theorem toInt_ofNat {n : ℕ} (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- The sorted ids do not decrease. -/
theorem perm_mono (ids : S6144.Idx → BitVec 32) {k k' : Fin 6144} (h : k ≤ k') : (ids (ix1 (perm ids k))).toInt ≤ (ids (ix1 (perm ids k'))).toInt := by
  rcases eq_or_lt_of_le h with rfl | h
  · exact le_rfl
  have := sortedFrom_noInversion (fun k k' : Fin 6144 => IntOp.cmpi .slt (ids (ix1 k)) (ids (ix1 k')) == 1#1)
    (fun k k' : Fin 6144 => IntOp.cmpi .slt (ids (ix1 k)) (ids (ix1 k')) == 1#1)
    (fun a b h => by
      rw [beq_iff_eq, toInt_lt_of_slt] at h
      rw [beq_eq_false_iff_ne, ne_eq, toInt_lt_of_slt]; omega)
    (fun a b h => h)
    (fun a b c h1 h2 => by
      rw [beq_eq_false_iff_ne, ne_eq, toInt_lt_of_slt] at h1 h2 ⊢; omega) k k' h
  rw [beq_eq_false_iff_ne, ne_eq, toInt_lt_of_slt] at this
  exact not_lt.mp this

/-- The order is a permutation of the positions. -/
theorem perm_bijective (ids : S6144.Idx → BitVec 32) : Function.Bijective (perm ids) :=
  ⟨sortedFrom_injective _, sortedFrom_surjective _⟩

/-- In a list that does not decrease, the entries below a value are as many as the positions before the first that is not. -/
theorem lt_card_iff {n : ℕ} (s : Fin n → ℤ) (hs : ∀ k k', k ≤ k' → s k ≤ s k') (v : ℤ) (k : Fin n) :
    k.val < (Finset.univ.filter fun t : Fin n => s t < v).card ↔ s k < v := by
  constructor
  · intro h
    by_contra hk
    have : (Finset.univ.filter fun t : Fin n => s t < v) ⊆ Finset.Iio k := by
      intro t ht
      rw [Finset.mem_filter] at ht
      rw [Finset.mem_Iio]
      by_contra hle
      have := hs k t (not_lt.mp hle)
      omega
    have := Finset.card_le_card this
    rw [Fin.card_Iio] at this
    omega
  · intro h
    have : Finset.Iic k ⊆ (Finset.univ.filter fun t : Fin n => s t < v) := by
      intro t ht
      rw [Finset.mem_Iic] at ht
      rw [Finset.mem_filter]
      exact ⟨Finset.mem_univ _, lt_of_le_of_lt (hs t k ht) h⟩
    have := Finset.card_le_card this
    rw [Fin.card_Iic] at this
    omega

/-- How many ids are below block `n`'s first row. -/
def cnt (ids : S6144.Idx → BitVec 32) (n : ℕ) : ℕ := (Finset.univ.filter fun t : Fin 6144 => (ids (ix1 t)).toInt < 384 * (n : ℤ)).card

theorem cnt_le (ids : S6144.Idx → BitVec 32) (n : ℕ) : cnt ids n ≤ 6144 :=
  (Finset.card_le_univ _).trans (le_of_eq (Fintype.card_fin _))

theorem cnt_mono (ids : S6144.Idx → BitVec 32) {n n' : ℕ} (h : n ≤ n') : cnt ids n ≤ cnt ids n' := by
  refine Finset.card_le_card fun t ht => ?_
  rw [Finset.mem_filter] at ht ⊢
  exact ⟨ht.1, by omega⟩

/-- A sorted position is before block `n`'s bound exactly if its id is below the block's first row. -/
theorem lt_cnt_iff (ids : S6144.Idx → BitVec 32) (n : ℕ) (k : Fin 6144) : k.val < cnt ids n ↔ (ids (ix1 (perm ids k))).toInt < 384 * (n : ℤ) := by
  rw [← lt_card_iff (fun k => (ids (ix1 (perm ids k))).toInt) (fun k k' h => perm_mono ids h) (384 * (n : ℤ)) k]
  refine iff_of_eq (congrArg (k.val < ·) ?_)
  symm
  refine Finset.card_bijective (perm ids) (perm_bijective ids) fun t => ?_
  simp only [Finset.mem_filter, Finset.mem_univ, true_and]

theorem offT_toNat (ids : S6144.Idx → BitVec 32) (c : Fin 132) : (offT ids (ix1 c)).toNat = cnt ids c.val := by
  show (BitVec.ofNat 32 (cnt ids c.val)).toNat = _
  rw [BitVec.toNat_ofNat, Nat.mod_eq_of_lt (lt_of_le_of_lt (cnt_le ids c.val) (by decide))]

/-- The three tables are what the kernel needs of them. -/
theorem tabOK (ids : S6144.Idx → BitVec 32) : TabOK (ordT ids) (sidT ids) (offT ids) where
  ord j := by
    unfold ordT
    rw [BitVec.toNat_ofNat]
    exact lt_of_le_of_lt (Nat.mod_le _ _) (perm ids (j 0)).isLt
  mono c c' h := by
    rw [offT_toNat, offT_toNat]; exact cnt_mono ids (by omega)
  le c := by rw [offT_toNat]; exact cnt_le ids _
  seg c c' j h h1 h2 := by
    rw [offT_toNat] at h1 h2
    have h3 : ¬ (ids (ix1 (perm ids j))).toInt < 384 * (c.val : ℤ) := fun hh => absurd ((lt_cnt_iff ids c.val j).mpr hh) (by omega)
    have h4 := (lt_cnt_iff ids c'.val j).mp h2
    have hc := c.isLt
    rw [h] at h4
    push_cast at h4
    show 384 * c.val ≤ (ids (ix1 (perm ids j))).toNat ∧ (ids (ix1 (perm ids j))).toNat < 384 * (c.val + 1)
    generalize ids (ix1 (perm ids j)) = x at h3 h4
    have h3' : 384 * (c.val : ℤ) ≤ x.toInt := not_lt.mp h3
    have := x.isLt
    rw [BitVec.toInt_eq_toNat_cond] at h3' h4
    split at h4 <;> omega

/-- The host's sort of the ids, carrying the positions, gives the order. -/
theorem sort_eq (ids : S6144.Idx → BitVec 32) : (Host.sort2 S6144 0 comparator_i32_i32_d0 ids (iotaInDim S6144 32 0)).2 = ordT ids := by
  funext j
  have hd : 0 < S6144.rank := by decide
  have e : ∀ k : Fin 6144, j.along (⟨0, hd⟩ : Fin S6144.rank) k = ix1 k := fun k => (Shape.Idx.along_rank1 j k).trans (Routing.ofFin_eq_ix1 k)
  unfold Host.sort2
  refine (congrArg (fun z : (S6144.Idx → BitVec 32) × (S6144.Idx → BitVec 32) => z.2 j) (dif_pos hd)).trans ?_
  show iotaInDim S6144 32 0 (j.along (⟨0, hd⟩ : Fin S6144.rank) (sortedFrom (fun k k' : Fin 6144 => IntOp.cmpi .slt (ids (j.along (⟨0, hd⟩ : Fin S6144.rank) k)) (ids (j.along (⟨0, hd⟩ : Fin S6144.rank) k')) == 1#1) (j 0))) = _
  have e2 : (fun k k' : Fin 6144 => IntOp.cmpi .slt (ids (j.along (⟨0, hd⟩ : Fin S6144.rank) k)) (ids (j.along (⟨0, hd⟩ : Fin S6144.rank) k')) == 1#1)
      = fun k k' : Fin 6144 => IntOp.cmpi .slt (ids (ix1 k)) (ids (ix1 k')) == 1#1 := by
    funext k k'; rw [e, e]
  rw [e2]
  have h : ∀ p : Fin 6144, iotaInDim S6144 32 0 (j.along (⟨0, hd⟩ : Fin S6144.rank) p) = BitVec.ofNat 32 p.val :=
    fun p => (congrArg (iotaInDim S6144 32 0) (e p)).trans rfl
  unfold ordT perm
  exact h _

/-- A selection at an entry whose condition does not hold. -/
theorem select_neg {s : Shape} {α : Type} (p : IVec s 1) (x y : s.Idx → α) (j : s.Idx) (h : ¬ p j = 1#1) : select p x y j = y j := if_neg h

/-- The ids gathered at the order. -/
theorem gather_eq (ids : S6144.Idx → BitVec 32) :
    Host.gather gather_S6144_S6144x1_S6144_n_0_n_n_0_1_1 ids (broadcastInDim S6144x1 ![0] bcast_S6144_S6144x1_0
      (select (cmpi .slt (ordT ids) (broadcastInDim S6144 ![] bcast_S_S6144 (constantI S_ 32 0#32)))
        (addi (ordT ids) (broadcastInDim S6144 ![] bcast_S_S6144 (constantI S_ 32 6144#32))) (ordT ids))) = sidT ids := by
  have hsel : select (cmpi .slt (ordT ids) (broadcastInDim S6144 ![] bcast_S_S6144 (constantI S_ 32 0#32)))
        (addi (ordT ids) (broadcastInDim S6144 ![] bcast_S_S6144 (constantI S_ 32 6144#32))) (ordT ids) = ordT ids := by
    funext j
    have hz : broadcastInDim S6144 ![] bcast_S_S6144 (constantI S_ 32 0#32) j = 0#32 := (Routing.bc0 (s := S6144) bcast_S_S6144 (constantI S_ 32 0#32) j).trans rfl
    refine select_neg _ _ _ j fun h => ?_
    replace h : IntOp.cmpi .slt (BitVec.ofNat 32 (perm ids (j 0)).val) (broadcastInDim S6144 ![] bcast_S_S6144 (constantI S_ 32 0#32) j) = 1#1 := h
    have hp := (perm ids (j 0)).isLt
    have h' := toInt_lt_of_slt.mp h
    rw [toInt_ofNat (by omega), hz, BitVec.toInt_zero] at h'
    omega
  rw [hsel]
  funext j
  obtain ⟨p, rfl⟩ : ∃ p : Fin 6144, j = ix1 p := ⟨j 0, eq_ix1 j⟩
  have h := StableHlo.Predicate.gather_take gather_S6144_S6144x1_S6144_n_0_n_n_0_1_1 rfl rfl rfl rfl ids
    (broadcastInDim S6144x1 ![0] bcast_S6144_S6144x1_0 (ordT ids)) p (by omega)
  have e : ∀ k : Fin 6144, (Shape.Idx.ofFin k : (⟨1, ![6144]⟩ : Shape).Idx) = ix1 k := fun k => Routing.ofFin_eq_ix1 k
  rw [e, e] at h
  refine h.trans ?_
  show ids _ = ids (ix1 (perm ids p))
  refine congrArg (fun q : Fin 6144 => ids (ix1 q)) (Fin.ext ?_)
  show min _ 6143 = (perm ids p).val
  have hb : broadcastInDim S6144x1 ![0] bcast_S6144_S6144x1_0 (ordT ids) (StableHlo.Predicate.ixP p) = ordT ids (ix1 p) := by
    rw [show (StableHlo.Predicate.ixP p : (⟨2, ![6144, 1]⟩ : Shape).Idx) = ix2 p (0 : Fin 1) from by
      funext b; match b with
      | ⟨0, _⟩ => rfl
      | ⟨1, _⟩ => rfl]
    exact Routing.bcCol _ _ p
  rw [hb]
  show min (BitVec.ofNat 32 (perm ids p).val).toInt.toNat 6143 = _
  have := (perm ids p).isLt
  rw [toInt_ofNat (by omega)]
  omega

/-- The counts of the ids below each block's first row. -/
theorem count_eq (ids : S6144.Idx → BitVec 32) :
    Host.reduce IntOp.addi (extui 32 (cmpi .slt
        (broadcastInDim S132x6144 ![0, 1] bcast_S1x6144_S132x6144_0_1 (broadcastInDim S1x6144 ![1] bcast_S6144_S1x6144_1 ids))
        (broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))))) natLt_1_32)
      (constantI S_ 32 0#32) reducesTo_S132x6144_S132_d1 h_S_ = offT ids := by
  funext j
  apply BitVec.eq_of_toNat_eq
  refine (StableHlo.Predicate.toNat_reduce_count_cols (by decide) _ natLt_1_32 _ h_S_ j).trans ?_
  obtain ⟨p, rfl⟩ : ∃ p : Fin 132, j = ix1 p := ⟨j 0, eq_ix1 j⟩
  rw [offT_toNat]
  unfold cnt
  refine congrArg Finset.card (Finset.filter_congr fun q _ => ?_)
  show cmpi .slt _ _ (StableHlo.Predicate.ij (n := 132) (m := 6144) p q) = 1#1 ↔ _
  rw [show (StableHlo.Predicate.ij (n := 132) (m := 6144) p q : S132x6144.Idx) = ix2 p q from Routing.ij_eq_ix2 p q]
  show IntOp.cmpi .slt (broadcastInDim S132x6144 ![0, 1] bcast_S1x6144_S132x6144_0_1 (broadcastInDim S1x6144 ![1] bcast_S6144_S1x6144_1 ids) (ix2 p q))
    (broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))) (ix2 p q)) = 1#1 ↔ _
  rw [toInt_lt_of_slt]
  rw [show broadcastInDim S132x6144 ![0, 1] bcast_S1x6144_S132x6144_0_1 (broadcastInDim S1x6144 ![1] bcast_S6144_S1x6144_1 ids) (ix2 p q) = ids (ix1 q) from Routing.bcCols _ _ _ p q,
    show broadcastInDim S132x6144 ![0, 1] bcast_S132x1_S132x6144_0_1 (broadcastInDim S132x1 ![0] bcast_S132_S132x1_0
          (muli (iotaInDim S132 32 0) (broadcastInDim S132 ![] bcast_S_S132 (constantI S_ 32 384#32)))) (ix2 p q)
        = (muli (iotaInDim S132 32 0) (broadcastInDim S132 ![] bcast_S_S132 (constantI S_ 32 384#32))) (ix1 p) from Routing.bcRows _ _ _ p q]
  have hv : (muli (iotaInDim S132 32 0) (broadcastInDim S132 ![] bcast_S_S132 (constantI S_ 32 384#32))) (ix1 p) = BitVec.ofNat 32 (384 * p.val) := by
    show IntOp.muli (BitVec.ofNat 32 p.val) (broadcastInDim S132 ![] bcast_S_S132 (constantI S_ 32 384#32) (ix1 p)) = _
    rw [Routing.bc0]
    show BitVec.ofNat 32 p.val * BitVec.ofNat 32 384 = _
    rw [← BitVec.ofNat_mul, Nat.mul_comm]
  have hp := p.isLt
  rw [hv, toInt_ofNat (by omega)]
  push_cast
  rfl

variable (m : (ℓ : Loc nD τ sig) → Buf (Elt F) ℓ) (c : Dev nD)

/-- What the kernel finds in memory: the arguments and the values the host's lines before it leave. -/
def V (c : Dev nD) (b : Ref sig .tc) : Buf (Elt F) ((c : Thread nD τ).loc b) :=
  StableHlo.after (List.flatten [hostOps0, hostOps0_1, hostOps0_2]) (fun b => m (c, b)) (Proc.devRef .tc b)

/-- The token ids as one list. -/
def idsOf : S6144.Idx → BitVec 32 := shapeCast S6144 (m ((c : Thread nD τ).loc main_arg6)) shapeCasts_S6x1024_S6144

theorem V_27 : V m c main_v27 = ordT (idsOf m c) := by
  unfold V
  simp only [List.flatten_cons, List.flatten_nil, List.append_nil, List.cons_append, List.nil_append]
  after_reads_simp
  exact sort_eq (idsOf m c)

theorem V_34 : V m c main_v34 = sidT (idsOf m c) := by
  unfold V
  simp only [List.flatten_cons, List.flatten_nil, List.append_nil, List.cons_append, List.nil_append]
  after_reads_simp
  refine Eq.trans ?_ (gather_eq (idsOf m c))
  rw [← sort_eq (idsOf m c)]
  rfl

theorem V_44 : V m c main_v44 = offT (idsOf m c) := by
  unfold V
  simp only [List.flatten_cons, List.flatten_nil, List.append_nil, List.cons_append, List.nil_append]
  after_reads_simp
  exact count_eq (idsOf m c)

end Cert.KernelIdeal.Hand
-- ==== Proof.KernelIdeal.Run.lean ====
/- The whole run of the program: the pipeline over the grid points, from the tables to the result. -/
module

public import proofs.«01_k».proof.Proof.KernelIdeal.Body
public import proofs.«01_k».proof.Proof.KernelIdeal.Tables
public import Idealize.ShloMosaic.Lib.Pipeline.FrameSuffix
public import Idealize.ShloMosaic.Lib.Pipeline.Value
public import Idealize.ShloMosaic.Lib.Claim

@[expose] public section

set_option pp.maxSteps 300

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The tables as the pipeline finds them. -/
def adm : (pcfg0 (F := F)).Adm := ⟨fun k => V m 0 (pre0.ref k), trivial⟩

/-- Window `w`'s block at point `t`, read off its array as the region finds it. -/
def iblk (c : Dev nD) (w : Fin 5) (t : Fin grid0.N) : (((cfg0 (adm m)).win w).xblock (grid0.coords t)).Idx → Elt F ((cfg0 (adm m)).win w).elt :=
  (((cfg0 (adm m)).win w).blk t).view.read (Elt F) (V m c (Pipeline.arrRef spec0 w))

/-- The blocks the body computes on, at their literal shapes. -/
abbrev iblk0 (c : Dev nD) (t : Fin grid0.N) : Vec F S6144 .f32 := iblk m c 0 t
abbrev iblk1 (c : Dev nD) (t : Fin grid0.N) : Vec F S6144x384 .fp8e5m2 := iblk m c 1 t
abbrev iblk2 (c : Dev nD) (t : Fin grid0.N) : Vec F S1x1x6144 .f32 := iblk m c 2 t
abbrev iblk3 (c : Dev nD) (t : Fin grid0.N) : Vec F S6144x1 .f32 := iblk m c 3 t

/-- The one block of the row scales is the whole of them. -/
theorem iblk3_eq (c : Dev nD) (t : Fin grid0.N) : iblk3 m c t = V m c main_v5 := by
  funext x
  unfold iblk3 iblk
  rw [View.read_apply]
  show V m c main_v5 ((((cfg0 (adm m)).win 3).blk t).view.emb x) = _
  congr 1
  refine idx2_ext ?_ ?_
  · show (cc0_transform_4 (grid0.coords t) 0) * 6144 + 1 * (x 0).val = (x 0).val
    show 0 * 6144 + 1 * (x 0).val = (x 0).val
    omega
  · show 0 * 1 + 1 * (x 1).val = (x 1).val
    omega

/-- The block of the result the point `t` leaves. -/
def oblk (c : Dev nD) (t : Fin grid0.N) : Vec F S384x2560 .f32 :=
  outv (V m c main_v27) (V m c main_v34) (V m c main_v44) (iblk0 m c t) (iblk1 m c t) (iblk2 m c t) (V m c main_v4) (V m c main_v5) (V m c main_v24) t.val

/-- What the body keeps from point to point: the tables and the arrays it copies from itself, its scratch buffers and its semaphores. -/
def inv (c : Dev nD) (first : Prop) : sProp 𝕄 :=
  iprop((((c : Thread nD τ).loc main_v27) ↦{fullShare.right} V m c main_v27) ∗ (((c : Thread nD τ).loc main_v34) ↦{fullShare.right} V m c main_v34)
    ∗ (((c : Thread nD τ).loc main_v44) ↦{fullShare.right} V m c main_v44)
    ∗ (((c : Thread nD τ).loc main_v4) ↦{fullShare} V m c main_v4) ∗ (((c : Thread nD τ).loc main_v24) ↦{fullShare} V m c main_v24)
    ∗ holds c (Memref.whole cc0_scratch0) (fun Y => first ∨ XbUpTo (V m c main_v4) (V m c main_v5) 6144 Y)
    ∗ (∃ f, (Memref.whole cc0_scratch1).view.loc (c : Thread nD τ) ↦[(Memref.whole cc0_scratch1).view.set]{fullShare} f)
    ∗ holds c (Memref.whole cc0_scratch2) (fun _ => True)
    ∗ holds c (Memref.whole cc0_scratch3) (fun Z => first ∨ EmbZero Z)
    ∗ holds c (Memref.whole cc0_scratch4) (fun _ => True)
    ∗ (∃ f, (Memref.whole cc0_scratch5).view.loc (c : Thread nD τ) ↦[(Memref.whole cc0_scratch5).view.set]{fullShare} f)
    ∗ semVal ((c : Thread nD τ), SemLoc.dma cc0_scratch6.sem) 0 ∗ semVal ((c : Thread nD τ), SemLoc.dma cc0_scratch7.sem) 0
    ∗ ∃ r, prngReg c r)

/-- The proof data of the pipeline. -/
def dats (_ : Fin 1) (c : Dev nD) : Dat τ (Elt F) Unit ℕ (Pipeline.UD sig nD τ) ℕ (cfg0 (adm m)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ t := inv m c (t.val = 0)
  q _ := fullShare
  owed _ := 0

theorem A_eq (c : Dev nD) (w : Fin 5) : (dats m 0 c).A w = V m c (Pipeline.arrRef spec0 w) := by
  dsimp only [dats]

theorem after0_0 (c : Dev nD) (t : Fin grid0.N) : (dats m 0 c).after 0 t = iblk m c 0 t := by dsimp only [dats]; rfl
theorem after0_1 (c : Dev nD) (t : Fin grid0.N) : (dats m 0 c).after 1 t = iblk m c 1 t := by dsimp only [dats]; rfl
theorem after0_2 (c : Dev nD) (t : Fin grid0.N) : (dats m 0 c).after 2 t = iblk m c 2 t := by dsimp only [dats]; rfl
theorem after0_3 (c : Dev nD) (t : Fin grid0.N) : (dats m 0 c).after 3 t = iblk m c 3 t := by dsimp only [dats]; rfl
theorem after0_4 (c : Dev nD) (t : Fin grid0.N) : (dats m 0 c).after 4 t = oblk m c t := by dsimp only [dats]; rfl

/-- An input's staging buffer holds its block at every point. -/
theorem before0_0 (c : Dev nD) (t : Fin grid0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin grid0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin grid0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin grid0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- The staging buffers of point `t`. -/
abbrev st0 (t : Fin grid0.N) (w : Fin 5) := ((cfg0 (adm m)).win w).stage ((cfg0 (adm m)).slots t w)

/-- The only grid coordinate of point `t` is `t`. -/
theorem coord_val (t : Fin grid0.N) : ((grid0.coords t) 0).val = t.val := by
  rw [Pipeline.Grid.coords_val t 0 (S := 1) (B := 131) (by decide) rfl]
  have h : t.val < 131 := lt_of_lt_of_eq t.isLt N_0
  omega

/-- The first point is the one at coordinate zero. -/
theorem cond1_iff (t : Fin grid0.N) : k0_cond1 (grid0.coords t) = 1#1 ↔ t.val = 0 := by
  have e : k0_cond1 (grid0.coords t) = Scalar.cmpi .ne (Scalar.extui (Scalar.cmpi .eq (BitVec.ofNat 32 ((grid0.coords t) 0).val) 0#32) : BitVec 32) 0#32 := rfl
  rw [e, coord_val]
  have hlt : t.val < 131 := lt_of_lt_of_eq t.isLt N_0
  generalize t.val = n at hlt ⊢
  revert n
  decide +kernel

/-- The tables are the ones the kernel's loops rely on. -/
theorem tabV (c : Dev nD) : TabOK ((Memref.whole main_v27).view.read (Elt F) (V m c main_v27)) ((Memref.whole main_v34).view.read (Elt F) (V m c main_v34))
    ((Memref.whole main_v44).view.read (Elt F) (V m c main_v44)) := by
  have h : TabOK (V m c main_v27) (V m c main_v34) (V m c main_v44) := by
    rw [V_27, V_34, V_44]; exact tabOK _
  exact h

-- from here on the host lines are not to be opened
attribute [local irreducible] V

/-- What the body is called with at point `t`, -/
def bodyPre (c : Dev nD) (t : Fin grid0.N) : sProp 𝕄 :=
  iprop((dats m 0 c).Φ t.castSucc ∗ (dats m 0 c).owesAt () t.castSucc
    ∗ (∃ d, owns (c : Thread nD τ) (st0 m t 0) fullShare ((dats m 0 c).before 0 t d))
    ∗ (∃ d, owns (c : Thread nD τ) (st0 m t 1) fullShare ((dats m 0 c).before 1 t d))
    ∗ (∃ d, owns (c : Thread nD τ) (st0 m t 2) fullShare ((dats m 0 c).before 2 t d))
    ∗ (∃ d, owns (c : Thread nD τ) (st0 m t 3) fullShare ((dats m 0 c).before 3 t d))
    ∗ (∃ d, owns (c : Thread nD τ) (st0 m t 4) fullShare ((dats m 0 c).before 4 t d)))

/-- and what it returns. -/
def bodyPost (c : Dev nD) (t : Fin grid0.N) : sProp 𝕄 :=
  iprop((dats m 0 c).Φ t.succ ∗ (dats m 0 c).owesAt () t.succ
    ∗ owns (c : Thread nD τ) (st0 m t 0) fullShare ((dats m 0 c).after 0 t)
    ∗ owns (c : Thread nD τ) (st0 m t 1) fullShare ((dats m 0 c).after 1 t)
    ∗ owns (c : Thread nD τ) (st0 m t 2) fullShare ((dats m 0 c).after 2 t)
    ∗ owns (c : Thread nD τ) (st0 m t 3) fullShare ((dats m 0 c).after 3 t)
    ∗ owns (c : Thread nD τ) (st0 m t 4) fullShare ((dats m 0 c).after 4 t))

/-- The body's program at point `t`. -/
abbrev bodyAt (t : Fin grid0.N) := (defs₀ (F := F)) .tc (cfg0 (adm m)).body ((cfg0 (adm m)).bodyArgs t ((cfg0 (adm m)).slots t))

set_option maxHeartbeats 1000000 in
/-- The body at any point, from `point_run`. -/
theorem sound_body (c : Dev nD) (t : Fin grid0.N) :
    bodyPre m c t ⊢ wp frame (wpE (defs₀ (F := F)) Variants.none c none) Set.univ (bodyAt m t) (fun _ => bodyPost m c t) := by
  unfold bodyPre bodyPost bodyAt
  simp only [before0_0, before0_1, before0_2, before0_3]
  rw [after0_0, after0_1, after0_2, after0_3, after0_4]
  unfold defs₀
  rw [Defs.onTc_tc]
  dsimp only [dats]
  unfold inv owns Dat.owesAt Pipeline.owesWithin
  iintro ⟨⟨H27, H34, H44, H4, H24, S0, S1, S2, S3, S4, S5, D6, D7, HP⟩, ⟨%W, -, HW⟩, ⟨%d0, %f0, %h0, W0⟩, ⟨%d1, %f1, %h1, W1⟩, ⟨%d2, %f2, %h2, W2⟩, ⟨%d3, %f3, %h3, W3⟩, ⟨%d4, %f4, -, W4⟩⟩
  have h3' : (spec0_3.stage ((cfg0 (adm m)).slots t 3)).view.read (Elt F) f3 = V m c main_v5 := h3.trans (iblk3_eq m c t)
  have h0' : (spec0_0.stage ((cfg0 (adm m)).slots t 0)).view.read (Elt F) f0 = iblk0 m c t := h0
  have h1' : (spec0_1.stage ((cfg0 (adm m)).slots t 1)).view.read (Elt F) f1 = iblk1 m c t := h1
  have h2' : (spec0_2.stage ((cfg0 (adm m)).slots t 2)).view.read (Elt F) f2 = iblk2 m c t := h2
  iapply (wp_wand_r frame _ Set.univ)
  isplitl [H27 H34 H44 H4 H24 S0 S1 S2 S3 S4 S5 D6 D7 HW W0 W1 W2 W3 W4]
  · iapply (point_run (arg1 := Memref.whole main_v27) (harg1 := Memref.isWhole_whole _) (arg2 := Memref.whole main_v34) (harg2 := Memref.isWhole_whole _)
      (arg3 := Memref.whole main_v44) (harg3 := Memref.isWhole_whole _) (arg4 := spec0_0.stage ((cfg0 (adm m)).slots t 0)) (arg5 := spec0_1.stage ((cfg0 (adm m)).slots t 1))
      (arg6 := spec0_2.stage ((cfg0 (adm m)).slots t 2)) (arg7 := Memref.whole main_v4) (harg7 := Memref.isWhole_whole _) (arg8 := spec0_3.stage ((cfg0 (adm m)).slots t 3))
      (arg9 := Memref.whole main_v24) (harg9 := Memref.isWhole_whole _) (arg10 := spec0_4.stage ((cfg0 (adm m)).slots t 4))
      (arg11 := Memref.whole cc0_scratch0) (harg11 := Memref.isWhole_whole _) (arg12 := Memref.whole cc0_scratch1) (harg12 := Memref.isWhole_whole _)
      (arg13 := Memref.whole cc0_scratch2) (harg13 := Memref.isWhole_whole _) (arg14 := Memref.whole cc0_scratch3) (harg14 := Memref.isWhole_whole _)
      (arg15 := Memref.whole cc0_scratch4) (harg15 := Memref.isWhole_whole _) (arg16 := Memref.whole cc0_scratch5) (harg16 := Memref.isWhole_whole _)
      (arg17 := cc0_scratch6) (arg18 := cc0_scratch7)
      Variants.none c none (grid0.coords t) fullShare.right (V m c main_v27) (V m c main_v34) (V m c main_v44) f0 f1 f2 (V m c main_v4) f3 (V m c main_v24) (tabV m c))
    unfold rest ready
    isplitl [H27 H34 H44 W0 W1 W2 H24 S2 S4 D7]
    · isplitl [H27]; · iexact H27
      isplitl [H34]; · iexact H34
      isplitl [H44]; · iexact H44
      isplitl [W0]; · iexact W0
      isplitl [W1]; · iexact W1
      isplitl [W2]; · iexact W2
      isplitl [H24]; · iexact H24
      isplitl [S2]; · iexact S2
      isplitl [S4]; · iexact S4
      iexact D7
    isplitl [H4 W3 S0 S1 S3 S5 D6 HW]
    · isplitl [H4]; · iexact H4
      isplitl [W3]; · iexact W3
      isplitl [S0]
      · unfold holds
        icases S0 with ⟨%g, S0, %hg⟩
        iexists g
        isplitl [S0]; · iexact S0
        ipureintro
        exact hg.imp (cond1_iff t).2 (fun h => by rw [h3']; exact h)
      isplitl [S1]; · iexact S1
      isplitl [S3]
      · unfold holds
        icases S3 with ⟨%g, S3, %hg⟩
        iexists g
        isplitl [S3]; · iexact S3
        ipureintro
        exact hg.imp (cond1_iff t).2 id
      isplitl [S5]; · iexact S5
      isplitl [D6]; · iexact D6
      iexists W
      iexact HW
    · unfold holds
      iexists f4
      isplitl [W4]; · iexact W4
      ipureintro
      trivial
  unfold rest ready
  iintro %u ⟨⟨H27, H34, H44, W0, W1, W2, H24, S2, S4, D7⟩, ⟨H4, W3, S0, S1, S3, S5, D6, ⟨%W', HW⟩⟩, HO⟩
  isplitl [H27 H34 H44 H4 H24 S0 S1 S2 S3 S4 S5 D6 D7 HP]
  · isplitl [H27]; · iexact H27
    isplitl [H34]; · iexact H34
    isplitl [H44]; · iexact H44
    isplitl [H4]; · iexact H4
    isplitl [H24]; · iexact H24
    isplitl [S0]
    · unfold holds
      icases S0 with ⟨%g, S0, %hg⟩
      iexists g
      isplitl [S0]; · iexact S0
      ipureintro
      exact Or.inr (by have h := hg.resolve_left id; rw [h3'] at h; exact h)
    isplitl [S1]; · iexact S1
    isplitl [S2]; · iexact S2
    isplitl [S3]
    · unfold holds
      icases S3 with ⟨%g, S3, %hg⟩
      iexists g
      isplitl [S3]; · iexact S3
      ipureintro
      exact Or.inr (hg.resolve_left id)
    isplitl [S4]; · iexact S4
    isplitl [S5]; · iexact S5
    isplitl [D6]; · iexact D6
    isplitl [D7]; · iexact D7
    iexact HP
  isplitl [HW]
  · iexists W'
    isplitr
    · ipureintro
      exact fun _ _ => Or.inl trivial
    · iexact HW
  isplitl [W0]
  · iexists f0; isplitr; · ipureintro; exact h0
    iexact W0
  isplitl [W1]
  · iexists f1; isplitr; · ipureintro; exact h1
    iexact W1
  isplitl [W2]
  · iexists f2; isplitr; · ipureintro; exact h2
    iexact W2
  isplitl [W3]
  · iexists f3; isplitr; · ipureintro; exact h3
    iexact W3
  unfold holds
  icases HO with ⟨%g, HO, %hg⟩
  iexists g
  isplitr
  · ipureintro
    rw [h0', h1', h2', h3', coord_val] at hg
    exact hg
  iexact HO

end Cert.KernelIdeal.Hand

end
-- ==== Proof.KernelIdeal.Whole.lean ====
/- The launch of the program: every run ends, leaves its arguments alone and its result as the grid points left it. -/
module

public import proofs.«01_k».proof.Proof.KernelIdeal.Run

@[expose] public section

set_option pp.maxSteps 300

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline

variable {F : FTy → Type} [FloatOps F]

/-- The proof's resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-- The semaphores the kernel waits on for its own copies. -/
abbrev osem0 : Fin 2 → SemLoc sig := fun j => (![.dma cc0_scratch6.sem, .dma cc0_scratch7.sem]) j
theorem ownSemFacts0 : Pipeline.OwnSemFacts spec0 osem0 := by decide

/-- The arrays the kernel copies from itself. -/
abbrev H0 : Finset (Ref sig .tc) := {main_v4, main_v24}
theorem H0_sub : H0 ⊆ Pipeline.restRefsP sig pre0 spec0 := by decide

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program is its host lines, then the pipeline. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host line writes argument 0. -/
theorem V_main_arg0 (c : Dev nD) : V m c main_arg0 = m ((c : Thread nD τ).loc main_arg0) := by
  unfold V
  simp only [List.flatten_cons, List.flatten_nil, List.append_nil, List.cons_append, List.nil_append]
  after_reads_simp
/-- No host line writes argument 1. -/
theorem V_main_arg1 (c : Dev nD) : V m c main_arg1 = m ((c : Thread nD τ).loc main_arg1) := by
  unfold V
  simp only [List.flatten_cons, List.flatten_nil, List.append_nil, List.cons_append, List.nil_append]
  after_reads_simp
/-- No host line writes argument 2. -/
theorem V_main_arg2 (c : Dev nD) : V m c main_arg2 = m ((c : Thread nD τ).loc main_arg2) := by
  unfold V
  simp only [List.flatten_cons, List.flatten_nil, List.append_nil, List.cons_append, List.nil_append]
  after_reads_simp
/-- No host line writes argument 3. -/
theorem V_main_arg3 (c : Dev nD) : V m c main_arg3 = m ((c : Thread nD τ).loc main_arg3) := by
  unfold V
  simp only [List.flatten_cons, List.flatten_nil, List.append_nil, List.cons_append, List.nil_append]
  after_reads_simp
/-- No host line writes argument 4. -/
theorem V_main_arg4 (c : Dev nD) : V m c main_arg4 = m ((c : Thread nD τ).loc main_arg4) := by
  unfold V
  simp only [List.flatten_cons, List.flatten_nil, List.append_nil, List.cons_append, List.nil_append]
  after_reads_simp
/-- No host line writes argument 5. -/
theorem V_main_arg5 (c : Dev nD) : V m c main_arg5 = m ((c : Thread nD τ).loc main_arg5) := by
  unfold V
  simp only [List.flatten_cons, List.flatten_nil, List.append_nil, List.cons_append, List.nil_append]
  after_reads_simp
/-- No host line writes argument 6. -/
theorem V_main_arg6 (c : Dev nD) : V m c main_arg6 = m ((c : Thread nD τ).loc main_arg6) := by
  unfold V
  simp only [List.flatten_cons, List.flatten_nil, List.append_nil, List.cons_append, List.nil_append]
  after_reads_simp

-- from here on the host lines are not to be opened
attribute [local irreducible] V

theorem V_pre (c : Dev nD) : ∀ k, V m c (pre0.ref k) = (adm m).1 k := by
  intro k
  have h : c = 0 := Subsingleton.elim _ _
  subst h; rfl

theorem whole_pts (c : Dev nD) (b : Ref sig .tc) (q : PosShare TreeShare) (f : Buf (Elt F) ((c : Thread nD τ).loc b)) :
    ((((c : Thread nD τ).loc b) ↦{q} f) : sProp 𝕄) = ((Memref.whole b).view.loc (c : Thread nD τ) ↦[(Memref.whole b).view.set]{q} f) := by
  show _ = (((c : Thread nD τ).loc b) ↦[(View.whole b).set]{q} f)
  rw [View.set_whole]

theorem osems_eq (c : Dev nD) : (Pipeline.ownSems0 osem0 c : sProp 𝕄)
    = iprop(semVal ((c : Thread nD τ), SemLoc.dma cc0_scratch6.sem) 0 ∗ semVal ((c : Thread nD τ), SemLoc.dma cc0_scratch7.sem) 0) := by
  rw [Pipeline.ownSems0_eq_of_list c osem0 [0, 1] (by decide) (by decide)]; rfl

theorem hbm_eq (c : Dev nD) : (bigSep H0 (fun b => (((c : Thread nD τ).loc b) ↦{fullShare} V m c b)) : sProp 𝕄)
    = iprop((((c : Thread nD τ).loc main_v4) ↦{fullShare} V m c main_v4) ∗ (((c : Thread nD τ).loc main_v24) ↦{fullShare} V m c main_v24)) := by
  rw [BI.bigSep_eq_bigSepL_of_eq [main_v4, main_v24] (by decide) (by decide)]; rfl

theorem tabs_eq (c : Dev nD) : (Pipeline.ΦT pre0 (adm m).1 c : sProp 𝕄)
    = iprop((((c : Thread nD τ).loc main_v27) ↦{fullShare.right} V m c main_v27) ∗ (((c : Thread nD τ).loc main_v34) ↦{fullShare.right} V m c main_v34)
        ∗ (((c : Thread nD τ).loc main_v44) ↦{fullShare.right} V m c main_v44)) := by
  have h : c = 0 := Subsingleton.elim _ _
  subst h
  unfold Pipeline.ΦT Pipeline.prefHeld
  rw [bigSep_univ_eq_bigSepL [(0 : Fin 3), (1 : Fin 3), (2 : Fin 3)] (by decide) (by decide)]
  rfl

theorem hin (c : Dev nD) : iprop(Pipeline.ΦD osem0 spec0 H0 (V m) c ∗ Pipeline.ΦT pre0 (adm m).1 c) ⊢ (dats m 0 c).Φ 0 := by
  unfold Pipeline.ΦD
  rw [scopedRest0_eq, osems_eq, hbm_eq, tabs_eq]
  dsimp only [dats]
  unfold inv holds
  iintro ⟨⟨⟨⟨%g0, S0⟩, ⟨%g1, S1⟩, ⟨%g2, S2⟩, ⟨%g3, S3⟩, ⟨%g4, S4⟩, ⟨%g5, S5⟩⟩, HP, ⟨D6, D7⟩, ⟨H4, H24⟩⟩, ⟨H27, H34, H44⟩⟩
  isplitl [H27]; · iexact H27
  isplitl [H34]; · iexact H34
  isplitl [H44]; · iexact H44
  isplitl [H4]; · iexact H4
  isplitl [H24]; · iexact H24
  isplitl [S0]
  · iexists g0
    rw [← whole_pts]
    isplitl [S0]; · iexact S0
    ipureintro; exact Or.inl rfl
  isplitl [S1]
  · iexists g1; rw [← whole_pts]; iexact S1
  isplitl [S2]
  · iexists g2
    rw [← whole_pts]
    isplitl [S2]; · iexact S2
    ipureintro; trivial
  isplitl [S3]
  · iexists g3
    rw [← whole_pts]
    isplitl [S3]; · iexact S3
    ipureintro; exact Or.inl rfl
  isplitl [S4]
  · iexists g4
    rw [← whole_pts]
    isplitl [S4]; · iexact S4
    ipureintro; trivial
  isplitl [S5]
  · iexists g5; rw [← whole_pts]; iexact S5
  isplitl [D6]; · iexact D6
  isplitl [D7]; · iexact D7
  iexact HP

theorem hout (c : Dev nD) : (dats m 0 c).Φ (Fin.last (cfg0 (adm m)).N) ⊢ Pipeline.ΦD osem0 spec0 H0 (V m) c := by
  unfold Pipeline.ΦD
  rw [scopedRest0_eq, osems_eq, hbm_eq]
  dsimp only [dats]
  unfold inv holds
  iintro ⟨H27, H34, H44, H4, H24, ⟨%g0, S0, -⟩, ⟨%g1, S1⟩, ⟨%g2, S2, -⟩, ⟨%g3, S3, -⟩, ⟨%g4, S4, -⟩, ⟨%g5, S5⟩, D6, D7, HP⟩
  isplitl [S0 S1 S2 S3 S4 S5]
  · isplitl [S0]; · iexists g0; rw [whole_pts c cc0_scratch0]; iexact S0
    isplitl [S1]; · iexists g1; rw [whole_pts c cc0_scratch1]; iexact S1
    isplitl [S2]; · iexists g2; rw [whole_pts c cc0_scratch2]; iexact S2
    isplitl [S3]; · iexists g3; rw [whole_pts c cc0_scratch3]; iexact S3
    isplitl [S4]; · iexists g4; rw [whole_pts c cc0_scratch4]; iexact S4
    iexists g5; rw [whole_pts c cc0_scratch5]; iexact S5
  isplitl [HP]; · iexact HP
  isplitl [D6 D7]
  · isplitl [D6]; · iexact D6
    iexact D7
  isplitl [H4]; · iexact H4
  iexact H24

set_option backward.isDefEq.respectTransparency.types false in
set_option maxHeartbeats 1600000 in
/-- The run: it ends, with the arrays as the pipeline left them, every other buffer as the host lines left it, and every semaphore at zero. -/
theorem run_main : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c).loose) (hshare := fun c => (dats m 0 c).share_full fun _ => rfl) (howed := fun _ _ => rfl)
    (V := V m) (hmain := hmain m Variants.none) (hA := A_eq m) (hpf := V_pre m) (hin := hin m) (hout := hout m)

theorem mem_arg0 : main_arg0 ∈ Pipeline.restRefs sig spec0 := Pipeline.mem_restRefs_of main_arg0 (by decide) (by decide)
theorem mem_arg1 : main_arg1 ∈ Pipeline.restRefs sig spec0 := Pipeline.mem_restRefs_of main_arg1 (by decide) (by decide)
theorem mem_arg2 : main_arg2 ∈ Pipeline.restRefs sig spec0 := Pipeline.mem_restRefs_of main_arg2 (by decide) (by decide)
theorem mem_arg3 : main_arg3 ∈ Pipeline.restRefs sig spec0 := Pipeline.mem_restRefs_of main_arg3 (by decide) (by decide)
theorem mem_arg4 : main_arg4 ∈ Pipeline.restRefs sig spec0 := Pipeline.mem_restRefs_of main_arg4 (by decide) (by decide)
theorem mem_arg5 : main_arg5 ∈ Pipeline.restRefs sig spec0 := Pipeline.mem_restRefs_of main_arg5 (by decide) (by decide)
theorem mem_arg6 : main_arg6 ∈ Pipeline.restRefs sig spec0 := Pipeline.mem_restRefs_of main_arg6 (by decide) (by decide)

/-- The argument arrays end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 mem_arg0).trans (V_main_arg0 m c),
      ((h.1 c).2 main_arg1 mem_arg1).trans (V_main_arg1 m c),
      ((h.1 c).2 main_arg2 mem_arg2).trans (V_main_arg2 m c),
      ((h.1 c).2 main_arg3 mem_arg3).trans (V_main_arg3 m c),
      ((h.1 c).2 main_arg4 mem_arg4).trans (V_main_arg4 m c),
      ((h.1 c).2 main_arg5 mem_arg5).trans (V_main_arg5 m c),
      ((h.1 c).2 main_arg6 mem_arg6).trans (V_main_arg6 m c)⟩, h.2⟩) (run_main m ρ)

end Cert.KernelIdeal.Hand

end
-- ==== Proof.Spec.lean ====
/- The result both programs compute, in closed form. -/
module

public import Idealize.ShloMosaic.PureOps.Ideal
public import Idealize.ShloMosaic.Lib.Pointwise

@[expose] public section

noncomputable section

namespace Cert.Spec

open Idealize.ShloMosaic

/-- Row `R`, column `d` of the result: the contraction over the tokens of the two dequantized factors, plus the sum of the
    dequantized rows of those tokens whose identifier is `R`. -/
def val (A0 : (⟨2, ![6144, 50304]⟩ : Shape).Idx → EReal) (A1 : (⟨2, ![6144, 131]⟩ : Shape).Idx → EReal)
    (A2 : (⟨2, ![6144, 2560]⟩ : Shape).Idx → EReal) (A3 : (⟨2, ![6144, 1]⟩ : Shape).Idx → EReal)
    (A4 : (⟨2, ![6144, 2560]⟩ : Shape).Idx → BitVec 8) (A5 : (⟨2, ![6144, 1]⟩ : Shape).Idx → EReal)
    (I : (⟨1, ![6144]⟩ : Shape).Idx → BitVec 32) (R : Fin 50304) (d : Fin 2560) : EReal :=
  (∑ t : Fin 6144, A0 (ix2 t R) * A1 (ix2 t ⟨R.val / 384, by omega⟩) * (A2 (ix2 t d) * A3 (ix2 t 0)))
    + ∑ t : Fin 6144, if (I (ix1 t)).toInt = (R.val : ℤ) then Ideal.ofBits .fp8e5m2 (A4 (ix2 t d)) * A5 (ix2 t 0) else 0

end Cert.Spec

end
-- ==== Proof.KernelIdeal.Sums.lean ====
/- The gathered rows of a block as a sum over the tokens, over the extended reals. -/
module

public import proofs.«01_k».proof.Proof.KernelIdeal.Tables
public import proofs.«01_k».proof.Proof.KernelIdeal.Body

@[expose] public section

set_option pp.maxSteps 300

noncomputable section

namespace Cert.KernelIdeal.Hand

open Cert.KernelIdeal Cert.KernelIdeal.Gen
open Idealize.ShloMosaic Idealize.ShloMosaic.TcCoe Idealize.ShloMosaic.Tactic

/-- What token `t` contributes at column `d`. -/
def tokv (ESC : S6144.Idx → Elt Ideal .f32) (EW : S1536x2560.Idx → BitVec 32) (t : Fin 6144) (d : Fin 2560) : EReal :=
  (decByte (F := Ideal) (byteOf (EW (ix2 ⟨t.val / 4, by omega⟩ d)) (BitVec.ofNat 32 t.val)) : EReal) * (ESC (ix1 t) : EReal)

/-- The running sum is the sum of the positions whose row is met. -/
theorem accv_eq_sum (O S : S6144.Idx → BitVec 32) (ESC : S6144.Idx → Elt Ideal .f32) (EW : S1536x2560.Idx → BitVec 32) (A cb : ℕ) (r : Fin 384) (d : Fin 2560) (n : ℕ) :
    (accv (F := Ideal) O S ESC EW A cb r d n : EReal)
      = ∑ k ∈ Finset.range n, if (at1 (F := Ideal) (e := .i32) S (A + k) : BitVec 32).toNat - 384 * cb = r.val then (termv (F := Ideal) O ESC EW (A + k) d : EReal) else 0 := by
  induction n with
  | zero => exact Ideal.ofBits_zero_f32
  | succ n ih =>
    rw [Finset.sum_range_succ, ← ih]
    have hs : (accv (F := Ideal) O S ESC EW A cb r d (n + 1) : EReal)
        = if (at1 (F := Ideal) (e := .i32) S (A + n) : BitVec 32).toNat - 384 * cb = r.val then
            (accv (F := Ideal) O S ESC EW A cb r d n : EReal) + (termv (F := Ideal) O ESC EW (A + n) d : EReal)
          else (accv (F := Ideal) O S ESC EW A cb r d n : EReal) := rfl
    rw [hs]
    split
    · rfl
    · exact (add_zero _).symm

/-- The token at a sorted position contributes what the position does. -/
theorem termv_ordT (ids : S6144.Idx → BitVec 32) (ESC : S6144.Idx → Elt Ideal .f32) (EW : S1536x2560.Idx → BitVec 32) (j : ℕ) (d : Fin 2560) :
    (termv (F := Ideal) (ordT ids) ESC EW j d : EReal) = tokv ESC EW (perm ids ⟨min j 6143, by omega⟩) d := by
  have e : at1 (F := Ideal) (e := .i32) (ordT ids) j = BitVec.ofNat 32 (perm ids ⟨min j 6143, by omega⟩).val := rfl
  unfold termv tokv
  rw [e]
  generalize perm ids ⟨min j 6143, by omega⟩ = p
  have hp := p.isLt
  have e2 : (BitVec.ofNat 32 p.val).toNat = p.val := by rw [BitVec.toNat_ofNat, Nat.mod_eq_of_lt (by omega)]
  rw [e2]
  have e3 : at1 (F := Ideal) (e := .f32) ESC p.val = ESC (ix1 p) := congrArg (fun q : Fin 6144 => ESC (ix1 q)) (Fin.ext (by show min p.val 6143 = p.val; omega))
  have e4 : ewAt EW p.val d = EW (ix2 ⟨p.val / 4, by omega⟩ d) := congrArg (fun q : Fin 1536 => EW (ix2 q d)) (Fin.ext (by show min (p.val / 4) 1535 = p.val / 4; omega))
  rw [e3, e4]
  rfl

/-- A block's gathered row: the tokens whose id is the row, added up. -/
theorem accv_total (ids : S6144.Idx → BitVec 32) (ESC : S6144.Idx → Elt Ideal .f32) (EW : S1536x2560.Idx → BitVec 32) (cb : ℕ) (r : Fin 384) (d : Fin 2560) :
    (accv (F := Ideal) (ordT ids) (sidT ids) ESC EW (cnt ids cb) cb r d (cnt ids (cb + 1) - cnt ids cb) : EReal)
      = ∑ t : Fin 6144, if (ids (ix1 t)).toInt = 384 * (cb : ℤ) + r.val then tokv ESC EW t d else 0 := by
  rw [accv_eq_sum]
  have hB := cnt_le ids (cb + 1)
  have hr := r.isLt
  let H : ℕ → EReal := fun j => if (ids (ix1 (perm ids ⟨min j 6143, by omega⟩))).toInt = 384 * (cb : ℤ) + r.val then tokv ESC EW (perm ids ⟨min j 6143, by omega⟩) d else 0
  have h1 : (∑ t : Fin 6144, if (ids (ix1 t)).toInt = 384 * (cb : ℤ) + r.val then tokv ESC EW t d else 0) = ∑ k : Fin 6144, H k.val := by
    rw [← (perm_bijective ids).sum_comp fun t : Fin 6144 => if (ids (ix1 t)).toInt = 384 * (cb : ℤ) + r.val then tokv ESC EW t d else 0]
    refine Finset.sum_congr rfl fun k _ => ?_
    have : (⟨min k.val 6143, by omega⟩ : Fin 6144) = k := Fin.ext (by have := k.isLt; show min k.val 6143 = k.val; omega)
    show _ = if (ids (ix1 (perm ids ⟨min k.val 6143, by omega⟩))).toInt = _ then tokv ESC EW (perm ids ⟨min k.val 6143, by omega⟩) d else 0
    rw [this]
  rw [h1, Fin.sum_univ_eq_sum_range H 6144]
  have h2 : (∑ j ∈ Finset.range 6144, H j) = ∑ j ∈ Finset.Ico (cnt ids cb) (cnt ids (cb + 1)), H j := by
    symm
    refine Finset.sum_subset (fun j hj => ?_) fun j hj hn => ?_
    · rw [Finset.mem_Ico] at hj; rw [Finset.mem_range]; omega
    · rw [Finset.mem_range] at hj
      refine if_neg fun he => hn ?_
      have ej : (⟨min j 6143, by omega⟩ : Fin 6144) = ⟨j, hj⟩ := Fin.ext (by show min j 6143 = j; omega)
      rw [ej] at he
      have a1 := lt_cnt_iff ids cb ⟨j, hj⟩
      have a2 := lt_cnt_iff ids (cb + 1) ⟨j, hj⟩
      rw [he] at a1 a2
      push_cast at a2
      rw [Finset.mem_Ico]
      refine ⟨not_lt.mp fun h => ?_, a2.mpr (by omega)⟩
      have := a1.mp h
      omega
  rw [h2, Finset.sum_Ico_eq_sum_range]
  refine Finset.sum_congr rfl fun k hk => ?_
  rw [Finset.mem_range] at hk
  have hj : cnt ids cb + k < 6144 := by omega
  show _ = if (ids (ix1 (perm ids ⟨min (cnt ids cb + k) 6143, by omega⟩))).toInt = _ then tokv ESC EW (perm ids ⟨min (cnt ids cb + k) 6143, by omega⟩) d else 0
  rw [termv_ordT]
  have es : (at1 (F := Ideal) (e := .i32) (sidT ids) (cnt ids cb + k) : BitVec 32) = ids (ix1 (perm ids ⟨min (cnt ids cb + k) 6143, by omega⟩)) := rfl
  rw [es]
  have ej : (⟨min (cnt ids cb + k) 6143, by omega⟩ : Fin 6144) = ⟨cnt ids cb + k, hj⟩ := Fin.ext (by show min (cnt ids cb + k) 6143 = cnt ids cb + k; omega)
  rw [ej]
  have a1 := lt_cnt_iff ids cb ⟨_, hj⟩
  have a2 := lt_cnt_iff ids (cb + 1) ⟨_, hj⟩
  push_cast at a2
  generalize ids (ix1 (perm ids ⟨cnt ids cb + k, hj⟩)) = x at a1 a2 ⊢
  have b1 : ¬ x.toInt < 384 * (cb : ℤ) := fun h => by have := a1.mpr h; simp at this
  have b2 : x.toInt < 384 * ((cb : ℤ) + 1) := a2.mp (by show cnt ids cb + k < _; omega)
  have b3 : x.toInt = x.toNat := by
    have := x.isLt
    rw [BitVec.toInt_eq_toNat_cond] at b1 b2 ⊢
    split <;> rename_i hh
    · rfl
    · rw [if_neg hh] at b1
      omega
  rw [b3] at b1 b2 ⊢
  have : (x.toNat - 384 * cb = r.val) ↔ ((x.toNat : ℤ) = 384 * (cb : ℤ) + r.val) := by omega
  exact if_congr this rfl rfl

end Cert.KernelIdeal.Hand
-- ==== Proof.KernelIdeal.Decode.lean ====
/- What the kernel's integer decoding of a byte denotes over the extended reals: the value of the 8-bit float the byte spells. -/
module

public import proofs.«01_k».proof.Proof.KernelIdeal.LoopT6
public import Idealize.ShloMosaic.Lib.IdealHost

@[expose] public section

set_option pp.maxSteps 300

noncomputable section

namespace Cert.KernelIdeal.Hand

open Cert.KernelIdeal Cert.KernelIdeal.Gen
open Idealize.ShloMosaic Idealize.ShloMosaic.TcCoe Idealize.ShloMosaic.Tactic

/-- The word the decoding builds for a code that is not below the smallest normal one. -/
abbrev wordOf (b : BitVec 32) : BitVec 32 :=
  IntOp.ori (IntOp.addi (IntOp.shli .vector (IntOp.andi b 127#32) 21#32) (Scalar.select (IntOp.cmpi .sge (IntOp.andi b 127#32) 124#32) 1879048192#32 939524096#32)) (IntOp.shli .vector (IntOp.andi b 128#32) 24#32)

/-- The comparisons, the small magnitude and the word's fields, byte by byte. -/
theorem byteFacts : ∀ n : Fin 256,
    (IntOp.cmpi .slt (IntOp.andi ((BitVec.ofFin n : BitVec 8).setWidth 32) 127#32) 4#32 = if ((BitVec.ofFin n : BitVec 8).extractLsb' 2 5).toNat = 0 then 1#1 else 0#1)
    ∧ (IntOp.cmpi .ne (IntOp.andi ((BitVec.ofFin n : BitVec 8).setWidth 32) 128#32) 0#32 = if (BitVec.ofFin n : BitVec 8).extractLsb' 7 1 == 1#1 then 1#1 else 0#1)
    ∧ (((BitVec.ofFin n : BitVec 8).extractLsb' 2 5).toNat = 0 → (IntOp.andi ((BitVec.ofFin n : BitVec 8).setWidth 32) 127#32).toInt = (((BitVec.ofFin n : BitVec 8).extractLsb' 0 2).toNat : ℤ))
    ∧ (((BitVec.ofFin n : BitVec 8).extractLsb' 2 5).toNat ≠ 0 →
        ((wordOf ((BitVec.ofFin n : BitVec 8).setWidth 32)).extractLsb' 31 1 == 1#1) = ((BitVec.ofFin n : BitVec 8).extractLsb' 7 1 == 1#1)
        ∧ ((wordOf ((BitVec.ofFin n : BitVec 8).setWidth 32)).extractLsb' 23 8).toNat
            = (if ((BitVec.ofFin n : BitVec 8).extractLsb' 2 5).toNat = 31 then 255 else ((BitVec.ofFin n : BitVec 8).extractLsb' 2 5).toNat + 112)
        ∧ ((wordOf ((BitVec.ofFin n : BitVec 8).setWidth 32)).extractLsb' 0 23).toNat = ((BitVec.ofFin n : BitVec 8).extractLsb' 0 2).toNat * 2 ^ 21) := by
  decide +kernel

/-- The scale of the subnormal codes is `2 ^ -16`. -/
theorem ofBits_tiny : Ideal.ofBits .f32 0x37800000#32 = (((2 : ℝ) ^ (-16 : ℤ) : ℝ) : EReal) := by
  simp [Ideal.ofBits, Ideal.ieee, -EReal.coe_mul]
  norm_num

/-- The decoding gives the value the byte denotes as an 8-bit float. -/
theorem decByte_eq (a : BitVec 8) : decByte (F := Ideal) (a.setWidth 32) = Ideal.ofBits .fp8e5m2 a := by
  obtain ⟨n⟩ := a
  obtain ⟨h1, h2, h3, h4⟩ := byteFacts n
  unfold decByte
  rw [h1, h2]
  change Scalar.select _ (Scalar.select _ _ _) (Ideal.ieee 8 23 (wordOf ((BitVec.ofFin n : BitVec 8).setWidth 32))) = Ideal.ieee 5 2 (BitVec.ofFin n : BitVec 8)
  unfold Ideal.ieee
  simp only [Nat.reduceAdd]
  by_cases hex : ((BitVec.ofFin n : BitVec 8).extractLsb' 2 5).toNat = 0
  · have e3 := h3 hex
    rw [if_pos hex]
    change Scalar.select _ (Ideal.ofBits .f32 0x00000000#32 - (((IntOp.andi ((BitVec.ofFin n : BitVec 8).setWidth 32) 127#32).toInt : ℝ) : EReal) * Ideal.ofBits .f32 0x37800000#32) ((((IntOp.andi ((BitVec.ofFin n : BitVec 8).setWidth 32) 127#32).toInt : ℝ) : EReal) * Ideal.ofBits .f32 0x37800000#32) = _
    rw [e3, ofBits_tiny, Ideal.ofBits_zero_f32, hex]
    generalize ((BitVec.ofFin n : BitVec 8).extractLsb' 7 1 == 1#1) = sg
    generalize ((BitVec.ofFin n : BitVec 8).extractLsb' 0 2).toNat = fr
    cases sg
    · change (((fr : ℤ) : ℝ) : EReal) * (((2 : ℝ) ^ (-16 : ℤ) : ℝ) : EReal) = (((1 : ℝ) * (fr : ℝ) * (2 : ℝ) ^ (1 - (2 ^ 4 - 1) - (2 : ℕ) : ℤ) : ℝ) : EReal)
      rw [← EReal.coe_mul]
      congr 1
      norm_num
    · change (0 : EReal) - (((fr : ℤ) : ℝ) : EReal) * (((2 : ℝ) ^ (-16 : ℤ) : ℝ) : EReal) = (((-1 : ℝ) * (fr : ℝ) * (2 : ℝ) ^ (1 - (2 ^ 4 - 1) - (2 : ℕ) : ℤ) : ℝ) : EReal)
      rw [← EReal.coe_mul, zero_sub, ← EReal.coe_neg]
      congr 1
      norm_num
  · obtain ⟨e1, e2, e3⟩ := h4 hex
    rw [if_neg hex, e1, e2, e3]
    change (if _ then _ else _) = _
    generalize ((BitVec.ofFin n : BitVec 8).extractLsb' 7 1 == 1#1) = sg
    have hfr : ((BitVec.ofFin n : BitVec 8).extractLsb' 0 2).toNat < 4 := ((BitVec.ofFin n : BitVec 8).extractLsb' 0 2).isLt
    generalize ((BitVec.ofFin n : BitVec 8).extractLsb' 0 2).toNat = fr at hfr ⊢
    have hlt : ((BitVec.ofFin n : BitVec 8).extractLsb' 2 5).toNat < 32 := ((BitVec.ofFin n : BitVec 8).extractLsb' 2 5).isLt
    generalize ((BitVec.ofFin n : BitVec 8).extractLsb' 2 5).toNat = ex at hex hlt ⊢
    by_cases h31 : ex = 31
    · subst h31
      simp
    · have i1 : ¬ ex + 112 = 255 := by omega
      have i2 : ¬ ex + 112 = 0 := by omega
      have hz : ((2 : ℝ) ^ (((ex : ℤ) + 112) - 127 - 23)) * 2097152 = (2 : ℝ) ^ ((ex : ℤ) - 15 - 2) := by
        rw [show (2097152 : ℝ) = (2 : ℝ) ^ (21 : ℤ) from by norm_num, ← zpow_add₀ (by norm_num : (2 : ℝ) ≠ 0)]
        congr 1
        ring
      cases sg
      · simp [h31, hex, i1, i2, -EReal.coe_mul]
        rw [← hz]
        ring
      · simp [h31, hex, i1, i2, -EReal.coe_mul]
        rw [← hz]
        ring

/-- Byte `t % 4` of a word packed from four bytes. -/
theorem byteOf_packed (b0 b1 b2 b3 : BitVec 8) (t : ℕ) (ht : t < 6144) :
    byteOf (IntOp.ori (IntOp.ori (IntOp.ori (b0.setWidth 32) (IntOp.shli .vector (b1.setWidth 32) 8#32)) (IntOp.shli .vector (b2.setWidth 32) 16#32))
      (IntOp.shli .vector (b3.setWidth 32) 24#32)) (BitVec.ofNat 32 t) = ((![b0, b1, b2, b3] : Fin 4 → BitVec 8) ⟨t % 4, Nat.mod_lt _ (by decide)⟩).setWidth 32 := by
  have hm : IntOp.andi (BitVec.ofNat 32 t) 3#32 = BitVec.ofNat 32 (t % 4) := by
    apply BitVec.eq_of_toNat_eq
    show (BitVec.ofNat 32 t &&& 3#32).toNat = _
    rw [BitVec.toNat_and, BitVec.toNat_ofNat, BitVec.toNat_ofNat, BitVec.toNat_ofNat, Nat.mod_eq_of_lt (by omega : t < 2 ^ 32),
      show (3 % 2 ^ 32 : ℕ) = 2 ^ 2 - 1 from by norm_num, Nat.and_two_pow_sub_one_eq_mod]
    omega
  unfold byteOf
  change IntOp.andi (IntOp.shrui .vector _ (Scalar.muli (IntOp.andi (BitVec.ofNat 32 t) 3#32) 8#32)) 255#32 = _
  rw [hm]
  have h4 : t % 4 < 4 := Nat.mod_lt _ (by decide)
  have hx : ∀ (r : ℕ) (h4 : r < 4), IntOp.andi (IntOp.shrui .vector (IntOp.ori (IntOp.ori (IntOp.ori (b0.setWidth 32) (IntOp.shli .vector (b1.setWidth 32) 8#32)) (IntOp.shli .vector (b2.setWidth 32) 16#32))
      (IntOp.shli .vector (b3.setWidth 32) 24#32)) (Scalar.muli (BitVec.ofNat 32 r) 8#32)) 255#32 = ((![b0, b1, b2, b3] : Fin 4 → BitVec 8) ⟨r, h4⟩).setWidth 32 := by
    intro r h4
    interval_cases r
    · apply BitVec.eq_of_getElem_eq
      intro i hi
      interval_cases i <;> simp [IntOp.andi, IntOp.ori, IntOp.shrui, IntOp.shli, Scalar.muli, IntOp.muli]
    · apply BitVec.eq_of_getElem_eq
      intro i hi
      interval_cases i <;> simp [IntOp.andi, IntOp.ori, IntOp.shrui, IntOp.shli, Scalar.muli, IntOp.muli]
    · apply BitVec.eq_of_getElem_eq
      intro i hi
      interval_cases i <;> simp [IntOp.andi, IntOp.ori, IntOp.shrui, IntOp.shli, Scalar.muli, IntOp.muli]
    · apply BitVec.eq_of_getElem_eq
      intro i hi
      interval_cases i <;> simp [IntOp.andi, IntOp.ori, IntOp.shrui, IntOp.shli, Scalar.muli, IntOp.muli]
  exact hx (t % 4) h4

end Cert.KernelIdeal.Hand
-- ==== Proof.KernelIdeal.Inputs.lean ====
/- The arrays the kernel reads, entry by entry, from the program's arguments. -/
module

public import proofs.«01_k».proof.Proof.KernelIdeal.Tables
public import Idealize.ShloMosaic.Lib.ValueIdx
public import Idealize.ShloMosaic.Lib.ValueLayout
public import Idealize.ShloMosaic.Lib.Pipeline.Value

@[expose] public section

set_option pp.maxSteps 300
set_option maxRecDepth 5000

noncomputable section

namespace Cert.KernelIdeal.Hand

open Cert.KernelIdeal Cert.KernelIdeal.Gen
open Idealize.ShloMosaic Idealize.ShloMosaic.TcCoe Idealize.ShloMosaic.Tactic

/-- Two reshapes of one array agree at indices of the same row-major position. -/
theorem shapeCast_eq_shapeCast {α : Type} {s t u : Shape} (x : s.Idx → α) (h : s.ShapeCasts t) (h' : s.ShapeCasts u) (j : t.Idx) (k : u.Idx)
    (hk : (u.rowMajor k).val = (t.rowMajor j).val) : shapeCast t x h j = shapeCast u x h' k := by
  have e : (s.rowMajor (Shape.reshapeEquiv h' k)).val = (u.rowMajor k).val := Shape.rowMajor_reshapeEquiv h' k
  exact shapeCast_apply x h j (Shape.reshapeEquiv h' k) (e.trans hk)

variable {F : FTy → Type} [FloatOps F]
variable (m : (ℓ : Loc nD τ sig) → Buf (Elt F) ℓ) (c : Dev nD)

/-- The arguments as matrices over the tokens. -/
def a0 : S6144x50304.Idx → Elt F .fp8e5m2 := shapeCast S6144x50304 (m ((c : Thread nD τ).loc main_arg0)) shapeCasts_S6x1024x50304_S6144x50304
def a1 : S6144x131.Idx → Elt F .f32 := shapeCast S6144x131 (m ((c : Thread nD τ).loc main_arg1)) shapeCasts_S6x1024x131_S6144x131
def a2 : S6144x2560.Idx → Elt F .fp8e4m3 := shapeCast S6144x2560 (m ((c : Thread nD τ).loc main_arg2)) shapeCasts_S6x1024x2560_S6144x2560
def a3 : S6144x1.Idx → Elt F .f32 := shapeCast S6144x1 (m ((c : Thread nD τ).loc main_arg3)) shapeCasts_S6x1024_S6144x1
def a4 : S6144x2560.Idx → BitVec 8 := shapeCast S6144x2560 (m ((c : Thread nD τ).loc main_arg4)) shapeCasts_S6x1024x2560_S6144x2560
def a5 : S6144x1.Idx → Elt F .f32 := shapeCast S6144x1 (m ((c : Thread nD τ).loc main_arg5)) shapeCasts_S6x1024_S6144x1

theorem V_0 : V m c main_v0 = a0 m c := by
  unfold V
  simp only [List.flatten_cons, List.flatten_nil, List.append_nil, List.cons_append, List.nil_append]
  after_reads_simp
  rfl

theorem V_4 : V m c main_v4 = a2 m c := by
  unfold V
  simp only [List.flatten_cons, List.flatten_nil, List.append_nil, List.cons_append, List.nil_append]
  after_reads_simp
  rfl

theorem V_5 : V m c main_v5 = a3 m c := by
  unfold V
  simp only [List.flatten_cons, List.flatten_nil, List.append_nil, List.cons_append, List.nil_append]
  after_reads_simp
  rfl

theorem V_3_eq : V m c main_v3 = shapeCast S131x1x6144 (transpose S131x6144 [1, 0] (a1 m c) transposes_S6144x131_S131x6144_1_0) shapeCasts_S131x6144_S131x1x6144 := by
  unfold V
  simp only [List.flatten_cons, List.flatten_nil, List.append_nil, List.cons_append, List.nil_append]
  after_reads_simp
  rfl

theorem V_25_eq : V m c main_v25 = shapeCast S6144 (m ((c : Thread nD τ).loc main_arg5)) shapeCasts_S6x1024_S6144 := by
  unfold V
  simp only [List.flatten_cons, List.flatten_nil, List.append_nil, List.cons_append, List.nil_append]
  after_reads_simp
  rfl

/-- The codes of the gathered rows, four tokens to a row. -/
def e8 : S1536x4x2560.Idx → BitVec 8 := shapeCast S1536x4x2560 (m ((c : Thread nD τ).loc main_arg4)) shapeCasts_S6x1024x2560_S1536x4x2560

/-- The codes of each row's tokens at offset `off`, widened to words. -/
def byteRow (off : Fin 3 → ℕ) (h : S1536x4x2560.Slices off S1536x1x2560) : S1536x2560.Idx → BitVec 32 :=
  shapeCast S1536x2560 (extractStridedSlice S1536x1x2560 off (extui 32 (e8 m c) natLt_8_32) h) shapeCasts_S1536x1x2560_S1536x2560

/-- A constant word over the whole array. -/
def constRow (w : BitVec 32) : S1536x2560.Idx → BitVec 32 := broadcastInDim S1536x2560 ![] bcast_S_S1536x2560 (constantI S_ 32 w)

theorem V_24_eq : V m c main_v24 =
    ori (ori (ori (byteRow m c ![0, 0, 0] slices_S1536x4x2560_S1536x1x2560_0_0_0)
        (Host.shli (byteRow m c ![0, 1, 0] slices_S1536x4x2560_S1536x1x2560_0_1_0) (constRow 8#32)))
        (Host.shli (byteRow m c ![0, 2, 0] slices_S1536x4x2560_S1536x1x2560_0_2_0) (constRow 16#32)))
      (Host.shli (byteRow m c ![0, 3, 0] slices_S1536x4x2560_S1536x1x2560_0_3_0) (constRow 24#32)) := by
  unfold V
  simp only [List.flatten_cons, List.flatten_nil, List.append_nil, List.cons_append, List.nil_append]
  after_reads_simp
  rfl

/-- The scales of the first factor, transposed. -/
theorem V_3 (n : Fin 131) (t : Fin 6144) : V m c main_v3 (ix3 n (0 : Fin 1) t) = a1 m c (ix2 t n) := by
  rw [V_3_eq]
  refine (shapeCast_apply _ shapeCasts_S131x6144_S131x1x6144 (ix3 n (0 : Fin 1) t) (ix2 n t) ?_).trans (ValueIdx.transpose_ix2_apply _ _ _ _)
  refine (Shape.rowMajor_val_two (d := ![131, 6144]) (ix2 n t)).trans (Eq.trans ?_ (Shape.rowMajor_val_three (d := ![131, 1, 6144]) (ix3 n (0 : Fin 1) t)).symm)
  show n.val * 6144 + t.val = (n.val * 1 + 0) * 6144 + t.val
  omega

/-- The scales of the gathered rows. -/
theorem V_25 (t : Fin 6144) : V m c main_v25 (ix1 t) = a5 m c (ix2 t (0 : Fin 1)) := by
  rw [V_25_eq]
  refine shapeCast_eq_shapeCast _ shapeCasts_S6x1024_S6144 shapeCasts_S6x1024_S6144x1 (ix1 t) (ix2 t (0 : Fin 1)) ?_
  refine (Shape.rowMajor_val_two (d := ![6144, 1]) (ix2 t (0 : Fin 1))).trans (Eq.trans ?_ (Shape.rowMajor_val_one (d := ![6144]) (ix1 t)).symm)
  show t.val * 1 + 0 = t.val
  omega

theorem byteRow_apply (off : Fin 3 → ℕ) (h : S1536x4x2560.Slices off S1536x1x2560) (i : Fin 4) (hoff : off = ![0, i.val, 0]) (q : Fin 1536) (d : Fin 2560) :
    byteRow m c off h (ix2 q d) = (a4 m c (ix2 ⟨4 * q.val + i.val, by omega⟩ d)).setWidth 32 := by
  subst hoff
  unfold byteRow
  refine (shapeCast_apply _ shapeCasts_S1536x1x2560_S1536x2560 (ix2 q d) (ix3 q (0 : Fin 1) d) ?_).trans ?_
  · refine (Shape.rowMajor_val_three (d := ![1536, 1, 2560]) (ix3 q (0 : Fin 1) d)).trans (Eq.trans ?_ (Shape.rowMajor_val_two (d := ![1536, 2560]) (ix2 q d)).symm)
    show (q.val * 1 + 0) * 2560 + d.val = q.val * 2560 + d.val
    omega
  refine (extractStridedSlice_apply _ _ h (ix3 q (0 : Fin 1) d) (ix3 q i d) fun a => ?_).trans ?_
  · match a with
    | ⟨0, _⟩ => show q.val = 0 + q.val; omega
    | ⟨1, _⟩ => show i.val = i.val + 0; omega
    | ⟨2, _⟩ => show d.val = 0 + d.val; omega
  refine congrArg (BitVec.setWidth 32) ?_
  unfold e8 a4
  refine shapeCast_eq_shapeCast _ shapeCasts_S6x1024x2560_S1536x4x2560 shapeCasts_S6x1024x2560_S6144x2560 (ix3 q i d) (ix2 ⟨4 * q.val + i.val, by omega⟩ d) ?_
  refine (Shape.rowMajor_val_two (d := ![6144, 2560]) (ix2 ⟨4 * q.val + i.val, by omega⟩ d)).trans (Eq.trans ?_ (Shape.rowMajor_val_three (d := ![1536, 4, 2560]) (ix3 q i d)).symm)
  show (4 * q.val + i.val) * 2560 + d.val = (q.val * 4 + i.val) * 2560 + d.val
  omega

/-- A shift by less than the word's width is the same on the host and in the kernel. -/
theorem shl_host (x w : BitVec 32) (h : w.toNat < 32) : IntOp.shli .host x w = IntOp.shli .vector x w := by
  unfold IntOp.shli
  rw [if_pos h, if_pos h]

/-- A packed word of the gathered rows' codes. -/
theorem V_24 (q : Fin 1536) (d : Fin 2560) : V m c main_v24 (ix2 q d) =
    IntOp.ori (IntOp.ori (IntOp.ori ((a4 m c (ix2 ⟨4 * q.val + 0, by omega⟩ d)).setWidth 32) (IntOp.shli .vector ((a4 m c (ix2 ⟨4 * q.val + 1, by omega⟩ d)).setWidth 32) 8#32))
      (IntOp.shli .vector ((a4 m c (ix2 ⟨4 * q.val + 2, by omega⟩ d)).setWidth 32) 16#32))
      (IntOp.shli .vector ((a4 m c (ix2 ⟨4 * q.val + 3, by omega⟩ d)).setWidth 32) 24#32) := by
  rw [V_24_eq]
  have r0 : byteRow m c ![0, 0, 0] slices_S1536x4x2560_S1536x1x2560_0_0_0 (ix2 q d) = (a4 m c (ix2 ⟨4 * q.val + 0, by omega⟩ d)).setWidth 32 :=
    byteRow_apply m c ![0, 0, 0] slices_S1536x4x2560_S1536x1x2560_0_0_0 0 rfl q d
  have r1 : byteRow m c ![0, 1, 0] slices_S1536x4x2560_S1536x1x2560_0_1_0 (ix2 q d) = (a4 m c (ix2 ⟨4 * q.val + 1, by omega⟩ d)).setWidth 32 :=
    byteRow_apply m c ![0, 1, 0] slices_S1536x4x2560_S1536x1x2560_0_1_0 1 rfl q d
  have r2 : byteRow m c ![0, 2, 0] slices_S1536x4x2560_S1536x1x2560_0_2_0 (ix2 q d) = (a4 m c (ix2 ⟨4 * q.val + 2, by omega⟩ d)).setWidth 32 :=
    byteRow_apply m c ![0, 2, 0] slices_S1536x4x2560_S1536x1x2560_0_2_0 2 rfl q d
  have r3 : byteRow m c ![0, 3, 0] slices_S1536x4x2560_S1536x1x2560_0_3_0 (ix2 q d) = (a4 m c (ix2 ⟨4 * q.val + 3, by omega⟩ d)).setWidth 32 :=
    byteRow_apply m c ![0, 3, 0] slices_S1536x4x2560_S1536x1x2560_0_3_0 3 rfl q d
  rw [← r0, ← r1, ← r2, ← r3, ← shl_host _ 8#32 (by decide), ← shl_host _ 16#32 (by decide), ← shl_host _ 24#32 (by decide)]
  have k : ∀ w : BitVec 32, constRow w (ix2 q d) = w := fun w => (Routing.bc0 (s := S1536x2560) bcast_S_S1536x2560 (constantI S_ 32 w) (ix2 q d)).trans rfl
  have s1 : Host.shli (byteRow m c ![0, 1, 0] slices_S1536x4x2560_S1536x1x2560_0_1_0) (constRow 8#32) (ix2 q d) = IntOp.shli .host (byteRow m c ![0, 1, 0] slices_S1536x4x2560_S1536x1x2560_0_1_0 (ix2 q d)) 8#32 :=
    congrArg (IntOp.shli .host _) (k 8#32)
  have s2 : Host.shli (byteRow m c ![0, 2, 0] slices_S1536x4x2560_S1536x1x2560_0_2_0) (constRow 16#32) (ix2 q d) = IntOp.shli .host (byteRow m c ![0, 2, 0] slices_S1536x4x2560_S1536x1x2560_0_2_0 (ix2 q d)) 16#32 :=
    congrArg (IntOp.shli .host _) (k 16#32)
  have s3 : Host.shli (byteRow m c ![0, 3, 0] slices_S1536x4x2560_S1536x1x2560_0_3_0) (constRow 24#32) (ix2 q d) = IntOp.shli .host (byteRow m c ![0, 3, 0] slices_S1536x4x2560_S1536x1x2560_0_3_0 (ix2 q d)) 24#32 :=
    congrArg (IntOp.shli .host _) (k 24#32)
  rw [← s1, ← s2, ← s3]
  rfl

end Cert.KernelIdeal.Hand
-- ==== Proof.KernelIdeal.Value.lean ====
/- The kernel's result in closed form. -/
module

public import proofs.«01_k».proof.Proof.Spec
public import proofs.«01_k».proof.Proof.KernelIdeal.Whole
public import proofs.«01_k».proof.Proof.KernelIdeal.Sums
public import proofs.«01_k».proof.Proof.KernelIdeal.Decode
public import proofs.«01_k».proof.Proof.KernelIdeal.Inputs
public import Idealize.ShloMosaic.Lib.MatmulPlain
public import Idealize.ShloMosaic.Lib.IdealHost
public import Idealize.ShloMosaic.Lib.Pipeline.ValueKit.Geometry

@[expose] public section

set_option pp.maxSteps 300
set_option maxRecDepth 5000

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

attribute [local irreducible] V

/-- The contraction's entry is the sum of the products over the tokens. -/
theorem dotv_eq (X5 : S6144x384.Idx → Elt Ideal .fp8e5m2) (X6 : S1x1x6144.Idx → Elt Ideal .f32)
    (X7 : S6144x2560.Idx → Elt Ideal .fp8e4m3) (X8 : S6144x1.Idx → Elt Ideal .f32) (r : Fin 384) (d : Fin 2560) :
    (dotv (F := Ideal) X5 X6 X7 X8 r d : EReal)
      = ∑ t : Fin 6144, ((X5 (ix2 t r) : EReal) * (X6 (ix3 0 0 t) : EReal)) * ((X7 (ix2 t d) : EReal) * (X8 (ix2 t 0) : EReal)) := by
  have hd : (⟨512 * (d.val / 512) + d.val % 512, by omega⟩ : Fin 2560) = d := Fin.ext (Nat.div_add_mod _ _)
  unfold dotv k0_pay201
  refine (Ideal.matmul_plain_apply (M := 384) (K := 6144) (N := 512) none (gtOf X5 X6) (xbOf X7 X8 ⟨d.val / 512, by omega⟩) (constant S384x512 .f32 0x00000000#32) r ⟨d.val % 512, Nat.mod_lt _ (by decide)⟩).trans ?_
  have hz : (constant (F := Ideal) S384x512 .f32 0x00000000#32 (ValueIdx.ix2 r ⟨d.val % 512, Nat.mod_lt _ (by decide)⟩) : EReal) = 0 := Ideal.ofBits_zero_f32
  rw [hz, zero_add]
  refine Finset.sum_congr rfl fun t _ => ?_
  conv_rhs => rw [← hd]
  rfl

variable (m : (ℓ : Loc nD τ sig) → Buf (Elt Ideal) ℓ) (c : Dev nD)

theorem iblk0_eq (t : Fin grid0.N) : iblk0 m c t = V m c main_v25 := by
  funext x
  unfold iblk0 iblk
  rw [View.read_apply]
  show V m c main_v25 ((((cfg0 (adm m)).win 0).blk t).view.emb x) = _
  congr 1
  funext a
  match a with
  | ⟨0, _⟩ =>
    refine Fin.ext ?_
    show 0 * 6144 + 1 * (x 0).val = (x 0).val
    omega

theorem N_eq : grid0.N = 131 := by decide +kernel
theorem lt131 (t : Fin grid0.N) : t.val < 131 := lt_of_lt_of_eq t.isLt N_eq

theorem ofNat_coord (t : Fin grid0.N) : (BitVec.ofNat 32 ((grid0.coords t) 0).val).toNat = t.val := by
  rw [coord_val, BitVec.toNat_ofNat, Nat.mod_eq_of_lt (by have := lt131 t; omega)]

theorem iblk1_apply (t : Fin grid0.N) (a : Fin 6144) (b : Fin 384) :
    iblk1 m c t (ix2 a b) = a0 m c (ix2 a ⟨384 * t.val + b.val, by have := lt131 t; omega⟩) := by
  unfold iblk1 iblk
  rw [View.read_apply]
  show V m c main_v0 ((((cfg0 (adm m)).win 1).blk t).view.emb (ix2 a b)) = _
  rw [V_0]
  congr 1
  refine idx2_ext ?_ ?_
  · show 0 * 6144 + 1 * a.val = a.val
    omega
  · show (BitVec.ofNat 32 ((grid0.coords t) 0).val).toNat * 384 + 1 * b.val = 384 * t.val + b.val
    rw [ofNat_coord]
    omega

theorem iblk2_apply (t : Fin grid0.N) (a : Fin 6144) :
    iblk2 m c t (ix3 0 0 a) = a1 m c (ix2 a ⟨t.val, lt131 t⟩) := by
  unfold iblk2 iblk
  rw [View.read_apply]
  show V m c main_v3 ((((cfg0 (adm m)).win 2).blk t).view.emb (ix3 0 0 a)) = _
  rw [← V_3]
  congr 1
  funext k
  match k with
  | ⟨0, _⟩ =>
    refine Fin.ext ?_
    show (BitVec.ofNat 32 ((grid0.coords t) 0).val).toNat * 1 + 1 * 0 = t.val
    rw [ofNat_coord]
    omega
  | ⟨1, _⟩ => rfl
  | ⟨2, _⟩ =>
    refine Fin.ext ?_
    show 0 * 6144 + 1 * a.val = a.val
    omega

/-- A gathered row's entry is the code's value times the row's scale. -/
theorem tokv_eq (t : Fin 6144) (d : Fin 2560) :
    tokv (V m c main_v25) (V m c main_v24) t d = Ideal.ofBits .fp8e5m2 (a4 m c (ix2 t d)) * (a5 m c (ix2 t 0) : EReal) := by
  unfold tokv
  rw [V_25, V_24, byteOf_packed _ _ _ _ _ t.isLt, decByte_eq]
  congr 2
  have hlt : t.val % 4 < 4 := Nat.mod_lt _ (by decide)
  have e : ∀ i : Fin 4, i.val = t.val % 4 →
      (![a4 m c (ix2 ⟨4 * (t.val / 4) + 0, by omega⟩ d), a4 m c (ix2 ⟨4 * (t.val / 4) + 1, by omega⟩ d), a4 m c (ix2 ⟨4 * (t.val / 4) + 2, by omega⟩ d),
        a4 m c (ix2 ⟨4 * (t.val / 4) + 3, by omega⟩ d)] : Fin 4 → BitVec 8) i = a4 m c (ix2 t d) := by
    intro i hi
    have k : ∀ q : ℕ, (hq : q < 6144) → q = t.val → a4 m c (ix2 ⟨q, hq⟩ d) = a4 m c (ix2 t d) := fun q hq h => by subst h; rfl
    match i, hi with
    | ⟨0, _⟩, hi => exact k _ _ (by have : 0 = t.val % 4 := hi; omega)
    | ⟨1, _⟩, hi => exact k _ _ (by have : 1 = t.val % 4 := hi; omega)
    | ⟨2, _⟩, hi => exact k _ _ (by have : 2 = t.val % 4 := hi; omega)
    | ⟨3, _⟩, hi => exact k _ _ (by have : 3 = t.val % 4 := hi; omega)
  exact e ⟨t.val % 4, hlt⟩ rfl

/-- The result in closed form. -/
def G : S50304x2560.Idx → EReal := fun y =>
  Cert.Spec.val (a0 m c) (a1 m c) (a2 m c) (a3 m c) (a4 m c) (a5 m c) (idsOf m c) (y 0) (y 1)

theorem bnd_offT (n : ℕ) (h : n ≤ 131) : bnd (V m c main_v44) n = cnt (idsOf m c) n := by
  unfold bnd
  rw [V_44, offT_toNat]
  show cnt _ (min n 131) = _
  rw [Nat.min_eq_left h]

/-- What a grid point leaves is the block of the closed form. -/
theorem oblk_apply (t : Fin grid0.N) (r : Fin 384) (d : Fin 2560) :
    (oblk m c t (ix2 r d) : EReal) = G m c (ix2 ⟨384 * t.val + r.val, by have := lt131 t; omega⟩ d) := by
  have ht := lt131 t
  have hq : (⟨(384 * t.val + r.val) / 384, by omega⟩ : Fin 131) = ⟨t.val, ht⟩ := Fin.ext (by show (384 * t.val + r.val) / 384 = t.val; omega)
  have e1 : (oblk m c t (ix2 r d) : EReal) = (dotv (F := Ideal) (iblk1 m c t) (iblk2 m c t) (V m c main_v4) (V m c main_v5) r d : EReal)
      + (accv (F := Ideal) (V m c main_v27) (V m c main_v34) (iblk0 m c t) (V m c main_v24) (bnd (V m c main_v44) t.val) t.val r d
          (bnd (V m c main_v44) (t.val + 1) - bnd (V m c main_v44) t.val) : EReal) := rfl
  rw [e1, dotv_eq, bnd_offT m c _ (by omega), bnd_offT m c _ (by omega), V_27, V_34, accv_total]
  unfold G Cert.Spec.val
  refine congrArg₂ (· + ·) (Finset.sum_congr rfl fun s _ => ?_) (Finset.sum_congr rfl fun s _ => ?_)
  · rw [iblk1_apply, iblk2_apply, V_4, V_5]
    show _ = a0 m c (ix2 s ⟨384 * t.val + r.val, _⟩) * a1 m c (ix2 s ⟨(384 * t.val + r.val) / 384, _⟩) * _
    rw [hq]
    rfl
  · rw [iblk0_eq, tokv_eq]
    have hc : ((⟨384 * t.val + r.val, by omega⟩ : Fin 50304).val : ℤ) = 384 * (t.val : ℤ) + r.val := by push_cast; rfl
    show _ = if (idsOf m c (ix1 s)).toInt = ((⟨384 * t.val + r.val, by omega⟩ : Fin 50304).val : ℤ) then _ else _
    rw [hc]
    rfl

/-- The block of the result at point `t`, at row `r` and column `d`. -/
theorem emb_out (t : Fin grid0.N) (r : Fin 384) (d : Fin 2560) :
    ((((cfg0 (adm m)).win 4).blk t).view.emb (ix2 r d) : S50304x2560.Idx) = ix2 ⟨384 * t.val + r.val, by have := lt131 t; omega⟩ d := by
  refine idx2_ext ?_ ?_
  · show (BitVec.ofNat 32 ((grid0.coords t) 0).val).toNat * 384 + 1 * r.val = 384 * t.val + r.val
    rw [ofNat_coord]
    omega
  · show 0 * 2560 + 1 * d.val = d.val
    omega

/-- Every point writes its block back. -/
theorem flush_out (t : Fin grid0.N) : ((cfg0 (adm m)).win 4).flush t = true := by
  have hi : ∀ t : Fin grid0.N, ((cfg0 (adm m)).win 4).index t (0 : Fin 2) = t.val := fun t => ofNat_coord t
  unfold Window.flush
  refine Bool.and_eq_true_iff.2 ⟨rfl, ?_⟩
  by_cases h : t.val + 1 = grid0.N
  · rw [decide_eq_true h, Bool.true_or]
  · rw [Bool.or_eq_true_iff]
    refine Or.inr (decide_eq_true ⟨(by have := t.isLt; omega : t.val + 1 < grid0.N), fun e => ?_⟩)
    have e0 := congrFun e (0 : Fin 2)
    have e1 := (hi _).symm.trans (e0.trans (hi t))
    have e2 : t.val + 1 = t.val := e1
    omega

theorem oblk_emb (t : Fin grid0.N) (y : S384x2560.Idx) :
    (oblk m c t y : EReal) = G m c ((((cfg0 (adm m)).win 4).blk t).view.emb y : S50304x2560.Idx) := by
  have hy : y = ix2 (y 0) (y 1) := idx2_ext rfl rfl
  rw [hy]
  exact (oblk_apply m c t (y 0) (y 1)).trans (congrArg (G m c) (emb_out m t (y 0) (y 1)).symm)

theorem cover_out (i : S50304x2560.Idx) : ∃ t : Fin grid0.N, ((cfg0 (adm m)).win 4).flush t = true ∧ i ∈ (((cfg0 (adm m)).win 4).blk t).view.set := by
  have h0 : (i 0).val < 50304 := (i 0).isLt
  have hN := N_eq
  let t : Fin grid0.N := ⟨(i 0).val / 384, by omega⟩
  refine ⟨t, flush_out m t, ?_⟩
  have hi : i = ((((cfg0 (adm m)).win 4).blk t).view.emb (ix2 (⟨(i 0).val % 384, Nat.mod_lt _ (by decide)⟩ : Fin 384) (i 1)) : S50304x2560.Idx) := by
    refine Eq.trans ?_ (emb_out m t _ _).symm
    refine idx2_ext ?_ rfl
    show (i 0).val = 384 * ((i 0).val / 384) + (i 0).val % 384
    omega
  rw [hi]
  exact View.emb_mem_set _ _

/-- The result array after the run. -/
theorem arrAt_out : (dats m 0 c).arrAt 4 (cfg0 (adm m)).N = G m c :=
  (dats m 0 c).arrAt_eq_of_emb 4 (G m c) (fun t hf y => by rw [after0_4]; exact oblk_emb m c t y) (cover_out m)

/-- The program's run in closed form. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v45) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 4).trans (arrAt_out m c),
      ((h.1 c).2 main_arg0 mem_arg0).trans (V_main_arg0 m c),
      ((h.1 c).2 main_arg1 mem_arg1).trans (V_main_arg1 m c),
      ((h.1 c).2 main_arg2 mem_arg2).trans (V_main_arg2 m c),
      ((h.1 c).2 main_arg3 mem_arg3).trans (V_main_arg3 m c),
      ((h.1 c).2 main_arg4 mem_arg4).trans (V_main_arg4 m c),
      ((h.1 c).2 main_arg5 mem_arg5).trans (V_main_arg5 m c),
      ((h.1 c).2 main_arg6 mem_arg6).trans (V_main_arg6 m c)⟩) (run_main m ρ)

end Cert.KernelIdeal.Hand

end
-- ==== Proof.ReferenceIdeal.Value.lean ====
/- The reference's result in closed form. -/
module

public import proofs.«01_k».proof.Proof.Spec
public import proofs.«01_k».proof.Proof.Gen.ReferenceIdeal.Frame
public import Idealize.ShloMosaic.Lib.Pointwise
public import Idealize.ShloMosaic.Lib.IdealHost
public import Idealize.ShloMosaic.Lib.Routing.Ops
public import Idealize.ShloMosaic.Lib.Routing.OpsPair
public import Idealize.ShloMosaic.Lib.Pipeline.Value
public import Idealize.ShloMosaic.Lib.Pipeline.ValueKit.Geometry
public import Idealize.ShloMosaic.Lib.Pipeline.ValueKit.Acc
public import Idealize.ShloMosaic.Lib.StableHlo.ReadAt

@[expose] public section

set_option pp.maxSteps 300
set_option maxRecDepth 5000

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)

/-- Two indices of a matrix with the same coordinates are the same. -/
theorem ix2_ext {a b : ℕ} {x y : (⟨2, ![a, b]⟩ : Shape).Idx} (h0 : (x 0).val = (y 0).val) (h1 : (x 1).val = (y 1).val) : x = y := by
  funext k
  match k with
  | ⟨0, _⟩ => exact Fin.ext h0
  | ⟨1, _⟩ => exact Fin.ext h1

theorem rm2 {a b : ℕ} (i : Fin a) (j : Fin b) : ((⟨2, ![a, b]⟩ : Shape).rowMajor (ix2 i j)).val = i.val * b + j.val :=
  Shape.rowMajor_val_two (d := ![a, b]) _

theorem rm3 {a b e : ℕ} (i : Fin a) (j : Fin b) (k : Fin e) : ((⟨3, ![a, b, e]⟩ : Shape).rowMajor (ix3 i j k)).val = (i.val * b + j.val) * e + k.val :=
  Shape.rowMajor_val_three (d := ![a, b, e]) _

/-- Where an update lands: row by its token's identifier, column by its own. -/
theorem lands (idx : IVec S6144x1 32) (t : Fin 6144) (e : Fin 2560) (R : Fin 50304) (d : Fin 2560) :
    scatter_S50304x2560_S6144x1_S6144x2560_1_0_0_1.resultIdx? (ix2 t e) idx = some (ix2 R d)
      ↔ (idx (ix2 t 0)).toInt = (R.val : ℤ) ∧ e = d := by
  have h := Routing.resultIdx?_ix2 (R := 50304) (C := 2560) scatter_S50304x2560_S6144x1_S6144x2560_1_0_0_1 (ix2 t e) idx R d
  refine h.trans ?_
  have s0 : scatter_S50304x2560_S6144x1_S6144x2560_1_0_0_1.start (ix2 t e) idx 0 = (idx (ix2 t 0)).toInt := by
    have hsi : scatter_S50304x2560_S6144x1_S6144x2560_1_0_0_1.siIdx (ix2 t e) ⟨0, Nat.one_pos⟩ = ix2 t 0 := by
      refine ix2_ext ?_ ?_
      · rfl
      · rfl
    exact congrArg (fun j => (idx j).toInt) hsi
  have s1 : scatter_S50304x2560_S6144x1_S6144x2560_1_0_0_1.start (ix2 t e) idx 1 = 0 := rfl
  have w0 : scatter_S50304x2560_S6144x1_S6144x2560_1_0_0_1.window (ix2 t e) 0 = 0 := rfl
  have w1 : scatter_S50304x2560_S6144x1_S6144x2560_1_0_0_1.window (ix2 t e) 1 = e.val := rfl
  rw [s0, s1, w0, w1, Fin.ext_iff]
  constructor <;> intro ⟨a, b⟩ <;> constructor <;> omega

/-- The scatter's entry: the updates of the tokens whose identifier is the row. -/
theorem scatter_apply (x : S50304x2560.Idx → EReal) (idx : IVec S6144x1 32) (u : S6144x2560.Idx → EReal) (R : Fin 50304) (d : Fin 2560) :
    (Host.scatterAdd (F := Ideal) (φ := .f32) scatter_S50304x2560_S6144x1_S6144x2560_1_0_0_1 x idx u (ix2 R d) : EReal)
      = x (ix2 R d) + ∑ t : Fin 6144, if (idx (ix2 t 0)).toInt = (R.val : ℤ) then u (ix2 t d) else 0 := by
  show x (ix2 R d) + ∑ j ∈ Finset.univ.filter (fun j => scatter_S50304x2560_S6144x1_S6144x2560_1_0_0_1.resultIdx? j idx = some (ix2 R d)), u j = _
  refine congrArg (x (ix2 R d) + ·) ?_
  rw [← Finset.sum_filter]
  refine (Finset.sum_bij (fun t _ => (ix2 t d : S6144x2560.Idx)) ?_ ?_ ?_ ?_).symm
  · intro t ht
    exact Finset.mem_filter.2 ⟨Finset.mem_univ _, (lands idx t d R d).2 ⟨(Finset.mem_filter.1 ht).2, rfl⟩⟩
  · intro t _ t' _ h
    exact congrFun h (0 : Fin 2)
  · intro j hj
    have hj' : j = ix2 (j 0) (j 1) := ix2_ext rfl rfl
    have hm := (Finset.mem_filter.1 hj).2
    rw [hj'] at hm
    obtain ⟨a, b⟩ := (lands idx (j 0) (j 1) R d).1 hm
    refine ⟨j 0, Finset.mem_filter.2 ⟨Finset.mem_univ _, a⟩, ?_⟩
    rw [← b]
    exact hj'.symm
  · intro t _; rfl

/-- The first factor's entry. -/
theorem gd_apply (v0 : Vec Ideal S6144x50304 .fp8e5m2) (v4 : Vec Ideal S6144x131 .f32) (t : Fin 6144) (R : Fin 50304) :
    (shapeCast S6144x50304 (mulf (shapeCast S6144x131x384 (extf .bf16 (shapeCast S6144x50304 v0 shapeCasts_S6144x50304_S6144x50304) bitsLt_fp8e5m2_bf16 : FVec Ideal S6144x50304 .bf16) shapeCasts_S6144x50304_S6144x131x384)
        (broadcastTo S6144x131x384 (shapeCast S6144x131x1 (truncf .bf16 (shapeCast S6144x131 v4 shapeCasts_S6144x131_S6144x131) bitsLt_bf16_f32 : FVec Ideal S6144x131 .bf16) shapeCasts_S6144x131_S6144x131x1) broadcasts_S6144x131x1_S6144x131x384))
      shapeCasts_S6144x131x384_S6144x50304 (ix2 t R) : EReal) = (v0 (ix2 t R) : EReal) * (v4 (ix2 t ⟨R.val / 384, by omega⟩) : EReal) := by
  rw [shapeCast_apply _ shapeCasts_S6144x131x384_S6144x50304 (ix2 t R) (ix3 t ⟨R.val / 384, by omega⟩ ⟨R.val % 384, Nat.mod_lt _ (by decide)⟩)
    ((rm3 _ _ _).trans (Eq.trans (by have := R.isLt; dsimp only; omega) (rm2 _ _).symm))]
  refine congrArg₂ (· * ·) ?_ ?_
  · rw [shapeCast_apply _ shapeCasts_S6144x50304_S6144x131x384 (ix3 t ⟨R.val / 384, by omega⟩ ⟨R.val % 384, Nat.mod_lt _ (by decide)⟩) (ix2 t R)
      ((rm2 _ _).trans (Eq.trans (by have := R.isLt; dsimp only; omega) (rm3 _ _ _).symm))]
    show (shapeCast S6144x50304 v0 shapeCasts_S6144x50304_S6144x50304 (ix2 t R) : EReal) = _
    rw [shapeCast_apply _ _ (ix2 t R) (ix2 t R) rfl]
  · show (shapeCast S6144x131x1 (truncf .bf16 (shapeCast S6144x131 v4 shapeCasts_S6144x131_S6144x131) bitsLt_bf16_f32 : FVec Ideal S6144x131 .bf16) shapeCasts_S6144x131_S6144x131x1
        (ix3 t ⟨R.val / 384, by omega⟩ 0) : EReal) = _
    rw [shapeCast_apply _ shapeCasts_S6144x131_S6144x131x1 (ix3 t ⟨R.val / 384, by omega⟩ 0) (ix2 t ⟨R.val / 384, by omega⟩)
      ((rm2 _ _).trans (Eq.trans (by show _ = (t.val * 131 + R.val / 384) * 1 + 0; dsimp only; omega) (rm3 _ _ _).symm))]
    show (shapeCast S6144x131 v4 shapeCasts_S6144x131_S6144x131 (ix2 t ⟨R.val / 384, by omega⟩) : EReal) = _
    rw [shapeCast_apply _ _ (ix2 t ⟨R.val / 384, by omega⟩) (ix2 t ⟨R.val / 384, by omega⟩) rfl]

/-- The contraction's entry. -/
theorem pay1_apply (v0 : Vec Ideal S6144x50304 .fp8e5m2) (v4 : Vec Ideal S6144x131 .f32) (v11 : Vec Ideal S6144x2560 .fp8e4m3) (v14 : Vec Ideal S6144x1 .f32)
    (R : Fin 50304) (d : Fin 2560) :
    (k0_pay1 (F := Ideal) v0 v4 v11 v14 (ix2 R d) : EReal) = ∑ t : Fin 6144, (v0 (ix2 t R) : EReal) * (v4 (ix2 t ⟨R.val / 384, by omega⟩) : EReal) * ((v11 (ix2 t d) : EReal) * (v14 (ix2 t 0) : EReal)) := by
  unfold k0_pay1
  refine (Ideal.matmul_apply₁ dot_S6144x50304_S6144x2560_S50304x2560_0_0_1_1_n_n (a := 0) rfl (K := 6144) rfl _ _ _ _).trans ?_
  have hz : (constant (F := Ideal) S50304x2560 .f32 0x00000000#32 (ix2 R d) : EReal) = 0 := Ideal.ofBits_zero_f32
  rw [hz, zero_add]
  refine Finset.sum_congr rfl fun t _ => ?_
  refine congrArg₂ (· * ·) (Eq.trans (congrArg _ ?_) (gd_apply v0 v4 t R)) ?_
  · exact ix2_ext rfl rfl
  · have e : Shape.Idx.norm (dot_S6144x50304_S6144x2560_S50304x2560_0_0_1_1_n_n.rhsIdx (ix2 R d) (dot_S6144x50304_S6144x2560_S50304x2560_0_0_1_1_n_n.contrIdx₁ (a := 0) rfl (K := 6144) rfl t)) = ix2 t d := ix2_ext rfl rfl
    rw [e]
    refine congrArg₂ (· * ·) ?_ ?_
    · show (shapeCast S6144x2560 v11 shapeCasts_S6144x2560_S6144x2560 (ix2 t d) : EReal) = _
      rw [shapeCast_apply _ _ (ix2 t d) (ix2 t d) rfl]
    · show (shapeCast S6144x1 v14 shapeCasts_S6144x1_S6144x1 (ix2 t 0) : EReal) = _
      rw [shapeCast_apply _ _ (ix2 t 0) (ix2 t 0) rfl]

/-- A dequantized row's entry. -/
theorem pay2_apply (v21 : Vec Ideal S6144x2560 .i8) (v25 : Vec Ideal S6144x1 .f32) (t : Fin 6144) (d : Fin 2560) :
    (k0_pay2 (F := Ideal) v21 v25 (ix2 t d) : EReal) = Ideal.ofBits .fp8e5m2 (v21 (ix2 t d)) * (v25 (ix2 t 0) : EReal) := by
  unfold k0_pay2
  refine congrArg₂ (· * ·) ?_ ?_
  · show Ideal.ofBits .fp8e5m2 (shapeCast S6144x2560 v21 shapeCasts_S6144x2560_S6144x2560 (ix2 t d)) = _
    rw [shapeCast_apply _ _ (ix2 t d) (ix2 t d) rfl]
  · show (shapeCast S6144x1 v25 shapeCasts_S6144x1_S6144x1 (ix2 t 0) : EReal) = _
    rw [shapeCast_apply _ _ (ix2 t 0) (ix2 t 0) rfl]

variable (m : (ℓ : Loc nD τ sig) → Buf (Elt Ideal) ℓ) (c : Dev nD)

theorem V_0 : V m c main_v0 = shapeCast S6144x50304 (m ((c : Thread nD τ).loc main_arg0)) shapeCasts_S6x1024x50304_S6144x50304 := by
  unfold V V0; simp only [List.flatten_cons, List.flatten_nil, List.append_nil, List.cons_append, List.nil_append]; after_reads_simp; rfl
theorem V_1 : V m c main_v1 = shapeCast S6144x131 (m ((c : Thread nD τ).loc main_arg1)) shapeCasts_S6x1024x131_S6144x131 := by
  unfold V V0; simp only [List.flatten_cons, List.flatten_nil, List.append_nil, List.cons_append, List.nil_append]; after_reads_simp; rfl
theorem V_2 : V m c main_v2 = shapeCast S6144x2560 (m ((c : Thread nD τ).loc main_arg2)) shapeCasts_S6x1024x2560_S6144x2560 := by
  unfold V V0; simp only [List.flatten_cons, List.flatten_nil, List.append_nil, List.cons_append, List.nil_append]; after_reads_simp; rfl
theorem V_3 : V m c main_v3 = shapeCast S6144x1 (m ((c : Thread nD τ).loc main_arg3)) shapeCasts_S6x1024_S6144x1 := by
  unfold V V0; simp only [List.flatten_cons, List.flatten_nil, List.append_nil, List.cons_append, List.nil_append]; after_reads_simp; rfl
theorem V_4 : V m c main_v4 = shapeCast S6144x2560 (m ((c : Thread nD τ).loc main_arg4)) shapeCasts_S6x1024x2560_S6144x2560 := by
  unfold V V0; simp only [List.flatten_cons, List.flatten_nil, List.append_nil, List.cons_append, List.nil_append]; after_reads_simp; rfl
theorem V_5 : V m c main_v5 = shapeCast S6144x1 (m ((c : Thread nD τ).loc main_arg5)) shapeCasts_S6x1024_S6144x1 := by
  unfold V V0; simp only [List.flatten_cons, List.flatten_nil, List.append_nil, List.cons_append, List.nil_append]; after_reads_simp; rfl

/-- Each window's one block is its whole array. -/
theorem iblk0_eq (t : Fin cfg0.N) : (iblk m c 0 t : Vec Ideal S6144x50304 .fp8e5m2) = V m c main_v0 := by
  funext x
  unfold iblk
  rw [View.read_apply]
  show V m c main_v0 (((cfg0.win 0).blk t).view.emb x) = _
  congr 1
  refine ix2_ext ?_ ?_
  · show 0 * 6144 + 1 * (x 0).val = (x 0).val
    omega
  · show 0 * 50304 + 1 * (x 1).val = (x 1).val
    omega
theorem iblk1_eq (t : Fin cfg0.N) : (iblk m c 1 t : Vec Ideal S6144x131 .f32) = V m c main_v1 := by
  funext x
  unfold iblk
  rw [View.read_apply]
  show V m c main_v1 (((cfg0.win 1).blk t).view.emb x) = _
  congr 1
  refine ix2_ext ?_ ?_
  · show 0 * 6144 + 1 * (x 0).val = (x 0).val
    omega
  · show 0 * 131 + 1 * (x 1).val = (x 1).val
    omega
theorem iblk2_eq (t : Fin cfg0.N) : (iblk m c 2 t : Vec Ideal S6144x2560 .fp8e4m3) = V m c main_v2 := by
  funext x
  unfold iblk
  rw [View.read_apply]
  show V m c main_v2 (((cfg0.win 2).blk t).view.emb x) = _
  congr 1
  refine ix2_ext ?_ ?_
  · show 0 * 6144 + 1 * (x 0).val = (x 0).val
    omega
  · show 0 * 2560 + 1 * (x 1).val = (x 1).val
    omega
theorem iblk3_eq (t : Fin cfg0.N) : (iblk m c 3 t : Vec Ideal S6144x1 .f32) = V m c main_v3 := by
  funext x
  unfold iblk
  rw [View.read_apply]
  show V m c main_v3 (((cfg0.win 3).blk t).view.emb x) = _
  congr 1
  refine ix2_ext ?_ ?_
  · show 0 * 6144 + 1 * (x 0).val = (x 0).val
    omega
  · show 0 * 1 + 1 * (x 1).val = (x 1).val
    omega
theorem iblk4_eq (t : Fin cfg0.N) : (iblk m c 4 t : Vec Ideal S6144x2560 .i8) = V m c main_v4 := by
  funext x
  unfold iblk
  rw [View.read_apply]
  show V m c main_v4 (((cfg0.win 4).blk t).view.emb x) = _
  congr 1
  refine ix2_ext ?_ ?_
  · show 0 * 6144 + 1 * (x 0).val = (x 0).val
    omega
  · show 0 * 2560 + 1 * (x 1).val = (x 1).val
    omega
theorem iblk5_eq (t : Fin cfg0.N) : (iblk m c 5 t : Vec Ideal S6144x1 .f32) = V m c main_v5 := by
  funext x
  unfold iblk
  rw [View.read_apply]
  show V m c main_v5 (((cfg0.win 5).blk t).view.emb x) = _
  congr 1
  refine ix2_ext ?_ ?_
  · show 0 * 6144 + 1 * (x 0).val = (x 0).val
    omega
  · show 0 * 1 + 1 * (x 1).val = (x 1).val
    omega

theorem out6_eq (x0 : Vec Ideal S6144x50304 .fp8e5m2) (x1 : Vec Ideal S6144x131 .f32) (x2 : Vec Ideal S6144x2560 .fp8e4m3) (x3 : Vec Ideal S6144x1 .f32) (x4 : Vec Ideal S6144x2560 .i8) (x5 : Vec Ideal S6144x1 .f32) :
    out0_6 x0 x1 x2 x3 x4 x5 = k0_pay1 x0 x1 x2 x3 := by
  frame_out
theorem out7_eq (x0 : Vec Ideal S6144x50304 .fp8e5m2) (x1 : Vec Ideal S6144x131 .f32) (x2 : Vec Ideal S6144x2560 .fp8e4m3) (x3 : Vec Ideal S6144x1 .f32) (x4 : Vec Ideal S6144x2560 .i8) (x5 : Vec Ideal S6144x1 .f32) :
    out0_7 x0 x1 x2 x3 x4 x5 = k0_pay2 x4 x5 := by
  frame_out

theorem arr6 : (dats m 0 c).arrAt 6 cfg0.N = k0_pay1 (F := Ideal) (V m c main_v0) (V m c main_v1) (V m c main_v2) (V m c main_v3) := by
  refine (dats m 0 c).arrAt_eq_of_after_last 6 ⟨0, Nat.one_pos⟩ (by unfold Window.WholeAt; decide +kernel) _ (fun j => ?_)
  rw [after0_6, out6_eq, iblk0_eq, iblk1_eq, iblk2_eq, iblk3_eq]
  rfl
theorem arr7 : (dats m 0 c).arrAt 7 cfg0.N = k0_pay2 (F := Ideal) (V m c main_v4) (V m c main_v5) := by
  refine (dats m 0 c).arrAt_eq_of_after_last 7 ⟨0, Nat.one_pos⟩ (by unfold Window.WholeAt; decide +kernel) _ (fun j => ?_)
  rw [after0_7, out7_eq, iblk4_eq, iblk5_eq]
  rfl

/-- The token identifiers. -/
def ids : S6144.Idx → BitVec 32 := shapeCast S6144 (m ((c : Thread nD τ).loc main_arg6)) shapeCasts_S6x1024_S6144

/-- The result in closed form. -/
def G : S50304x2560.Idx → EReal := fun y =>
  Cert.Spec.val (shapeCast S6144x50304 (m ((c : Thread nD τ).loc main_arg0)) shapeCasts_S6x1024x50304_S6144x50304)
    (shapeCast S6144x131 (m ((c : Thread nD τ).loc main_arg1)) shapeCasts_S6x1024x131_S6144x131)
    (shapeCast S6144x2560 (m ((c : Thread nD τ).loc main_arg2)) shapeCasts_S6x1024x2560_S6144x2560)
    (shapeCast S6144x1 (m ((c : Thread nD τ).loc main_arg3)) shapeCasts_S6x1024_S6144x1)
    (shapeCast S6144x2560 (m ((c : Thread nD τ).loc main_arg4)) shapeCasts_S6x1024x2560_S6144x2560)
    (shapeCast S6144x1 (m ((c : Thread nD τ).loc main_arg5)) shapeCasts_S6x1024_S6144x1) (ids m c) (y 0) (y 1)

/-- The sum of the contraction and the scattered rows, entry by entry. -/
theorem sum_point (A0 : Vec Ideal S6144x50304 .fp8e5m2) (A1 : Vec Ideal S6144x131 .f32) (A2 : Vec Ideal S6144x2560 .fp8e4m3) (A3 : Vec Ideal S6144x1 .f32)
    (A4 : Vec Ideal S6144x2560 .i8) (A5 : Vec Ideal S6144x1 .f32) (I : Vec Ideal S6144 .i32) (R : Fin 50304) (d : Fin 2560) :
    (addf (F := Ideal) (s := S50304x2560) (φ := .f32) (k0_pay1 A0 A1 A2 A3) (Host.scatterAdd (F := Ideal) (φ := .f32) scatter_S50304x2560_S6144x1_S6144x2560_1_0_0_1
          (broadcastInDim S50304x2560 ![] bcast_S_S50304x2560 (constant (F := Ideal) S_ .f32 0x00000000#32))
          (broadcastInDim S6144x1 ![0] bcast_S6144_S6144x1_0 I) (k0_pay2 A4 A5)) (ix2 R d) : EReal)
      = Cert.Spec.val A0 A1 A2 A3 A4 A5 I R d := by
  refine congrArg₂ (· + ·) (pay1_apply _ _ _ _ R d) ?_
  refine (scatter_apply _ _ _ R d).trans ?_
  have hz : (broadcastInDim S50304x2560 ![] bcast_S_S50304x2560 (constant (F := Ideal) S_ .f32 0x00000000#32) (ix2 R d) : EReal) = 0 :=
    (Routing.bc0 (s := S50304x2560) bcast_S_S50304x2560 (constant (F := Ideal) S_ .f32 0x00000000#32) (ix2 R d)).trans Ideal.ofBits_zero_f32
  rw [hz, zero_add]
  refine Finset.sum_congr rfl fun t _ => ?_
  rw [pay2_apply]
  have hb : broadcastInDim S6144x1 ![0] bcast_S6144_S6144x1_0 I (ix2 t 0) = I (ix1 t) := Routing.bcCol _ _ _
  rw [hb]

/-- The result as the lines after the call compute it. -/
theorem tail_eq (W : Valuation τ sig (Elt Ideal)) :
    StableHlo.after (List.flatten [hostOps1]) W (Proc.devRef .tc main_v11)
      = addf (F := Ideal) (s := S50304x2560) (φ := .f32) (W (Proc.devRef .tc main_v6_0)) (Host.scatterAdd (F := Ideal) (φ := .f32) scatter_S50304x2560_S6144x1_S6144x2560_1_0_0_1
          (broadcastInDim S50304x2560 ![] bcast_S_S50304x2560 (constant (F := Ideal) S_ .f32 0x00000000#32))
          (broadcastInDim S6144x1 ![0] bcast_S6144_S6144x1_0 (shapeCast S6144 (W (Proc.devRef .tc main_arg6)) shapeCasts_S6x1024_S6144)) (W (Proc.devRef .tc main_v6_1))) := by
  simp only [List.flatten_cons, List.flatten_nil, List.append_nil, List.cons_append, List.nil_append]
  after_reads_simp
  rfl

theorem arrRef_inj : Function.Injective (Pipeline.arrRef spec0) := by decide

theorem tail_G : Pipeline.afterTail₀ cfgs (dats m) 0 (V0 m) [hostOps1] c main_v11 = G m c := by
  unfold Pipeline.afterTail₀
  refine (tail_eq _).trans ?_
  have e6 := Pipeline.withArrays_arr spec0 arrRef_inj c (V0 m c) (fun w => (dats m 0 c).arrAt w cfg0.N) 6
  have e7 := Pipeline.withArrays_arr spec0 arrRef_inj c (V0 m c) (fun w => (dats m 0 c).arrAt w cfg0.N) 7
  have ea := Pipeline.withArrays_of_ne spec0 c (V0 m c) (fun w => (dats m 0 c).arrAt w cfg0.N) main_arg6 (by exact (by decide : ∀ w, Pipeline.arrRef spec0 w ≠ main_arg6))
  have e6' := e6.trans (arr6 m c)
  have e7' := e7.trans (arr7 m c)
  have ea' := ea.trans (V_main_arg6 m c)
  generalize hW : Pipeline.withArrays spec0 c (V0 m c) (fun w => (dats m 0 c).arrAt w cfg0.N) = W at e6' e7' ea'
  have f6 : W (Proc.devRef .tc main_v6_0) = k0_pay1 (F := Ideal) (V m c main_v0) (V m c main_v1) (V m c main_v2) (V m c main_v3) := e6'
  have f7 : W (Proc.devRef .tc main_v6_1) = k0_pay2 (F := Ideal) (V m c main_v4) (V m c main_v5) := e7'
  rw [f6, f7, ea', V_0, V_1, V_2, V_3, V_4, V_5]
  funext y
  have hy : y = ix2 (y 0) (y 1) := ix2_ext rfl rfl
  exact (congrArg _ hy).trans (sum_point _ _ _ _ _ _ _ (y 0) (y 1))

/-- The reference's run in closed form. -/
theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v11) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v11 (Pipeline.mem_restRefs_of main_v11 (by decide) (by decide))).trans (tail_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Whole
public import proofs.«01_k».proof.Proof.KernelIdeal.Whole
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- From equal arguments the two closed forms are the same array. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.G m' c = Cert.KernelIdeal.Hand.G m c := by
  unfold Cert.ReferenceIdeal.Hand.G Cert.ReferenceIdeal.Hand.ids
  rw [h0, h1, h2, h3, h4, h5, h6]
  rfl

/-- Over the extended reals the kernel and the reference compute the same result. -/
theorem algebraic : Cert.algebraic_KernelIdeal_ReferenceIdeal (hKernelIdeal := Cert.KernelIdeal.Gen.facts) (hReferenceIdeal := Cert.ReferenceIdeal.Gen.facts) :=
  fun m g m' g' _ hargs => ⟨fun c => Cert.KernelIdeal.Hand.G m c, Cert.KernelIdeal.Hand.run_value m g,
    (θ_run Cert.ReferenceIdeal.defs _ _).mono (fun _ h c =>
      ⟨(h c).1.trans (value_eq m m' c (hargs c).1 (hargs c).2.1 (hargs c).2.2.1 (hargs c).2.2.2.1 (hargs c).2.2.2.2.1 (hargs c).2.2.2.2.2.1 (hargs c).2.2.2.2.2.2),
        (h c).2⟩) (Cert.ReferenceIdeal.Hand.run_value m' g')⟩

/-- Everything claimed. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial, algebraic⟩

end Cert.Proof

end
